-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Kernel_KernelIdeal : Prop :=
  IdealRules.named_const.Statement Cert.KernelIdeal.κ "s" .f32 0x3E38AA3B#32 ((8⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v13)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v13) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v53) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v30_0)) (v1 : (c : Dev Cert.InProjIdeal.nD) → Buf (Elt Ideal) ((c.tc : Thread Cert.InProjIdeal.nD Cert.InProjIdeal.τ).loc Cert.InProjIdeal.main_v30_1)) (v2 : (c : Dev Cert.InProjIdeal.nD) → Buf (Elt Ideal) ((c.tc : Thread Cert.InProjIdeal.nD Cert.InProjIdeal.τ).loc Cert.InProjIdeal.main_v30_2)) (v3 : (c : Dev Cert.InProjIdeal.nD) → Buf (Elt Ideal) ((c.tc : Thread Cert.InProjIdeal.nD Cert.InProjIdeal.τ).loc Cert.InProjIdeal.main_v30_3)) (v4 : (c : Dev Cert.InProjIdeal.nD) → Buf (Elt Ideal) ((c.tc : Thread Cert.InProjIdeal.nD Cert.InProjIdeal.τ).loc Cert.InProjIdeal.main_v30_4)) (v5 : (c : Dev Cert.InProjIdeal.nD) → Buf (Elt Ideal) ((c.tc : Thread Cert.InProjIdeal.nD Cert.InProjIdeal.τ).loc Cert.InProjIdeal.main_v30_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v30_0) = v0 c
          ∧ r.2.mem ((c.tc : Thread Cert.InProjIdeal.nD Cert.InProjIdeal.τ).loc Cert.InProjIdeal.main_v30_1) = v1 c
          ∧ r.2.mem ((c.tc : Thread Cert.InProjIdeal.nD Cert.InProjIdeal.τ).loc Cert.InProjIdeal.main_v30_2) = v2 c
          ∧ r.2.mem ((c.tc : Thread Cert.InProjIdeal.nD Cert.InProjIdeal.τ).loc Cert.InProjIdeal.main_v30_3) = v3 c
          ∧ r.2.mem ((c.tc : Thread Cert.InProjIdeal.nD Cert.InProjIdeal.τ).loc Cert.InProjIdeal.main_v30_4) = v4 c
          ∧ r.2.mem ((c.tc : Thread Cert.InProjIdeal.nD Cert.InProjIdeal.τ).loc Cert.InProjIdeal.main_v30_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v110) = v0 c
          ∧ r.2.mem ((c.tc : Thread Cert.InProjRefIdeal.nD Cert.InProjRefIdeal.τ).loc Cert.InProjRefIdeal.main_v111) = v1 c
          ∧ r.2.mem ((c.tc : Thread Cert.InProjRefIdeal.nD Cert.InProjRefIdeal.τ).loc Cert.InProjRefIdeal.main_v112) = v2 c
          ∧ r.2.mem ((c.tc : Thread Cert.InProjRefIdeal.nD Cert.InProjRefIdeal.τ).loc Cert.InProjRefIdeal.main_v113) = v3 c
          ∧ r.2.mem ((c.tc : Thread Cert.InProjRefIdeal.nD Cert.InProjRefIdeal.τ).loc Cert.InProjRefIdeal.main_v114) = v4 c
          ∧ r.2.mem ((c.tc : Thread Cert.InProjRefIdeal.nD Cert.InProjRefIdeal.τ).loc Cert.InProjRefIdeal.main_v115) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostRefIdeal : Cert.PostRefIdeal.Facts) (hInProj : Cert.InProj.Facts) (hInProjIdeal : Cert.InProjIdeal.Facts) (hInProjRefIdeal : Cert.InProjRefIdeal.Facts) (hAda : Cert.Ada.Facts) (hAdaIdeal : Cert.AdaIdeal.Facts) (hAdaRefIdeal : Cert.AdaRefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Post (hPost := hPost)
    ∧ quiescent_PostIdeal (hPostIdeal := hPostIdeal)
    ∧ quiescent_PostRefIdeal (hPostRefIdeal := hPostRefIdeal)
    ∧ quiescent_InProj (hInProj := hInProj)
    ∧ quiescent_InProjIdeal (hInProjIdeal := hInProjIdeal)
    ∧ quiescent_InProjRefIdeal (hInProjRefIdeal := hInProjRefIdeal)
    ∧ quiescent_Ada (hAda := hAda)
    ∧ quiescent_AdaIdeal (hAdaIdeal := hAdaIdeal)
    ∧ quiescent_AdaRefIdeal (hAdaRefIdeal := hAdaRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Post_PostIdeal
    ∧ algebraic_PostIdeal_PostRefIdeal (hPostIdeal := hPostIdeal) (hPostRefIdeal := hPostRefIdeal)
    ∧ preserves_InProj_InProjIdeal
    ∧ algebraic_InProjIdeal_InProjRefIdeal (hInProjIdeal := hInProjIdeal) (hInProjRefIdeal := hInProjRefIdeal)
    ∧ preserves_Ada_AdaIdeal
    ∧ algebraic_AdaIdeal_AdaRefIdeal (hAdaIdeal := hAdaIdeal) (hAdaRefIdeal := hAdaRefIdeal)
-- ==== Pre_finite_qk.lean ====
abbrev S8x4096x512 : Shape := ⟨3, ![8, 4096, 512]⟩
abbrev S8x4096x128 : Shape := ⟨3, ![8, 4096, 128]⟩
abbrev S8x4096x640 : Shape := ⟨3, ![8, 4096, 640]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_

variable [Facts]

def fn {F : FTy → Type} [FloatOps F] (main_arg0 : FVec F S8x4096x512 .f32) (main_arg1 : FVec F S8x4096x128 .f32) (main_arg2 : FVec F S8x4096x640 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Kernel.lean ====
abbrev S8x4096x512 : Shape := ⟨3, ![8, 4096, 512]⟩
abbrev S8x4096x128 : Shape := ⟨3, ![8, 4096, 128]⟩
abbrev S8x4096x640 : Shape := ⟨3, ![8, 4096, 640]⟩
abbrev S8x4096x64 : Shape := ⟨3, ![8, 4096, 64]⟩
abbrev S8x16x256x640 : Shape := ⟨4, ![8, 16, 256, 640]⟩
abbrev S8x16x640x256 : Shape := ⟨4, ![8, 16, 640, 256]⟩
abbrev S1x512x512 : Shape := ⟨3, ![1, 512, 512]⟩
abbrev S1x4096x128 : Shape := ⟨3, ![1, 4096, 128]⟩
abbrev S1x16x128x256 : Shape := ⟨4, ![1, 16, 128, 256]⟩
abbrev S8x128x512 : Shape := ⟨3, ![8, 128, 512]⟩
abbrev S8x64x512 : Shape := ⟨3, ![8, 64, 512]⟩
abbrev S8x8x512 : Shape := ⟨3, ![8, 8, 512]⟩
abbrev S64x512 : Shape := ⟨2, ![64, 512]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S1x64x512 : Shape := ⟨3, ![1, 64, 512]⟩
abbrev S1x8x512 : Shape := ⟨3, ![1, 8, 512]⟩
abbrev S8x512 : Shape := ⟨2, ![8, 512]⟩
abbrev S1x256x128 : Shape := ⟨3, ![1, 256, 128]⟩
abbrev S256x128 : Shape := ⟨2, ![256, 128]⟩
abbrev S256x512 : Shape := ⟨2, ![256, 512]⟩
abbrev S32x8x512 : Shape := ⟨3, ![32, 8, 512]⟩
abbrev S1x1x64x256 : Shape := ⟨4, ![1, 1, 64, 256]⟩
abbrev S64x256 : Shape := ⟨2, ![64, 256]⟩
abbrev S512 : Shape := ⟨1, ![512]⟩
abbrev S1x512 : Shape := ⟨2, ![1, 512]⟩

abbrev nBuf : Space → Nat
  | .hbm => 11
  | .vmem => 13
  | .smem => 0
  | _ => 0

abbrev bufTy : (tb : Table) → Fin (tcTables nBuf tb) → BufTy
  | .hbm, ⟨0, _⟩ => ⟨S8x4096x512, .f32⟩
  | .hbm, ⟨1, _⟩ => ⟨S8x4096x128, .f32⟩
  | .hbm, ⟨2, _⟩ => ⟨S8x4096x640, .f32⟩
  | .hbm, ⟨3, _⟩ => ⟨S8x4096x128, .bf16⟩
  | .hbm, ⟨4, _⟩ => ⟨S8x4096x64, .bf16⟩
  | .hbm, ⟨5, _⟩ => ⟨S8x4096x64, .bf16⟩
  | .hbm, ⟨6, _⟩ => ⟨S8x4096x128, .bf16⟩
  | .hbm, ⟨7, _⟩ => ⟨S8x4096x640, .bf16⟩
  | .hbm, ⟨8, _⟩ => ⟨S8x16x256x640, .bf16⟩
  | .hbm, ⟨9, _⟩ => ⟨S8x16x640x256, .bf16⟩
  | .hbm, ⟨10, _⟩ => ⟨S8x4096x512, .bf16⟩
  | .local _ .vmem, ⟨0, _⟩ => ⟨S1x512x512, .f32⟩
  | .local _ .vmem, ⟨1, _⟩ => ⟨S1x512x512, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x16x128x256, .bf16⟩
  | .local _ .vmem, ⟨7, _⟩ => ⟨S1x16x128x256, .bf16⟩
  | .local _ .vmem, ⟨8, _⟩ => ⟨S1x512x512, .bf16⟩
  | .local _ .vmem, ⟨9, _⟩ => ⟨S1x512x512, .bf16⟩
  | .local _ .vmem, ⟨10, _⟩ => ⟨S8x128x512, .bf16⟩
  | .local _ .vmem, ⟨11, _⟩ => ⟨S8x64x512, .f32⟩
  | .local _ .vmem, ⟨12, _⟩ => ⟨S8x8x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 : BitVec 32 :=
  let c16_i32 : BitVec 32 := 16#32
  let c0_i32 : BitVec 32 := 0#32
  let v105 : BitVec 32 := Scalar.muli c16_i32 c0_i32
  let c0_i32_85 : BitVec 32 := 0#32
  let v106 : BitVec 32 := Scalar.addi v105 c0_i32_85
  let c256_i32 : BitVec 32 := 256#32
  let v361 : BitVec 32 := Scalar.muli v106 c256_i32
  v361
def k0_off1 (c0_i32_85 : BitVec 32) : Fin 3 → Nat :=
  let c0_325 : Index := 0#32
  let c16_i32 : BitVec 32 := 16#32
  let c0_i32 : BitVec 32 := 0#32
  let v105 : BitVec 32 := Scalar.muli c16_i32 c0_i32
  let v106 : BitVec 32 := Scalar.addi v105 c0_i32_85
  let c256_i32 : BitVec 32 := 256#32
  let v361 : BitVec 32 := Scalar.muli v106 c256_i32
  let v362 : BitVec 32 := v361
  let v363 : Index := Scalar.indexCast v362
  let c0_326 : Index := 0#32
  ![0, v363.toNat, 0]
def k0_mult2 : BitVec 32 :=
  let c16_i32_86 : BitVec 32 := 16#32
  let c0_i32 : BitVec 32 := 0#32
  let v107 : BitVec 32 := Scalar.muli c16_i32_86 c0_i32
  let c0_i32_87 : BitVec 32 := 0#32
  let v108 : BitVec 32 := Scalar.addi v107 c0_i32_87
  let c256_i32_331 : BitVec 32 := 256#32
  let v369 : BitVec 32 := Scalar.muli v108 c256_i32_331
  v369
def k0_mult3 : BitVec 32 :=
  let c16_i32_88 : BitVec 32 := 16#32
  let c0_i32 : BitVec 32 := 0#32
  let v109 : BitVec 32 := Scalar.muli c16_i32_88 c0_i32
  let c0_i32_89 : BitVec 32 := 0#32
  let v110 : BitVec 32 := Scalar.addi v109 c0_i32_89
  let c256_i32_338 : BitVec 32 := 256#32
  let v377 : BitVec 32 := Scalar.muli v110 c256_i32_338
  v377
def k0_mult4 : BitVec 32 :=
  let c16_i32_90 : BitVec 32 := 16#32
  let c0_i32 : BitVec 32 := 0#32
  let v111 : BitVec 32 := Scalar.muli c16_i32_90 c0_i32
  let c0_i32_91 : BitVec 32 := 0#32
  let v112 : BitVec 32 := Scalar.addi v111 c0_i32_91
  let c256_i32_345 : BitVec 32 := 256#32
  let v385 : BitVec 32 := Scalar.muli v112 c256_i32_345
  v385
def k0_mult5 : BitVec 32 :=
  let c16_i32_92 : BitVec 32 := 16#32
  let c0_i32 : BitVec 32 := 0#32
  let v113 : BitVec 32 := Scalar.muli c16_i32_92 c0_i32
  let c0_i32_93 : BitVec 32 := 0#32
  let v114 : BitVec 32 := Scalar.addi v113 c0_i32_93
  let c256_i32_352 : BitVec 32 := 256#32
  let v393 : BitVec 32 := Scalar.muli v114 c256_i32_352
  v393
def k0_off2 (c0_i32_85 : BitVec 32) : Fin 4 → Nat :=
  let c0_360 : Index := 0#32
  let c16_i32 : BitVec 32 := 16#32
  let c0_i32 : BitVec 32 := 0#32
  let v105 : BitVec 32 := Scalar.muli c16_i32 c0_i32
  let v106 : BitVec 32 := Scalar.addi v105 c0_i32_85
  let v405 : Index := Scalar.indexCast v106
  let c0_361 : Index := 0#32
  let c0_362 : Index := 0#32
  ![0, v405.toNat, 0, 0]
def k0_mult6 : BitVec 32 :=
  let c16_i32_94 : BitVec 32 := 16#32
  let c0_i32 : BitVec 32 := 0#32
  let v115 : BitVec 32 := Scalar.muli c16_i32_94 c0_i32
  let c0_i32_95 : BitVec 32 := 0#32
  let v116 : BitVec 32 := Scalar.addi v115 c0_i32_95
  let c256_i32_364 : BitVec 32 := 256#32
  let v411 : BitVec 32 := Scalar.muli v116 c256_i32_364
  v411
def k0_mult7 : BitVec 32 :=
  let c16_i32_96 : BitVec 32 := 16#32
  let c0_i32 : BitVec 32 := 0#32
  let v117 : BitVec 32 := Scalar.muli c16_i32_96 c0_i32
  let c0_i32_97 : BitVec 32 := 0#32
  let v118 : BitVec 32 := Scalar.addi v117 c0_i32_97
  let c256_i32_376 : BitVec 32 := 256#32
  let v429 : BitVec 32 := Scalar.muli v118 c256_i32_376
  v429
def k0_mult8 : BitVec 32 :=
  let c16_i32_98 : BitVec 32 := 16#32
  let c0_i32 : BitVec 32 := 0#32
  let v119 : BitVec 32 := Scalar.muli c16_i32_98 c0_i32
  let c0_i32_99 : BitVec 32 := 0#32
  let v120 : BitVec 32 := Scalar.addi v119 c0_i32_99
  let c256_i32_388 : BitVec 32 := 256#32
  let v447 : BitVec 32 := Scalar.muli v120 c256_i32_388
  v447
def k0_mult9 : BitVec 32 :=
  let c16_i32_100 : BitVec 32 := 16#32
  let c0_i32 : BitVec 32 := 0#32
  let v121 : BitVec 32 := Scalar.muli c16_i32_100 c0_i32
  let c1_i32 : BitVec 32 := 1#32
  let v122 : BitVec 32 := Scalar.addi v121 c1_i32
  let c256_i32_400 : BitVec 32 := 256#32
  let v465 : BitVec 32 := Scalar.muli v122 c256_i32_400
  v465
def k0_off3 (c0_i32_93 : BitVec 32) : Fin 4 → Nat :=
  let c0_408 : Index := 0#32
  let c16_i32_92 : BitVec 32 := 16#32
  let c0_i32 : BitVec 32 := 0#32
  let v113 : BitVec 32 := Scalar.muli c16_i32_92 c0_i32
  let v114 : BitVec 32 := Scalar.addi v113 c0_i32_93
  let v477 : Index := Scalar.indexCast v114
  let c64 : Index := 64#32
  let c0_409 : Index := 0#32
  ![0, v477.toNat, 64, 0]
def k0_mult10 : BitVec 32 :=
  let c16_i32_101 : BitVec 32 := 16#32
  let c0_i32 : BitVec 32 := 0#32
  let v123 : BitVec 32 := Scalar.muli c16_i32_101 c0_i32
  let c1_i32_102 : BitVec 32 := 1#32
  let v124 : BitVec 32 := Scalar.addi v123 c1_i32_102
  let c256_i32_411 : BitVec 32 := 256#32
  let v483 : BitVec 32 := Scalar.muli v124 c256_i32_411
  v483
def k0_mult11 : BitVec 32 :=
  let c16_i32_103 : BitVec 32 := 16#32
  let c0_i32 : BitVec 32 := 0#32
  let v125 : BitVec 32 := Scalar.muli c16_i32_103 c0_i32
  let c1_i32_104 : BitVec 32 := 1#32
  let v126 : BitVec 32 := Scalar.addi v125 c1_i32_104
  let c256_i32_423 : BitVec 32 := 256#32
  let v501 : BitVec 32 := Scalar.muli v126 c256_i32_423
  v501
def k0_mult12 : BitVec 32 :=
  let c16_i32_105 : BitVec 32 := 16#32
  let c0_i32 : BitVec 32 := 0#32
  let v127 : BitVec 32 := Scalar.muli c16_i32_105 c0_i32
  let c1_i32_106 : BitVec 32 := 1#32
  let v128 : BitVec 32 := Scalar.addi v127 c1_i32_106
  let c256_i32_435 : BitVec 32 := 256#32
  let v519 : BitVec 32 := Scalar.muli v128 c256_i32_435
  v519
def k0_mult13 : BitVec 32 :=
  let c16_i32_107 : BitVec 32 := 16#32
  let c0_i32 : BitVec 32 := 0#32
  let v129 : BitVec 32 := Scalar.muli c16_i32_107 c0_i32
  let c1_i32_108 : BitVec 32 := 1#32
  let v130 : BitVec 32 := Scalar.addi v129 c1_i32_108
  let c256_i32_447 : BitVec 32 := 256#32
  let v537 : BitVec 32 := Scalar.muli v130 c256_i32_447
  v537
def k0_mult14 : BitVec 32 :=
  let c16_i32_109 : BitVec 32 := 16#32
  let c0_i32 : BitVec 32 := 0#32
  let v131 : BitVec 32 := Scalar.muli c16_i32_109 c0_i32
  let c1_i32_110 : BitVec 32 := 1#32
  let v132 : BitVec 32 := Scalar.addi v131 c1_i32_110
  let c256_i32_459 : BitVec 32 := 256#32
  let v555 : BitVec 32 := Scalar.muli v132 c256_i32_459
  v555
def k0_mult15 : BitVec 32 :=
  let c16_i32_111 : BitVec 32 := 16#32
  let c0_i32 : BitVec 32 := 0#32
  let v133 : BitVec 32 := Scalar.muli c16_i32_111 c0_i32
  let c1_i32_112 : BitVec 32 := 1#32
  let v134 : BitVec 32 := Scalar.addi v133 c1_i32_112
  let c256_i32_471 : BitVec 32 := 256#32
  let v573 : BitVec 32 := Scalar.muli v134 c256_i32_471
  v573
def k0_mult16 : BitVec 32 :=
  let c16_i32_113 : BitVec 32 := 16#32
  let c0_i32 : BitVec 32 := 0#32
  let v135 : BitVec 32 := Scalar.muli c16_i32_113 c0_i32
  let c1_i32_114 : BitVec 32 := 1#32
  let v136 : BitVec 32 := Scalar.addi v135 c1_i32_114
  let c256_i32_483 : BitVec 32 := 256#32
  let v591 : BitVec 32 := Scalar.muli v136 c256_i32_483
  v591
def k0_mult17 : BitVec 32 :=
  let c16_i32_115 : BitVec 32 := 16#32
  let c0_i32 : BitVec 32 := 0#32
  let v137 : BitVec 32 := Scalar.muli c16_i32_115 c0_i32
  let c2_i32 : BitVec 32 := 2#32
  let v138 : BitVec 32 := Scalar.addi v137 c2_i32
  let c256_i32_495 : BitVec 32 := 256#32
  let v609 : BitVec 32 := Scalar.muli v138 c256_i32_495
  v609
def k0_mult18 : BitVec 32 :=
  let c16_i32_116 : BitVec 32 := 16#32
  let c0_i32 : BitVec 32 := 0#32
  let v139 : BitVec 32 := Scalar.muli c16_i32_116 c0_i32
  let c2_i32_117 : BitVec 32 := 2#32
  let v140 : BitVec 32 := Scalar.addi v139 c2_i32_117
  let c256_i32_507 : BitVec 32 := 256#32
  let v627 : BitVec 32 := Scalar.muli v140 c256_i32_507
  v627
def k0_mult19 : BitVec 32 :=
  let c16_i32_118 : BitVec 32 := 16#32
  let c0_i32 : BitVec 32 := 0#32
  let v141 : BitVec 32 := Scalar.muli c16_i32_118 c0_i32
  let c2_i32_119 : BitVec 32 := 2#32
  let v142 : BitVec 32 := Scalar.addi v141 c2_i32_119
  let c256_i32_519 : BitVec 32 := 256#32
  let v645 : BitVec 32 := Scalar.muli v142 c256_i32_519
  v645
def k0_mult20 : BitVec 32 :=
  let c16_i32_120 : BitVec 32 := 16#32
  let c0_i32 : BitVec 32 := 0#32
  let v143 : BitVec 32 := Scalar.muli c16_i32_120 c0_i32
  let c2_i32_121 : BitVec 32 := 2#32
  let v144 : BitVec 32 := Scalar.addi v143 c2_i32_121
  let c256_i32_531 : BitVec 32 := 256#32
  let v663 : BitVec 32 := Scalar.muli v144 c256_i32_531
  v663
def k0_mult21 : BitVec 32 :=
  let c16_i32_122 : BitVec 32 := 16#32
  let c0_i32 : BitVec 32 := 0#32
  let v145 : BitVec 32 := Scalar.muli c16_i32_122 c0_i32
  let c2_i32_123 : BitVec 32 := 2#32
  let v146 : BitVec 32 := Scalar.addi v145 c2_i32_123
  let c256_i32_543 : BitVec 32 := 256#32
  let v681 : BitVec 32 := Scalar.muli v146 c256_i32_543
  v681
def k0_mult22 : BitVec 32 :=
  let c16_i32_124 : BitVec 32 := 16#32
  let c0_i32 : BitVec 32 := 0#32
  let v147 : BitVec 32 := Scalar.muli c16_i32_124 c0_i32
  let c2_i32_125 : BitVec 32 := 2#32
  let v148 : BitVec 32 := Scalar.addi v147 c2_i32_125
  let c256_i32_555 : BitVec 32 := 256#32
  let v699 : BitVec 32 := Scalar.muli v148 c256_i32_555
  v699
def k0_mult23 : BitVec 32 :=
  let c16_i32_126 : BitVec 32 := 16#32
  let c0_i32 : BitVec 32 := 0#32
  let v149 : BitVec 32 := Scalar.muli c16_i32_126 c0_i32
  let c2_i32_127 : BitVec 32 := 2#32
  let v150 : BitVec 32 := Scalar.addi v149 c2_i32_127
  let c256_i32_567 : BitVec 32 := 256#32
  let v717 : BitVec 32 := Scalar.muli v150 c256_i32_567
  v717
def k0_mult24 : BitVec 32 :=
  let c16_i32_128 : BitVec 32 := 16#32
  let c0_i32 : BitVec 32 := 0#32
  let v151 : BitVec 32 := Scalar.muli c16_i32_128 c0_i32
  let c2_i32_129 : BitVec 32 := 2#32
  let v152 : BitVec 32 := Scalar.addi v151 c2_i32_129
  let c256_i32_579 : BitVec 32 := 256#32
  let v735 : BitVec 32 := Scalar.muli v152 c256_i32_579
  v735
def k0_mult25 : BitVec 32 :=
  let c16_i32_130 : BitVec 32 := 16#32
  let c0_i32 : BitVec 32 := 0#32
  let v153 : BitVec 32 := Scalar.muli c16_i32_130 c0_i32
  let c3_i32 : BitVec 32 := 3#32
  let v154 : BitVec 32 := Scalar.addi v153 c3_i32
  let c256_i32_591 : BitVec 32 := 256#32
  let v753 : BitVec 32 := Scalar.muli v154 c256_i32_591
  v753
def k0_mult26 : BitVec 32 :=
  let c16_i32_131 : BitVec 32 := 16#32
  let c0_i32 : BitVec 32 := 0#32
  let v155 : BitVec 32 := Scalar.muli c16_i32_131 c0_i32
  let c3_i32_132 : BitVec 32 := 3#32
  let v156 : BitVec 32 := Scalar.addi v155 c3_i32_132
  let c256_i32_603 : BitVec 32 := 256#32
  let v771 : BitVec 32 := Scalar.muli v156 c256_i32_603
  v771
def k0_mult27 : BitVec 32 :=
  let c16_i32_133 : BitVec 32 := 16#32
  let c0_i32 : BitVec 32 := 0#32
  let v157 : BitVec 32 := Scalar.muli c16_i32_133 c0_i32
  let c3_i32_134 : BitVec 32 := 3#32
  let v158 : BitVec 32 := Scalar.addi v157 c3_i32_134
  let c256_i32_615 : BitVec 32 := 256#32
  let v789 : BitVec 32 := Scalar.muli v158 c256_i32_615
  v789
def k0_mult28 : BitVec 32 :=
  let c16_i32_135 : BitVec 32 := 16#32
  let c0_i32 : BitVec 32 := 0#32
  let v159 : BitVec 32 := Scalar.muli c16_i32_135 c0_i32
  let c3_i32_136 : BitVec 32 := 3#32
  let v160 : BitVec 32 := Scalar.addi v159 c3_i32_136
  let c256_i32_627 : BitVec 32 := 256#32
  let v807 : BitVec 32 := Scalar.muli v160 c256_i32_627
  v807
def k0_mult29 : BitVec 32 :=
  let c16_i32_137 : BitVec 32 := 16#32
  let c0_i32 : BitVec 32 := 0#32
  let v161 : BitVec 32 := Scalar.muli c16_i32_137 c0_i32
  let c3_i32_138 : BitVec 32 := 3#32
  let v162 : BitVec 32 := Scalar.addi v161 c3_i32_138
  let c256_i32_639 : BitVec 32 := 256#32
  let v825 : BitVec 32 := Scalar.muli v162 c256_i32_639
  v825
def k0_mult30 : BitVec 32 :=
  let c16_i32_139 : BitVec 32 := 16#32
  let c0_i32 : BitVec 32 := 0#32
  let v163 : BitVec 32 := Scalar.muli c16_i32_139 c0_i32
  let c3_i32_140 : BitVec 32 := 3#32
  let v164 : BitVec 32 := Scalar.addi v163 c3_i32_140
  let c256_i32_651 : BitVec 32 := 256#32
  let v843 : BitVec 32 := Scalar.muli v164 c256_i32_651
  v843
def k0_mult31 : BitVec 32 :=
  let c16_i32_141 : BitVec 32 := 16#32
  let c0_i32 : BitVec 32 := 0#32
  let v165 : BitVec 32 := Scalar.muli c16_i32_141 c0_i32
  let c3_i32_142 : BitVec 32 := 3#32
  let v166 : BitVec 32 := Scalar.addi v165 c3_i32_142
  let c256_i32_663 : BitVec 32 := 256#32
  let v861 : BitVec 32 := Scalar.muli v166 c256_i32_663
  v861
def k0_mult32 : BitVec 32 :=
  let c16_i32_143 : BitVec 32 := 16#32
  let c0_i32 : BitVec 32 := 0#32
  let v167 : BitVec 32 := Scalar.muli c16_i32_143 c0_i32
  let c3_i32_144 : BitVec 32 := 3#32
  let v168 : BitVec 32 := Scalar.addi v167 c3_i32_144
  let c256_i32_675 : BitVec 32 := 256#32
  let v879 : BitVec 32 := Scalar.muli v168 c256_i32_675
  v879
def k0_mult33 : BitVec 32 :=
  let c16_i32_145 : BitVec 32 := 16#32
  let c0_i32 : BitVec 32 := 0#32
  let v169 : BitVec 32 := Scalar.muli c16_i32_145 c0_i32
  let c4_i32 : BitVec 32 := 4#32
  let v170 : BitVec 32 := Scalar.addi v169 c4_i32
  let c256_i32_687 : BitVec 32 := 256#32
  let v897 : BitVec 32 := Scalar.muli v170 c256_i32_687
  v897
def k0_mult34 : BitVec 32 :=
  let c16_i32_146 : BitVec 32 := 16#32
  let c0_i32 : BitVec 32 := 0#32
  let v171 : BitVec 32 := Scalar.muli c16_i32_146 c0_i32
  let c4_i32_147 : BitVec 32 := 4#32
  let v172 : BitVec 32 := Scalar.addi v171 c4_i32_147
  let c256_i32_699 : BitVec 32 := 256#32
  let v915 : BitVec 32 := Scalar.muli v172 c256_i32_699
  v915
def k0_mult35 : BitVec 32 :=
  let c16_i32_148 : BitVec 32 := 16#32
  let c0_i32 : BitVec 32 := 0#32
  let v173 : BitVec 32 := Scalar.muli c16_i32_148 c0_i32
  let c4_i32_149 : BitVec 32 := 4#32
  let v174 : BitVec 32 := Scalar.addi v173 c4_i32_149
  let c256_i32_711 : BitVec 32 := 256#32
  let v933 : BitVec 32 := Scalar.muli v174 c256_i32_711
  v933
def k0_mult36 : BitVec 32 :=
  let c16_i32_150 : BitVec 32 := 16#32
  let c0_i32 : BitVec 32 := 0#32
  let v175 : BitVec 32 := Scalar.muli c16_i32_150 c0_i32
  let c4_i32_151 : BitVec 32 := 4#32
  let v176 : BitVec 32 := Scalar.addi v175 c4_i32_151
  let c256_i32_723 : BitVec 32 := 256#32
  let v951 : BitVec 32 := Scalar.muli v176 c256_i32_723
  v951
def k0_mult37 : BitVec 32 :=
  let c16_i32_152 : BitVec 32 := 16#32
  let c0_i32 : BitVec 32 := 0#32
  let v177 : BitVec 32 := Scalar.muli c16_i32_152 c0_i32
  let c4_i32_153 : BitVec 32 := 4#32
  let v178 : BitVec 32 := Scalar.addi v177 c4_i32_153
  let c256_i32_735 : BitVec 32 := 256#32
  let v969 : BitVec 32 := Scalar.muli v178 c256_i32_735
  v969
def k0_mult38 : BitVec 32 :=
  let c16_i32_154 : BitVec 32 := 16#32
  let c0_i32 : BitVec 32 := 0#32
  let v179 : BitVec 32 := Scalar.muli c16_i32_154 c0_i32
  let c4_i32_155 : BitVec 32 := 4#32
  let v180 : BitVec 32 := Scalar.addi v179 c4_i32_155
  let c256_i32_747 : BitVec 32 := 256#32
  let v987 : BitVec 32 := Scalar.muli v180 c256_i32_747
  v987
def k0_mult39 : BitVec 32 :=
  let c16_i32_156 : BitVec 32 := 16#32
  let c0_i32 : BitVec 32 := 0#32
  let v181 : BitVec 32 := Scalar.muli c16_i32_156 c0_i32
  let c4_i32_157 : BitVec 32 := 4#32
  let v182 : BitVec 32 := Scalar.addi v181 c4_i32_157
  let c256_i32_759 : BitVec 32 := 256#32
  let v1005 : BitVec 32 := Scalar.muli v182 c256_i32_759
  v1005
def k0_mult40 : BitVec 32 :=
  let c16_i32_158 : BitVec 32 := 16#32
  let c0_i32 : BitVec 32 := 0#32
  let v183 : BitVec 32 := Scalar.muli c16_i32_158 c0_i32
  let c4_i32_159 : BitVec 32 := 4#32
  let v184 : BitVec 32 := Scalar.addi v183 c4_i32_159
  let c256_i32_771 : BitVec 32 := 256#32
  let v1023 : BitVec 32 := Scalar.muli v184 c256_i32_771
  v1023
def k0_mult41 : BitVec 32 :=
  let c16_i32_160 : BitVec 32 := 16#32
  let c0_i32 : BitVec 32 := 0#32
  let v185 : BitVec 32 := Scalar.muli c16_i32_160 c0_i32
  let c5_i32 : BitVec 32 := 5#32
  let v186 : BitVec 32 := Scalar.addi v185 c5_i32
  let c256_i32_783 : BitVec 32 := 256#32
  let v1041 : BitVec 32 := Scalar.muli v186 c256_i32_783
  v1041
def k0_mult42 : BitVec 32 :=
  let c16_i32_161 : BitVec 32 := 16#32
  let c0_i32 : BitVec 32 := 0#32
  let v187 : BitVec 32 := Scalar.muli c16_i32_161 c0_i32
  let c5_i32_162 : BitVec 32 := 5#32
  let v188 : BitVec 32 := Scalar.addi v187 c5_i32_162
  let c256_i32_795 : BitVec 32 := 256#32
  let v1059 : BitVec 32 := Scalar.muli v188 c256_i32_795
  v1059
def k0_mult43 : BitVec 32 :=
  let c16_i32_163 : BitVec 32 := 16#32
  let c0_i32 : BitVec 32 := 0#32
  let v189 : BitVec 32 := Scalar.muli c16_i32_163 c0_i32
  let c5_i32_164 : BitVec 32 := 5#32
  let v190 : BitVec 32 := Scalar.addi v189 c5_i32_164
  let c256_i32_807 : BitVec 32 := 256#32
  let v1077 : BitVec 32 := Scalar.muli v190 c256_i32_807
  v1077
def k0_mult44 : BitVec 32 :=
  let c16_i32_165 : BitVec 32 := 16#32
  let c0_i32 : BitVec 32 := 0#32
  let v191 : BitVec 32 := Scalar.muli c16_i32_165 c0_i32
  let c5_i32_166 : BitVec 32 := 5#32
  let v192 : BitVec 32 := Scalar.addi v191 c5_i32_166
  let c256_i32_819 : BitVec 32 := 256#32
  let v1095 : BitVec 32 := Scalar.muli v192 c256_i32_819
  v1095
def k0_mult45 : BitVec 32 :=
  let c16_i32_167 : BitVec 32 := 16#32
  let c0_i32 : BitVec 32 := 0#32
  let v193 : BitVec 32 := Scalar.muli c16_i32_167 c0_i32
  let c5_i32_168 : BitVec 32 := 5#32
  let v194 : BitVec 32 := Scalar.addi v193 c5_i32_168
  let c256_i32_831 : BitVec 32 := 256#32
  let v1113 : BitVec 32 := Scalar.muli v194 c256_i32_831
  v1113
def k0_mult46 : BitVec 32 :=
  let c16_i32_169 : BitVec 32 := 16#32
  let c0_i32 : BitVec 32 := 0#32
  let v195 : BitVec 32 := Scalar.muli c16_i32_169 c0_i32
  let c5_i32_170 : BitVec 32 := 5#32
  let v196 : BitVec 32 := Scalar.addi v195 c5_i32_170
  let c256_i32_843 : BitVec 32 := 256#32
  let v1131 : BitVec 32 := Scalar.muli v196 c256_i32_843
  v1131
def k0_mult47 : BitVec 32 :=
  let c16_i32_171 : BitVec 32 := 16#32
  let c0_i32 : BitVec 32 := 0#32
  let v197 : BitVec 32 := Scalar.muli c16_i32_171 c0_i32
  let c5_i32_172 : BitVec 32 := 5#32
  let v198 : BitVec 32 := Scalar.addi v197 c5_i32_172
  let c256_i32_855 : BitVec 32 := 256#32
  let v1149 : BitVec 32 := Scalar.muli v198 c256_i32_855
  v1149
def k0_mult48 : BitVec 32 :=
  let c16_i32_173 : BitVec 32 := 16#32
  let c0_i32 : BitVec 32 := 0#32
  let v199 : BitVec 32 := Scalar.muli c16_i32_173 c0_i32
  let c5_i32_174 : BitVec 32 := 5#32
  let v200 : BitVec 32 := Scalar.addi v199 c5_i32_174
  let c256_i32_867 : BitVec 32 := 256#32
  let v1167 : BitVec 32 := Scalar.muli v200 c256_i32_867
  v1167
def k0_mult49 : BitVec 32 :=
  let c16_i32_175 : BitVec 32 := 16#32
  let c0_i32 : BitVec 32 := 0#32
  let v201 : BitVec 32 := Scalar.muli c16_i32_175 c0_i32
  let c6_i32 : BitVec 32 := 6#32
  let v202 : BitVec 32 := Scalar.addi v201 c6_i32
  let c256_i32_879 : BitVec 32 := 256#32
  let v1185 : BitVec 32 := Scalar.muli v202 c256_i32_879
  v1185
def k0_mult50 : BitVec 32 :=
  let c16_i32_176 : BitVec 32 := 16#32
  let c0_i32 : BitVec 32 := 0#32
  let v203 : BitVec 32 := Scalar.muli c16_i32_176 c0_i32
  let c6_i32_177 : BitVec 32 := 6#32
  let v204 : BitVec 32 := Scalar.addi v203 c6_i32_177
  let c256_i32_891 : BitVec 32 := 256#32
  let v1203 : BitVec 32 := Scalar.muli v204 c256_i32_891
  v1203
def k0_mult51 : BitVec 32 :=
  let c16_i32_178 : BitVec 32 := 16#32
  let c0_i32 : BitVec 32 := 0#32
  let v205 : BitVec 32 := Scalar.muli c16_i32_178 c0_i32
  let c6_i32_179 : BitVec 32 := 6#32
  let v206 : BitVec 32 := Scalar.addi v205 c6_i32_179
  let c256_i32_903 : BitVec 32 := 256#32
  let v1221 : BitVec 32 := Scalar.muli v206 c256_i32_903
  v1221
def k0_mult52 : BitVec 32 :=
  let c16_i32_180 : BitVec 32 := 16#32
  let c0_i32 : BitVec 32 := 0#32
  let v207 : BitVec 32 := Scalar.muli c16_i32_180 c0_i32
  let c6_i32_181 : BitVec 32 := 6#32
  let v208 : BitVec 32 := Scalar.addi v207 c6_i32_181
  let c256_i32_915 : BitVec 32 := 256#32
  let v1239 : BitVec 32 := Scalar.muli v208 c256_i32_915
  v1239
def k0_mult53 : BitVec 32 :=
  let c16_i32_182 : BitVec 32 := 16#32
  let c0_i32 : BitVec 32 := 0#32
  let v209 : BitVec 32 := Scalar.muli c16_i32_182 c0_i32
  let c6_i32_183 : BitVec 32 := 6#32
  let v210 : BitVec 32 := Scalar.addi v209 c6_i32_183
  let c256_i32_927 : BitVec 32 := 256#32
  let v1257 : BitVec 32 := Scalar.muli v210 c256_i32_927
  v1257
def k0_mult54 : BitVec 32 :=
  let c16_i32_184 : BitVec 32 := 16#32
  let c0_i32 : BitVec 32 := 0#32
  let v211 : BitVec 32 := Scalar.muli c16_i32_184 c0_i32
  let c6_i32_185 : BitVec 32 := 6#32
  let v212 : BitVec 32 := Scalar.addi v211 c6_i32_185
  let c256_i32_939 : BitVec 32 := 256#32
  let v1275 : BitVec 32 := Scalar.muli v212 c256_i32_939
  v1275
def k0_mult55 : BitVec 32 :=
  let c16_i32_186 : BitVec 32 := 16#32
  let c0_i32 : BitVec 32 := 0#32
  let v213 : BitVec 32 := Scalar.muli c16_i32_186 c0_i32
  let c6_i32_187 : BitVec 32 := 6#32
  let v214 : BitVec 32 := Scalar.addi v213 c6_i32_187
  let c256_i32_951 : BitVec 32 := 256#32
  let v1293 : BitVec 32 := Scalar.muli v214 c256_i32_951
  v1293
def k0_mult56 : BitVec 32 :=
  let c16_i32_188 : BitVec 32 := 16#32
  let c0_i32 : BitVec 32 := 0#32
  let v215 : BitVec 32 := Scalar.muli c16_i32_188 c0_i32
  let c6_i32_189 : BitVec 32 := 6#32
  let v216 : BitVec 32 := Scalar.addi v215 c6_i32_189
  let c256_i32_963 : BitVec 32 := 256#32
  let v1311 : BitVec 32 := Scalar.muli v216 c256_i32_963
  v1311
def k0_mult57 : BitVec 32 :=
  let c16_i32_190 : BitVec 32 := 16#32
  let c0_i32 : BitVec 32 := 0#32
  let v217 : BitVec 32 := Scalar.muli c16_i32_190 c0_i32
  let c7_i32 : BitVec 32 := 7#32
  let v218 : BitVec 32 := Scalar.addi v217 c7_i32
  let c256_i32_975 : BitVec 32 := 256#32
  let v1329 : BitVec 32 := Scalar.muli v218 c256_i32_975
  v1329
def k0_mult58 : BitVec 32 :=
  let c16_i32_191 : BitVec 32 := 16#32
  let c0_i32 : BitVec 32 := 0#32
  let v219 : BitVec 32 := Scalar.muli c16_i32_191 c0_i32
  let c7_i32_192 : BitVec 32 := 7#32
  let v220 : BitVec 32 := Scalar.addi v219 c7_i32_192
  let c256_i32_987 : BitVec 32 := 256#32
  let v1347 : BitVec 32 := Scalar.muli v220 c256_i32_987
  v1347
def k0_mult59 : BitVec 32 :=
  let c16_i32_193 : BitVec 32 := 16#32
  let c0_i32 : BitVec 32 := 0#32
  let v221 : BitVec 32 := Scalar.muli c16_i32_193 c0_i32
  let c7_i32_194 : BitVec 32 := 7#32
  let v222 : BitVec 32 := Scalar.addi v221 c7_i32_194
  let c256_i32_999 : BitVec 32 := 256#32
  let v1365 : BitVec 32 := Scalar.muli v222 c256_i32_999
  v1365
def k0_mult60 : BitVec 32 :=
  let c16_i32_195 : BitVec 32 := 16#32
  let c0_i32 : BitVec 32 := 0#32
  let v223 : BitVec 32 := Scalar.muli c16_i32_195 c0_i32
  let c7_i32_196 : BitVec 32 := 7#32
  let v224 : BitVec 32 := Scalar.addi v223 c7_i32_196
  let c256_i32_1011 : BitVec 32 := 256#32
  let v1383 : BitVec 32 := Scalar.muli v224 c256_i32_1011
  v1383
def k0_mult61 : BitVec 32 :=
  let c16_i32_197 : BitVec 32 := 16#32
  let c0_i32 : BitVec 32 := 0#32
  let v225 : BitVec 32 := Scalar.muli c16_i32_197 c0_i32
  let c7_i32_198 : BitVec 32 := 7#32
  let v226 : BitVec 32 := Scalar.addi v225 c7_i32_198
  let c256_i32_1023 : BitVec 32 := 256#32
  let v1401 : BitVec 32 := Scalar.muli v226 c256_i32_1023
  v1401
def k0_mult62 : BitVec 32 :=
  let c16_i32_199 : BitVec 32 := 16#32
  let c0_i32 : BitVec 32 := 0#32
  let v227 : BitVec 32 := Scalar.muli c16_i32_199 c0_i32
  let c7_i32_200 : BitVec 32 := 7#32
  let v228 : BitVec 32 := Scalar.addi v227 c7_i32_200
  let c256_i32_1035 : BitVec 32 := 256#32
  let v1419 : BitVec 32 := Scalar.muli v228 c256_i32_1035
  v1419
def k0_mult63 : BitVec 32 :=
  let c16_i32_201 : BitVec 32 := 16#32
  let c0_i32 : BitVec 32 := 0#32
  let v229 : BitVec 32 := Scalar.muli c16_i32_201 c0_i32
  let c7_i32_202 : BitVec 32 := 7#32
  let v230 : BitVec 32 := Scalar.addi v229 c7_i32_202
  let c256_i32_1047 : BitVec 32 := 256#32
  let v1437 : BitVec 32 := Scalar.muli v230 c256_i32_1047
  v1437
def k0_mult64 : BitVec 32 :=
  let c16_i32_203 : BitVec 32 := 16#32
  let c0_i32 : BitVec 32 := 0#32
  let v231 : BitVec 32 := Scalar.muli c16_i32_203 c0_i32
  let c7_i32_204 : BitVec 32 := 7#32
  let v232 : BitVec 32 := Scalar.addi v231 c7_i32_204
  let c256_i32_1059 : BitVec 32 := 256#32
  let v1455 : BitVec 32 := Scalar.muli v232 c256_i32_1059
  v1455
def k0_mult65 : BitVec 32 :=
  let c16_i32_205 : BitVec 32 := 16#32
  let c0_i32 : BitVec 32 := 0#32
  let v233 : BitVec 32 := Scalar.muli c16_i32_205 c0_i32
  let c8_i32 : BitVec 32 := 8#32
  let v234 : BitVec 32 := Scalar.addi v233 c8_i32
  let c256_i32_1071 : BitVec 32 := 256#32
  let v1473 : BitVec 32 := Scalar.muli v234 c256_i32_1071
  v1473
def k0_mult66 : BitVec 32 :=
  let c16_i32_206 : BitVec 32 := 16#32
  let c0_i32 : BitVec 32 := 0#32
  let v235 : BitVec 32 := Scalar.muli c16_i32_206 c0_i32
  let c8_i32_207 : BitVec 32 := 8#32
  let v236 : BitVec 32 := Scalar.addi v235 c8_i32_207
  let c256_i32_1083 : BitVec 32 := 256#32
  let v1491 : BitVec 32 := Scalar.muli v236 c256_i32_1083
  v1491
def k0_mult67 : BitVec 32 :=
  let c16_i32_208 : BitVec 32 := 16#32
  let c0_i32 : BitVec 32 := 0#32
  let v237 : BitVec 32 := Scalar.muli c16_i32_208 c0_i32
  let c8_i32_209 : BitVec 32 := 8#32
  let v238 : BitVec 32 := Scalar.addi v237 c8_i32_209
  let c256_i32_1095 : BitVec 32 := 256#32
  let v1509 : BitVec 32 := Scalar.muli v238 c256_i32_1095
  v1509
def k0_mult68 : BitVec 32 :=
  let c16_i32_210 : BitVec 32 := 16#32
  let c0_i32 : BitVec 32 := 0#32
  let v239 : BitVec 32 := Scalar.muli c16_i32_210 c0_i32
  let c8_i32_211 : BitVec 32 := 8#32
  let v240 : BitVec 32 := Scalar.addi v239 c8_i32_211
  let c256_i32_1107 : BitVec 32 := 256#32
  let v1527 : BitVec 32 := Scalar.muli v240 c256_i32_1107
  v1527
def k0_mult69 : BitVec 32 :=
  let c16_i32_212 : BitVec 32 := 16#32
  let c0_i32 : BitVec 32 := 0#32
  let v241 : BitVec 32 := Scalar.muli c16_i32_212 c0_i32
  let c8_i32_213 : BitVec 32 := 8#32
  let v242 : BitVec 32 := Scalar.addi v241 c8_i32_213
  let c256_i32_1119 : BitVec 32 := 256#32
  let v1545 : BitVec 32 := Scalar.muli v242 c256_i32_1119
  v1545
def k0_mult70 : BitVec 32 :=
  let c16_i32_214 : BitVec 32 := 16#32
  let c0_i32 : BitVec 32 := 0#32
  let v243 : BitVec 32 := Scalar.muli c16_i32_214 c0_i32
  let c8_i32_215 : BitVec 32 := 8#32
  let v244 : BitVec 32 := Scalar.addi v243 c8_i32_215
  let c256_i32_1131 : BitVec 32 := 256#32
  let v1563 : BitVec 32 := Scalar.muli v244 c256_i32_1131
  v1563
def k0_mult71 : BitVec 32 :=
  let c16_i32_216 : BitVec 32 := 16#32
  let c0_i32 : BitVec 32 := 0#32
  let v245 : BitVec 32 := Scalar.muli c16_i32_216 c0_i32
  let c8_i32_217 : BitVec 32 := 8#32
  let v246 : BitVec 32 := Scalar.addi v245 c8_i32_217
  let c256_i32_1143 : BitVec 32 := 256#32
  let v1581 : BitVec 32 := Scalar.muli v246 c256_i32_1143
  v1581
def k0_mult72 : BitVec 32 :=
  let c16_i32_218 : BitVec 32 := 16#32
  let c0_i32 : BitVec 32 := 0#32
  let v247 : BitVec 32 := Scalar.muli c16_i32_218 c0_i32
  let c8_i32_219 : BitVec 32 := 8#32
  let v248 : BitVec 32 := Scalar.addi v247 c8_i32_219
  let c256_i32_1155 : BitVec 32 := 256#32
  let v1599 : BitVec 32 := Scalar.muli v248 c256_i32_1155
  v1599
def k0_mult73 : BitVec 32 :=
  let c16_i32_220 : BitVec 32 := 16#32
  let c0_i32 : BitVec 32 := 0#32
  let v249 : BitVec 32 := Scalar.muli c16_i32_220 c0_i32
  let c9_i32 : BitVec 32 := 9#32
  let v250 : BitVec 32 := Scalar.addi v249 c9_i32
  let c256_i32_1167 : BitVec 32 := 256#32
  let v1617 : BitVec 32 := Scalar.muli v250 c256_i32_1167
  v1617
def k0_mult74 : BitVec 32 :=
  let c16_i32_221 : BitVec 32 := 16#32
  let c0_i32 : BitVec 32 := 0#32
  let v251 : BitVec 32 := Scalar.muli c16_i32_221 c0_i32
  let c9_i32_222 : BitVec 32 := 9#32
  let v252 : BitVec 32 := Scalar.addi v251 c9_i32_222
  let c256_i32_1179 : BitVec 32 := 256#32
  let v1635 : BitVec 32 := Scalar.muli v252 c256_i32_1179
  v1635
def k0_mult75 : BitVec 32 :=
  let c16_i32_223 : BitVec 32 := 16#32
  let c0_i32 : BitVec 32 := 0#32
  let v253 : BitVec 32 := Scalar.muli c16_i32_223 c0_i32
  let c9_i32_224 : BitVec 32 := 9#32
  let v254 : BitVec 32 := Scalar.addi v253 c9_i32_224
  let c256_i32_1191 : BitVec 32 := 256#32
  let v1653 : BitVec 32 := Scalar.muli v254 c256_i32_1191
  v1653
def k0_mult76 : BitVec 32 :=
  let c16_i32_225 : BitVec 32 := 16#32
  let c0_i32 : BitVec 32 := 0#32
  let v255 : BitVec 32 := Scalar.muli c16_i32_225 c0_i32
  let c9_i32_226 : BitVec 32 := 9#32
  let v256 : BitVec 32 := Scalar.addi v255 c9_i32_226
  let c256_i32_1203 : BitVec 32 := 256#32
  let v1671 : BitVec 32 := Scalar.muli v256 c256_i32_1203
  v1671
def k0_mult77 : BitVec 32 :=
  let c16_i32_227 : BitVec 32 := 16#32
  let c0_i32 : BitVec 32 := 0#32
  let v257 : BitVec 32 := Scalar.muli c16_i32_227 c0_i32
  let c9_i32_228 : BitVec 32 := 9#32
  let v258 : BitVec 32 := Scalar.addi v257 c9_i32_228
  let c256_i32_1215 : BitVec 32 := 256#32
  let v1689 : BitVec 32 := Scalar.muli v258 c256_i32_1215
  v1689
def k0_mult78 : BitVec 32 :=
  let c16_i32_229 : BitVec 32 := 16#32
  let c0_i32 : BitVec 32 := 0#32
  let v259 : BitVec 32 := Scalar.muli c16_i32_229 c0_i32
  let c9_i32_230 : BitVec 32 := 9#32
  let v260 : BitVec 32 := Scalar.addi v259 c9_i32_230
  let c256_i32_1227 : BitVec 32 := 256#32
  let v1707 : BitVec 32 := Scalar.muli v260 c256_i32_1227
  v1707
def k0_mult79 : BitVec 32 :=
  let c16_i32_231 : BitVec 32 := 16#32
  let c0_i32 : BitVec 32 := 0#32
  let v261 : BitVec 32 := Scalar.muli c16_i32_231 c0_i32
  let c9_i32_232 : BitVec 32 := 9#32
  let v262 : BitVec 32 := Scalar.addi v261 c9_i32_232
  let c256_i32_1239 : BitVec 32 := 256#32
  let v1725 : BitVec 32 := Scalar.muli v262 c256_i32_1239
  v1725
def k0_mult80 : BitVec 32 :=
  let c16_i32_233 : BitVec 32 := 16#32
  let c0_i32 : BitVec 32 := 0#32
  let v263 : BitVec 32 := Scalar.muli c16_i32_233 c0_i32
  let c9_i32_234 : BitVec 32 := 9#32
  let v264 : BitVec 32 := Scalar.addi v263 c9_i32_234
  let c256_i32_1251 : BitVec 32 := 256#32
  let v1743 : BitVec 32 := Scalar.muli v264 c256_i32_1251
  v1743
def k0_mult81 : BitVec 32 :=
  let c16_i32_235 : BitVec 32 := 16#32
  let c0_i32 : BitVec 32 := 0#32
  let v265 : BitVec 32 := Scalar.muli c16_i32_235 c0_i32
  let c10_i32 : BitVec 32 := 10#32
  let v266 : BitVec 32 := Scalar.addi v265 c10_i32
  let c256_i32_1263 : BitVec 32 := 256#32
  let v1761 : BitVec 32 := Scalar.muli v266 c256_i32_1263
  v1761
def k0_mult82 : BitVec 32 :=
  let c16_i32_236 : BitVec 32 := 16#32
  let c0_i32 : BitVec 32 := 0#32
  let v267 : BitVec 32 := Scalar.muli c16_i32_236 c0_i32
  let c10_i32_237 : BitVec 32 := 10#32
  let v268 : BitVec 32 := Scalar.addi v267 c10_i32_237
  let c256_i32_1275 : BitVec 32 := 256#32
  let v1779 : BitVec 32 := Scalar.muli v268 c256_i32_1275
  v1779
def k0_mult83 : BitVec 32 :=
  let c16_i32_238 : BitVec 32 := 16#32
  let c0_i32 : BitVec 32 := 0#32
  let v269 : BitVec 32 := Scalar.muli c16_i32_238 c0_i32
  let c10_i32_239 : BitVec 32 := 10#32
  let v270 : BitVec 32 := Scalar.addi v269 c10_i32_239
  let c256_i32_1287 : BitVec 32 := 256#32
  let v1797 : BitVec 32 := Scalar.muli v270 c256_i32_1287
  v1797
def k0_mult84 : BitVec 32 :=
  let c16_i32_240 : BitVec 32 := 16#32
  let c0_i32 : BitVec 32 := 0#32
  let v271 : BitVec 32 := Scalar.muli c16_i32_240 c0_i32
  let c10_i32_241 : BitVec 32 := 10#32
  let v272 : BitVec 32 := Scalar.addi v271 c10_i32_241
  let c256_i32_1299 : BitVec 32 := 256#32
  let v1815 : BitVec 32 := Scalar.muli v272 c256_i32_1299
  v1815
def k0_mult85 : BitVec 32 :=
  let c16_i32_242 : BitVec 32 := 16#32
  let c0_i32 : BitVec 32 := 0#32
  let v273 : BitVec 32 := Scalar.muli c16_i32_242 c0_i32
  let c10_i32_243 : BitVec 32 := 10#32
  let v274 : BitVec 32 := Scalar.addi v273 c10_i32_243
  let c256_i32_1311 : BitVec 32 := 256#32
  let v1833 : BitVec 32 := Scalar.muli v274 c256_i32_1311
  v1833
def k0_mult86 : BitVec 32 :=
  let c16_i32_244 : BitVec 32 := 16#32
  let c0_i32 : BitVec 32 := 0#32
  let v275 : BitVec 32 := Scalar.muli c16_i32_244 c0_i32
  let c10_i32_245 : BitVec 32 := 10#32
  let v276 : BitVec 32 := Scalar.addi v275 c10_i32_245
  let c256_i32_1323 : BitVec 32 := 256#32
  let v1851 : BitVec 32 := Scalar.muli v276 c256_i32_1323
  v1851
def k0_mult87 : BitVec 32 :=
  let c16_i32_246 : BitVec 32 := 16#32
  let c0_i32 : BitVec 32 := 0#32
  let v277 : BitVec 32 := Scalar.muli c16_i32_246 c0_i32
  let c10_i32_247 : BitVec 32 := 10#32
  let v278 : BitVec 32 := Scalar.addi v277 c10_i32_247
  let c256_i32_1335 : BitVec 32 := 256#32
  let v1869 : BitVec 32 := Scalar.muli v278 c256_i32_1335
  v1869
def k0_mult88 : BitVec 32 :=
  let c16_i32_248 : BitVec 32 := 16#32
  let c0_i32 : BitVec 32 := 0#32
  let v279 : BitVec 32 := Scalar.muli c16_i32_248 c0_i32
  let c10_i32_249 : BitVec 32 := 10#32
  let v280 : BitVec 32 := Scalar.addi v279 c10_i32_249
  let c256_i32_1347 : BitVec 32 := 256#32
  let v1887 : BitVec 32 := Scalar.muli v280 c256_i32_1347
  v1887
def k0_mult89 : BitVec 32 :=
  let c16_i32_250 : BitVec 32 := 16#32
  let c0_i32 : BitVec 32 := 0#32
  let v281 : BitVec 32 := Scalar.muli c16_i32_250 c0_i32
  let c11_i32 : BitVec 32 := 11#32
  let v282 : BitVec 32 := Scalar.addi v281 c11_i32
  let c256_i32_1359 : BitVec 32 := 256#32
  let v1905 : BitVec 32 := Scalar.muli v282 c256_i32_1359
  v1905
def k0_mult90 : BitVec 32 :=
  let c16_i32_251 : BitVec 32 := 16#32
  let c0_i32 : BitVec 32 := 0#32
  let v283 : BitVec 32 := Scalar.muli c16_i32_251 c0_i32
  let c11_i32_252 : BitVec 32 := 11#32
  let v284 : BitVec 32 := Scalar.addi v283 c11_i32_252
  let c256_i32_1371 : BitVec 32 := 256#32
  let v1923 : BitVec 32 := Scalar.muli v284 c256_i32_1371
  v1923
def k0_mult91 : BitVec 32 :=
  let c16_i32_253 : BitVec 32 := 16#32
  let c0_i32 : BitVec 32 := 0#32
  let v285 : BitVec 32 := Scalar.muli c16_i32_253 c0_i32
  let c11_i32_254 : BitVec 32 := 11#32
  let v286 : BitVec 32 := Scalar.addi v285 c11_i32_254
  let c256_i32_1383 : BitVec 32 := 256#32
  let v1941 : BitVec 32 := Scalar.muli v286 c256_i32_1383
  v1941
def k0_mult92 : BitVec 32 :=
  let c16_i32_255 : BitVec 32 := 16#32
  let c0_i32 : BitVec 32 := 0#32
  let v287 : BitVec 32 := Scalar.muli c16_i32_255 c0_i32
  let c11_i32_256 : BitVec 32 := 11#32
  let v288 : BitVec 32 := Scalar.addi v287 c11_i32_256
  let c256_i32_1395 : BitVec 32 := 256#32
  let v1959 : BitVec 32 := Scalar.muli v288 c256_i32_1395
  v1959
def k0_mult93 : BitVec 32 :=
  let c16_i32_257 : BitVec 32 := 16#32
  let c0_i32 : BitVec 32 := 0#32
  let v289 : BitVec 32 := Scalar.muli c16_i32_257 c0_i32
  let c11_i32_258 : BitVec 32 := 11#32
  let v290 : BitVec 32 := Scalar.addi v289 c11_i32_258
  let c256_i32_1407 : BitVec 32 := 256#32
  let v1977 : BitVec 32 := Scalar.muli v290 c256_i32_1407
  v1977
def k0_mult94 : BitVec 32 :=
  let c16_i32_259 : BitVec 32 := 16#32
  let c0_i32 : BitVec 32 := 0#32
  let v291 : BitVec 32 := Scalar.muli c16_i32_259 c0_i32
  let c11_i32_260 : BitVec 32 := 11#32
  let v292 : BitVec 32 := Scalar.addi v291 c11_i32_260
  let c256_i32_1419 : BitVec 32 := 256#32
  let v1995 : BitVec 32 := Scalar.muli v292 c256_i32_1419
  v1995
def k0_mult95 : BitVec 32 :=
  let c16_i32_261 : BitVec 32 := 16#32
  let c0_i32 : BitVec 32 := 0#32
  let v293 : BitVec 32 := Scalar.muli c16_i32_261 c0_i32
  let c11_i32_262 : BitVec 32 := 11#32
  let v294 : BitVec 32 := Scalar.addi v293 c11_i32_262
  let c256_i32_1431 : BitVec 32 := 256#32
  let v2013 : BitVec 32 := Scalar.muli v294 c256_i32_1431
  v2013
def k0_mult96 : BitVec 32 :=
  let c16_i32_263 : BitVec 32 := 16#32
  let c0_i32 : BitVec 32 := 0#32
  let v295 : BitVec 32 := Scalar.muli c16_i32_263 c0_i32
  let c11_i32_264 : BitVec 32 := 11#32
  let v296 : BitVec 32 := Scalar.addi v295 c11_i32_264
  let c256_i32_1443 : BitVec 32 := 256#32
  let v2031 : BitVec 32 := Scalar.muli v296 c256_i32_1443
  v2031
def k0_mult97 : BitVec 32 :=
  let c16_i32_265 : BitVec 32 := 16#32
  let c0_i32 : BitVec 32 := 0#32
  let v297 : BitVec 32 := Scalar.muli c16_i32_265 c0_i32
  let c12_i32 : BitVec 32 := 12#32
  let v298 : BitVec 32 := Scalar.addi v297 c12_i32
  let c256_i32_1455 : BitVec 32 := 256#32
  let v2049 : BitVec 32 := Scalar.muli v298 c256_i32_1455
  v2049
def k0_mult98 : BitVec 32 :=
  let c16_i32_266 : BitVec 32 := 16#32
  let c0_i32 : BitVec 32 := 0#32
  let v299 : BitVec 32 := Scalar.muli c16_i32_266 c0_i32
  let c12_i32_267 : BitVec 32 := 12#32
  let v300 : BitVec 32 := Scalar.addi v299 c12_i32_267
  let c256_i32_1467 : BitVec 32 := 256#32
  let v2067 : BitVec 32 := Scalar.muli v300 c256_i32_1467
  v2067
def k0_mult99 : BitVec 32 :=
  let c16_i32_268 : BitVec 32 := 16#32
  let c0_i32 : BitVec 32 := 0#32
  let v301 : BitVec 32 := Scalar.muli c16_i32_268 c0_i32
  let c12_i32_269 : BitVec 32 := 12#32
  let v302 : BitVec 32 := Scalar.addi v301 c12_i32_269
  let c256_i32_1479 : BitVec 32 := 256#32
  let v2085 : BitVec 32 := Scalar.muli v302 c256_i32_1479
  v2085
def k0_mult100 : BitVec 32 :=
  let c16_i32_270 : BitVec 32 := 16#32
  let c0_i32 : BitVec 32 := 0#32
  let v303 : BitVec 32 := Scalar.muli c16_i32_270 c0_i32
  let c12_i32_271 : BitVec 32 := 12#32
  let v304 : BitVec 32 := Scalar.addi v303 c12_i32_271
  let c256_i32_1491 : BitVec 32 := 256#32
  let v2103 : BitVec 32 := Scalar.muli v304 c256_i32_1491
  v2103
def k0_mult101 : BitVec 32 :=
  let c16_i32_272 : BitVec 32 := 16#32
  let c0_i32 : BitVec 32 := 0#32
  let v305 : BitVec 32 := Scalar.muli c16_i32_272 c0_i32
  let c12_i32_273 : BitVec 32 := 12#32
  let v306 : BitVec 32 := Scalar.addi v305 c12_i32_273
  let c256_i32_1503 : BitVec 32 := 256#32
  let v2121 : BitVec 32 := Scalar.muli v306 c256_i32_1503
  v2121
def k0_mult102 : BitVec 32 :=
  let c16_i32_274 : BitVec 32 := 16#32
  let c0_i32 : BitVec 32 := 0#32
  let v307 : BitVec 32 := Scalar.muli c16_i32_274 c0_i32
  let c12_i32_275 : BitVec 32 := 12#32
  let v308 : BitVec 32 := Scalar.addi v307 c12_i32_275
  let c256_i32_1515 : BitVec 32 := 256#32
  let v2139 : BitVec 32 := Scalar.muli v308 c256_i32_1515
  v2139
def k0_mult103 : BitVec 32 :=
  let c16_i32_276 : BitVec 32 := 16#32
  let c0_i32 : BitVec 32 := 0#32
  let v309 : BitVec 32 := Scalar.muli c16_i32_276 c0_i32
  let c12_i32_277 : BitVec 32 := 12#32
  let v310 : BitVec 32 := Scalar.addi v309 c12_i32_277
  let c256_i32_1527 : BitVec 32 := 256#32
  let v2157 : BitVec 32 := Scalar.muli v310 c256_i32_1527
  v2157
def k0_mult104 : BitVec 32 :=
  let c16_i32_278 : BitVec 32 := 16#32
  let c0_i32 : BitVec 32 := 0#32
  let v311 : BitVec 32 := Scalar.muli c16_i32_278 c0_i32
  let c12_i32_279 : BitVec 32 := 12#32
  let v312 : BitVec 32 := Scalar.addi v311 c12_i32_279
  let c256_i32_1539 : BitVec 32 := 256#32
  let v2175 : BitVec 32 := Scalar.muli v312 c256_i32_1539
  v2175
def k0_mult105 : BitVec 32 :=
  let c16_i32_280 : BitVec 32 := 16#32
  let c0_i32 : BitVec 32 := 0#32
  let v313 : BitVec 32 := Scalar.muli c16_i32_280 c0_i32
  let c13_i32 : BitVec 32 := 13#32
  let v314 : BitVec 32 := Scalar.addi v313 c13_i32
  let c256_i32_1551 : BitVec 32 := 256#32
  let v2193 : BitVec 32 := Scalar.muli v314 c256_i32_1551
  v2193
def k0_mult106 : BitVec 32 :=
  let c16_i32_281 : BitVec 32 := 16#32
  let c0_i32 : BitVec 32 := 0#32
  let v315 : BitVec 32 := Scalar.muli c16_i32_281 c0_i32
  let c13_i32_282 : BitVec 32 := 13#32
  let v316 : BitVec 32 := Scalar.addi v315 c13_i32_282
  let c256_i32_1563 : BitVec 32 := 256#32
  let v2211 : BitVec 32 := Scalar.muli v316 c256_i32_1563
  v2211
def k0_mult107 : BitVec 32 :=
  let c16_i32_283 : BitVec 32 := 16#32
  let c0_i32 : BitVec 32 := 0#32
  let v317 : BitVec 32 := Scalar.muli c16_i32_283 c0_i32
  let c13_i32_284 : BitVec 32 := 13#32
  let v318 : BitVec 32 := Scalar.addi v317 c13_i32_284
  let c256_i32_1575 : BitVec 32 := 256#32
  let v2229 : BitVec 32 := Scalar.muli v318 c256_i32_1575
  v2229
def k0_mult108 : BitVec 32 :=
  let c16_i32_285 : BitVec 32 := 16#32
  let c0_i32 : BitVec 32 := 0#32
  let v319 : BitVec 32 := Scalar.muli c16_i32_285 c0_i32
  let c13_i32_286 : BitVec 32 := 13#32
  let v320 : BitVec 32 := Scalar.addi v319 c13_i32_286
  let c256_i32_1587 : BitVec 32 := 256#32
  let v2247 : BitVec 32 := Scalar.muli v320 c256_i32_1587
  v2247
def k0_mult109 : BitVec 32 :=
  let c16_i32_287 : BitVec 32 := 16#32
  let c0_i32 : BitVec 32 := 0#32
  let v321 : BitVec 32 := Scalar.muli c16_i32_287 c0_i32
  let c13_i32_288 : BitVec 32 := 13#32
  let v322 : BitVec 32 := Scalar.addi v321 c13_i32_288
  let c256_i32_1599 : BitVec 32 := 256#32
  let v2265 : BitVec 32 := Scalar.muli v322 c256_i32_1599
  v2265
def k0_mult110 : BitVec 32 :=
  let c16_i32_289 : BitVec 32 := 16#32
  let c0_i32 : BitVec 32 := 0#32
  let v323 : BitVec 32 := Scalar.muli c16_i32_289 c0_i32
  let c13_i32_290 : BitVec 32 := 13#32
  let v324 : BitVec 32 := Scalar.addi v323 c13_i32_290
  let c256_i32_1611 : BitVec 32 := 256#32
  let v2283 : BitVec 32 := Scalar.muli v324 c256_i32_1611
  v2283
def k0_mult111 : BitVec 32 :=
  let c16_i32_291 : BitVec 32 := 16#32
  let c0_i32 : BitVec 32 := 0#32
  let v325 : BitVec 32 := Scalar.muli c16_i32_291 c0_i32
  let c13_i32_292 : BitVec 32 := 13#32
  let v326 : BitVec 32 := Scalar.addi v325 c13_i32_292
  let c256_i32_1623 : BitVec 32 := 256#32
  let v2301 : BitVec 32 := Scalar.muli v326 c256_i32_1623
  v2301
def k0_mult112 : BitVec 32 :=
  let c16_i32_293 : BitVec 32 := 16#32
  let c0_i32 : BitVec 32 := 0#32
  let v327 : BitVec 32 := Scalar.muli c16_i32_293 c0_i32
  let c13_i32_294 : BitVec 32 := 13#32
  let v328 : BitVec 32 := Scalar.addi v327 c13_i32_294
  let c256_i32_1635 : BitVec 32 := 256#32
  let v2319 : BitVec 32 := Scalar.muli v328 c256_i32_1635
  v2319
def k0_mult113 : BitVec 32 :=
  let c16_i32_295 : BitVec 32 := 16#32
  let c0_i32 : BitVec 32 := 0#32
  let v329 : BitVec 32 := Scalar.muli c16_i32_295 c0_i32
  let c14_i32 : BitVec 32 := 14#32
  let v330 : BitVec 32 := Scalar.addi v329 c14_i32
  let c256_i32_1647 : BitVec 32 := 256#32
  let v2337 : BitVec 32 := Scalar.muli v330 c256_i32_1647
  v2337
def k0_mult114 : BitVec 32 :=
  let c16_i32_296 : BitVec 32 := 16#32
  let c0_i32 : BitVec 32 := 0#32
  let v331 : BitVec 32 := Scalar.muli c16_i32_296 c0_i32
  let c14_i32_297 : BitVec 32 := 14#32
  let v332 : BitVec 32 := Scalar.addi v331 c14_i32_297
  let c256_i32_1659 : BitVec 32 := 256#32
  let v2355 : BitVec 32 := Scalar.muli v332 c256_i32_1659
  v2355
def k0_mult115 : BitVec 32 :=
  let c16_i32_298 : BitVec 32 := 16#32
  let c0_i32 : BitVec 32 := 0#32
  let v333 : BitVec 32 := Scalar.muli c16_i32_298 c0_i32
  let c14_i32_299 : BitVec 32 := 14#32
  let v334 : BitVec 32 := Scalar.addi v333 c14_i32_299
  let c256_i32_1671 : BitVec 32 := 256#32
  let v2373 : BitVec 32 := Scalar.muli v334 c256_i32_1671
  v2373
def k0_mult116 : BitVec 32 :=
  let c16_i32_300 : BitVec 32 := 16#32
  let c0_i32 : BitVec 32 := 0#32
  let v335 : BitVec 32 := Scalar.muli c16_i32_300 c0_i32
  let c14_i32_301 : BitVec 32 := 14#32
  let v336 : BitVec 32 := Scalar.addi v335 c14_i32_301
  let c256_i32_1683 : BitVec 32 := 256#32
  let v2391 : BitVec 32 := Scalar.muli v336 c256_i32_1683
  v2391
def k0_mult117 : BitVec 32 :=
  let c16_i32_302 : BitVec 32 := 16#32
  let c0_i32 : BitVec 32 := 0#32
  let v337 : BitVec 32 := Scalar.muli c16_i32_302 c0_i32
  let c14_i32_303 : BitVec 32 := 14#32
  let v338 : BitVec 32 := Scalar.addi v337 c14_i32_303
  let c256_i32_1695 : BitVec 32 := 256#32
  let v2409 : BitVec 32 := Scalar.muli v338 c256_i32_1695
  v2409
def k0_mult118 : BitVec 32 :=
  let c16_i32_304 : BitVec 32 := 16#32
  let c0_i32 : BitVec 32 := 0#32
  let v339 : BitVec 32 := Scalar.muli c16_i32_304 c0_i32
  let c14_i32_305 : BitVec 32 := 14#32
  let v340 : BitVec 32 := Scalar.addi v339 c14_i32_305
  let c256_i32_1707 : BitVec 32 := 256#32
  let v2427 : BitVec 32 := Scalar.muli v340 c256_i32_1707
  v2427
def k0_mult119 : BitVec 32 :=
  let c16_i32_306 : BitVec 32 := 16#32
  let c0_i32 : BitVec 32 := 0#32
  let v341 : BitVec 32 := Scalar.muli c16_i32_306 c0_i32
  let c14_i32_307 : BitVec 32 := 14#32
  let v342 : BitVec 32 := Scalar.addi v341 c14_i32_307
  let c256_i32_1719 : BitVec 32 := 256#32
  let v2445 : BitVec 32 := Scalar.muli v342 c256_i32_1719
  v2445
def k0_mult120 : BitVec 32 :=
  let c16_i32_308 : BitVec 32 := 16#32
  let c0_i32 : BitVec 32 := 0#32
  let v343 : BitVec 32 := Scalar.muli c16_i32_308 c0_i32
  let c14_i32_309 : BitVec 32 := 14#32
  let v344 : BitVec 32 := Scalar.addi v343 c14_i32_309
  let c256_i32_1731 : BitVec 32 := 256#32
  let v2463 : BitVec 32 := Scalar.muli v344 c256_i32_1731
  v2463
def k0_mult121 : BitVec 32 :=
  let c16_i32_310 : BitVec 32 := 16#32
  let c0_i32 : BitVec 32 := 0#32
  let v345 : BitVec 32 := Scalar.muli c16_i32_310 c0_i32
  let c15_i32 : BitVec 32 := 15#32
  let v346 : BitVec 32 := Scalar.addi v345 c15_i32
  let c256_i32_1743 : BitVec 32 := 256#32
  let v2481 : BitVec 32 := Scalar.muli v346 c256_i32_1743
  v2481
def k0_mult122 : BitVec 32 :=
  let c16_i32_311 : BitVec 32 := 16#32
  let c0_i32 : BitVec 32 := 0#32
  let v347 : BitVec 32 := Scalar.muli c16_i32_311 c0_i32
  let c15_i32_312 : BitVec 32 := 15#32
  let v348 : BitVec 32 := Scalar.addi v347 c15_i32_312
  let c256_i32_1755 : BitVec 32 := 256#32
  let v2499 : BitVec 32 := Scalar.muli v348 c256_i32_1755
  v2499
def k0_mult123 : BitVec 32 :=
  let c16_i32_313 : BitVec 32 := 16#32
  let c0_i32 : BitVec 32 := 0#32
  let v349 : BitVec 32 := Scalar.muli c16_i32_313 c0_i32
  let c15_i32_314 : BitVec 32 := 15#32
  let v350 : BitVec 32 := Scalar.addi v349 c15_i32_314
  let c256_i32_1767 : BitVec 32 := 256#32
  let v2517 : BitVec 32 := Scalar.muli v350 c256_i32_1767
  v2517
def k0_mult124 : BitVec 32 :=
  let c16_i32_315 : BitVec 32 := 16#32
  let c0_i32 : BitVec 32 := 0#32
  let v351 : BitVec 32 := Scalar.muli c16_i32_315 c0_i32
  let c15_i32_316 : BitVec 32 := 15#32
  let v352 : BitVec 32 := Scalar.addi v351 c15_i32_316
  let c256_i32_1779 : BitVec 32 := 256#32
  let v2535 : BitVec 32 := Scalar.muli v352 c256_i32_1779
  v2535
def k0_mult125 : BitVec 32 :=
  let c16_i32_317 : BitVec 32 := 16#32
  let c0_i32 : BitVec 32 := 0#32
  let v353 : BitVec 32 := Scalar.muli c16_i32_317 c0_i32
  let c15_i32_318 : BitVec 32 := 15#32
  let v354 : BitVec 32 := Scalar.addi v353 c15_i32_318
  let c256_i32_1791 : BitVec 32 := 256#32
  let v2553 : BitVec 32 := Scalar.muli v354 c256_i32_1791
  v2553
def k0_mult126 : BitVec 32 :=
  let c16_i32_319 : BitVec 32 := 16#32
  let c0_i32 : BitVec 32 := 0#32
  let v355 : BitVec 32 := Scalar.muli c16_i32_319 c0_i32
  let c15_i32_320 : BitVec 32 := 15#32
  let v356 : BitVec 32 := Scalar.addi v355 c15_i32_320
  let c256_i32_1803 : BitVec 32 := 256#32
  let v2571 : BitVec 32 := Scalar.muli v356 c256_i32_1803
  v2571
def k0_mult127 : BitVec 32 :=
  let c16_i32_321 : BitVec 32 := 16#32
  let c0_i32 : BitVec 32 := 0#32
  let v357 : BitVec 32 := Scalar.muli c16_i32_321 c0_i32
  let c15_i32_322 : BitVec 32 := 15#32
  let v358 : BitVec 32 := Scalar.addi v357 c15_i32_322
  let c256_i32_1815 : BitVec 32 := 256#32
  let v2589 : BitVec 32 := Scalar.muli v358 c256_i32_1815
  v2589
def k0_mult128 : BitVec 32 :=
  let c16_i32_323 : BitVec 32 := 16#32
  let c0_i32 : BitVec 32 := 0#32
  let v359 : BitVec 32 := Scalar.muli c16_i32_323 c0_i32
  let c15_i32_324 : BitVec 32 := 15#32
  let v360 : BitVec 32 := Scalar.addi v359 c15_i32_324
  let c256_i32_1827 : BitVec 32 := 256#32
  let v2607 : BitVec 32 := Scalar.muli v360 c256_i32_1827
  v2607
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  ![arg0.toNat, c0_i32.toNat, c4_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "s" => some ((8⁻¹ * (Real.log 2)⁻¹ : ℝ) : EReal)
  | _ => none
-- ==== ReferenceIdeal.lean ====
abbrev S8x4096x512 : Shape := ⟨3, ![8, 4096, 512]⟩
abbrev S8x4096x128 : Shape := ⟨3, ![8, 4096, 128]⟩
abbrev S8x4096x640 : Shape := ⟨3, ![8, 4096, 640]⟩
abbrev S8x4096x2x4x64 : Shape := ⟨5, ![8, 4096, 2, 4, 64]⟩
abbrev S8x2x4x4096x64 : Shape := ⟨5, ![8, 2, 4, 4096, 64]⟩
abbrev S8x4096x2x64 : Shape := ⟨4, ![8, 4096, 2, 64]⟩
abbrev S8x2x4096x64 : Shape := ⟨4, ![8, 2, 4096, 64]⟩
abbrev S8x2x4x4096x4096 : Shape := ⟨5, ![8, 2, 4, 4096, 4096]⟩
abbrev S_ : Shape := ⟨0, ![]⟩
abbrev S8x2x4x4096 : Shape := ⟨4, ![8, 2, 4, 4096]⟩
abbrev S8x2x4x4096x1 : Shape := ⟨5, ![8, 2, 4, 4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x128, .f32⟩
  | .hbm, ⟨2, _⟩ => ⟨S8x4096x640, .f32⟩
  | .hbm, ⟨3, _⟩ => ⟨S8x4096x2x4x64, .f32⟩
  | .hbm, ⟨4, _⟩ => ⟨S8x2x4x4096x64, .f32⟩
  | .hbm, ⟨5, _⟩ => ⟨S8x4096x2x64, .f32⟩
  | .hbm, ⟨6, _⟩ => ⟨S8x2x4096x64, .f32⟩
  | .hbm, ⟨7, _⟩ => ⟨S8x4096x128, .f32⟩
  | .hbm, ⟨8, _⟩ => ⟨S8x4096x2x64, .f32⟩
  | .hbm, ⟨9, _⟩ => ⟨S8x2x4096x64, .f32⟩
  | .hbm, ⟨10, _⟩ => ⟨S8x2x4x4096x4096, .f32⟩
  | .hbm, ⟨11, _⟩ => ⟨S_, .f32⟩
  | .hbm, ⟨12, _⟩ => ⟨S8x2x4x4096x4096, .f32⟩
  | .hbm, ⟨13, _⟩ => ⟨S8x2x4x4096x4096, .f32⟩
  | .hbm, ⟨14, _⟩ => ⟨S_, .f32⟩
  | .hbm, ⟨15, _⟩ => ⟨S8x2x4x4096, .f32⟩
  | .hbm, ⟨16, _⟩ => ⟨S_, .f32⟩
  | .hbm, ⟨17, _⟩ => ⟨S8x2x4x4096, .f32⟩
  | .hbm, ⟨18, _⟩ => ⟨S8x2x4x4096, .f32⟩
  | .hbm, ⟨19, _⟩ => ⟨S8x2x4x4096x1, .f32⟩
  | .hbm, ⟨20, _⟩ => ⟨S8x2x4x4096x4096, .f32⟩
  | .hbm, ⟨21, _⟩ => ⟨S8x2x4x4096x4096, .f32⟩
  | .hbm, ⟨22, _⟩ => ⟨S8x2x4x4096x4096, .f32⟩
  | .hbm, ⟨23, _⟩ => ⟨S_, .f32⟩
  | .hbm, ⟨24, _⟩ => ⟨S8x2x4x4096, .f32⟩
  | .hbm, ⟨25, _⟩ => ⟨S8x2x4x4096x1, .f32⟩
  | .hbm, ⟨26, _⟩ => ⟨S8x2x4x4096x4096, .f32⟩
  | .hbm, ⟨27, _⟩ => ⟨S8x2x4x4096x4096, .f32⟩
  | .hbm, ⟨28, _⟩ => ⟨S8x2x4x4096x64, .f32⟩
  | .hbm, ⟨29, _⟩ => ⟨S8x4096x2x4x64, .f32⟩
  | .hbm, ⟨30, _⟩ => ⟨S8x4096x512, .f32⟩
  | .hbm, ⟨31, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Post.lean ====
abbrev S8x4096x1024 : Shape := ⟨3, ![8, 4096, 1024]⟩
abbrev S8x4096x512 : Shape := ⟨3, ![8, 4096, 512]⟩
abbrev S8x6x1024 : Shape := ⟨3, ![8, 6, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S1x1024x512 : Shape := ⟨3, ![1, 1024, 512]⟩
abbrev S1x6x1024 : Shape := ⟨3, ![1, 6, 1024]⟩
abbrev S1x1x1024 : Shape := ⟨3, ![1, 1, 1024]⟩
abbrev S1x256x512 : Shape := ⟨3, ![1, 256, 512]⟩
abbrev S256x512 : Shape := ⟨2, ![256, 512]⟩
abbrev S512x1024 : Shape := ⟨2, ![512, 1024]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S256x2816 : Shape := ⟨2, ![256, 2816]⟩

abbrev nBuf : Space → Nat
  | .hbm => 24
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x6x1024, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1024, .f32⟩
  | .hbm, ⟨10, _⟩ => ⟨S8x4096x512, .bf16⟩
  | .hbm, ⟨11, _⟩ => ⟨S8x4096x512, .bf16⟩
  | .hbm, ⟨12, _⟩ => ⟨S1024x1024, .f32⟩
  | .hbm, ⟨13, _⟩ => ⟨S1024x1024, .bf16⟩
  | .hbm, ⟨14, _⟩ => ⟨S1024, .f32⟩
  | .hbm, ⟨15, _⟩ => ⟨S1x1024, .f32⟩
  | .hbm, ⟨16, _⟩ => ⟨S1024x2816, .f32⟩
  | .hbm, ⟨17, _⟩ => ⟨S1024x2816, .bf16⟩
  | .hbm, ⟨18, _⟩ => ⟨S1024x2816, .f32⟩
  | .hbm, ⟨19, _⟩ => ⟨S1024x2816, .bf16⟩
  | .hbm, ⟨20, _⟩ => ⟨S2816x1024, .f32⟩
  | .hbm, ⟨21, _⟩ => ⟨S2816x1024, .bf16⟩
  | .hbm, ⟨22, _⟩ => ⟨S1x1024, .f32⟩
  | .hbm, ⟨23, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PostRefIdeal.lean ====
abbrev S8x4096x1024 : Shape := ⟨3, ![8, 4096, 1024]⟩
abbrev S8x4096x512 : Shape := ⟨3, ![8, 4096, 512]⟩
abbrev S8x6x1024 : Shape := ⟨3, ![8, 6, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S8x1x1024 : Shape := ⟨3, ![8, 1, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S8x4096x2816 : Shape := ⟨3, ![8, 4096, 2816]⟩
abbrev S2816x1024 : Shape := ⟨2, ![2816, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x6x1024, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x4096x1024, .f32⟩
  | .hbm, ⟨15, _⟩ => ⟨S1024x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S1x1x1024, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S1024x2816, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S_, .f32⟩
  | .hbm, ⟨49, _⟩ => ⟨S8x4096x2816, .f32⟩
  | .hbm, ⟨50, _⟩ => ⟨S8x4096x2816, .f32⟩
  | .hbm, ⟨51, _⟩ => ⟨S_, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S1024x2816, .f32⟩
  | .hbm, ⟨56, _⟩ => ⟨S8x4096x2816, .f32⟩
  | .hbm, ⟨57, _⟩ => ⟨S8x4096x2816, .f32⟩
  | .hbm, ⟨58, _⟩ => ⟨S2816x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S1x1x1024, .f32⟩
  | .hbm, ⟨77, _⟩ => ⟨S8x4096x1024, .f32⟩
  | .hbm, ⟨78, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== InProj.lean ====
abbrev S8x4096x1024 : Shape := ⟨3, ![8, 4096, 1024]⟩
abbrev S8x6x1024 : Shape := ⟨3, ![8, 6, 1024]⟩
abbrev S4096x32 : Shape := ⟨2, ![4096, 32]⟩
abbrev S1x1024 : Shape := ⟨2, ![1, 1024]⟩
abbrev S1x1024x2304 : Shape := ⟨3, ![1, 1024, 2304]⟩
abbrev S1x64 : Shape := ⟨2, ![1, 64]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024 : Shape := ⟨1, ![1024]⟩
abbrev S1024x2304 : Shape := ⟨2, ![1024, 2304]⟩
abbrev S1024x512 : Shape := ⟨2, ![1024, 512]⟩
abbrev S1024x128 : Shape := ⟨2, ![1024, 128]⟩
abbrev S64 : Shape := ⟨1, ![64]⟩
abbrev S2x64 : Shape := ⟨2, ![2, 64]⟩
abbrev S128 : Shape := ⟨1, ![128]⟩
abbrev S1x128 : Shape := ⟨2, ![1, 128]⟩
abbrev S8x4096x512 : Shape := ⟨3, ![8, 4096, 512]⟩
abbrev S8x4096x128 : Shape := ⟨3, ![8, 4096, 128]⟩
abbrev S8x16x640x256 : Shape := ⟨4, ![8, 16, 640, 256]⟩
abbrev S1x1024x1024 : Shape := ⟨3, ![1, 1024, 1024]⟩
abbrev S1x6x1024 : Shape := ⟨3, ![1, 6, 1024]⟩
abbrev S1x1024x512 : Shape := ⟨3, ![1, 1024, 512]⟩
abbrev S1x1024x128 : Shape := ⟨3, ![1, 1024, 128]⟩
abbrev S1x4x640x256 : Shape := ⟨4, ![1, 4, 640, 256]⟩
abbrev S256x128 : Shape := ⟨2, ![256, 128]⟩
abbrev S1x1x1024 : Shape := ⟨3, ![1, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S256x512 : Shape := ⟨2, ![256, 512]⟩
abbrev S1024x1024 : Shape := ⟨2, ![1024, 1024]⟩
abbrev S1x256x128 : Shape := ⟨3, ![1, 256, 128]⟩
abbrev S128x256 : Shape := ⟨2, ![128, 256]⟩
abbrev S1x1x128x256 : Shape := ⟨4, ![1, 1, 128, 256]⟩
abbrev S1x256x512 : Shape := ⟨3, ![1, 256, 512]⟩

abbrev nBuf : Space → Nat
  | .hbm => 44
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S4096x32, .f32⟩
  | .hbm, ⟨3, _⟩ => ⟨S4096x32, .f32⟩
  | .hbm, ⟨4, _⟩ => ⟨S1x1024, .f32⟩
  | .hbm, ⟨5, _⟩ => ⟨S1x1024x2304, .f32⟩
  | .hbm, ⟨6, _⟩ => ⟨S1x64, .f32⟩
  | .hbm, ⟨7, _⟩ => ⟨S1x64, .f32⟩
  | .hbm, ⟨8, _⟩ => ⟨S4096x64, .f32⟩
  | .hbm, ⟨9, _⟩ => ⟨S1x4096x1x64, .f32⟩
  | .hbm, ⟨10, _⟩ => ⟨S1x4096x2x64, .f32⟩
  | .hbm, ⟨11, _⟩ => ⟨S4096x128, .f32⟩
  | .hbm, ⟨12, _⟩ => ⟨S4096x32, .f32⟩
  | .hbm, ⟨13, _⟩ => ⟨S4096x64, .f32⟩
  | .hbm, ⟨14, _⟩ => ⟨S1x4096x1x64, .f32⟩
  | .hbm, ⟨15, _⟩ => ⟨S1x4096x2x64, .f32⟩
  | .hbm, ⟨16, _⟩ => ⟨S4096x128, .f32⟩
  | .hbm, ⟨17, _⟩ => ⟨S1024, .f32⟩
  | .hbm, ⟨18, _⟩ => ⟨S1x1024, .f32⟩
  | .hbm, ⟨19, _⟩ => ⟨S1024x2304, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x128, .f32⟩
  | .hbm, ⟨25, _⟩ => ⟨S1024x128, .f32⟩
  | .hbm, ⟨26, _⟩ => ⟨S1024x2304, .f32⟩
  | .hbm, ⟨27, _⟩ => ⟨S1024x2304, .bf16⟩
  | .hbm, ⟨28, _⟩ => ⟨S64, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S1x128, .f32⟩
  | .hbm, ⟨33, _⟩ => ⟨S64, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S1x128, .f32⟩
  | .hbm, ⟨38, _⟩ => ⟨S8x4096x512, .bf16⟩
  | .hbm, ⟨39, _⟩ => ⟨S8x4096x512, .bf16⟩
  | .hbm, ⟨40, _⟩ => ⟨S8x4096x512, .bf16⟩
  | .hbm, ⟨41, _⟩ => ⟨S8x4096x128, .bf16⟩
  | .hbm, ⟨42, _⟩ => ⟨S8x4096x128, .bf16⟩
  | .hbm, ⟨43, _⟩ => ⟨S8x16x640x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2304, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x128, .f32⟩
  | .local _ .vmem, ⟨11, _⟩ => ⟨S1x128, .f32⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x128, .bf16⟩
  | .local _ .vmem, ⟨19, _⟩ => ⟨S1x1024x128, .bf16⟩
  | .local _ .vmem, ⟨20, _⟩ => ⟨S1x1024x128, .bf16⟩
  | .local _ .vmem, ⟨21, _⟩ => ⟨S1x1024x128, .bf16⟩
  | .local _ .vmem, ⟨22, _⟩ => ⟨S1x4x640x256, .bf16⟩
  | .local _ .vmem, ⟨23, _⟩ => ⟨S1x4x640x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev main_v30_2 : Ref sig .tc := ⟨.hbm, 40, rfl⟩
abbrev main_v30_3 : Ref sig .tc := ⟨.hbm, 41, rfl⟩
abbrev main_v30_4 : Ref sig .tc := ⟨.hbm, 42, rfl⟩
abbrev main_v30_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x640x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== InProjRefIdeal.lean ====
abbrev S8x4096x1024 : Shape := ⟨3, ![8, 4096, 1024]⟩
abbrev S8x6x1024 : Shape := ⟨3, ![8, 6, 1024]⟩
abbrev S4096x32 : Shape := ⟨2, ![4096, 32]⟩
abbrev S1x1024 : Shape := ⟨2, ![1, 1024]⟩
abbrev S1x1024x2304 : Shape := ⟨3, ![1, 1024, 2304]⟩
abbrev S1x64 : Shape := ⟨2, ![1, 64]⟩
abbrev S8x1x1024 : Shape := ⟨3, ![8, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2304 : Shape := ⟨2, ![1024, 2304]⟩
abbrev S8x4096x2304 : Shape := ⟨3, ![8, 4096, 2304]⟩
abbrev S8x4096x512 : Shape := ⟨3, ![8, 4096, 512]⟩
abbrev S8x4096x128 : Shape := ⟨3, ![8, 4096, 128]⟩
abbrev S8x4096x8x64 : Shape := ⟨4, ![8, 4096, 8, 64]⟩
abbrev S8x8x4096x64 : Shape := ⟨4, ![8, 8, 4096, 64]⟩
abbrev S64 : Shape := ⟨1, ![64]⟩
abbrev S8x8x4096 : Shape := ⟨3, ![8, 8, 4096]⟩
abbrev S8x8x4096x1 : Shape := ⟨4, ![8, 8, 4096, 1]⟩
abbrev S1x1x1x64 : Shape := ⟨4, ![1, 1, 1, 64]⟩
abbrev S8x8x4096x32 : Shape := ⟨4, ![8, 8, 4096, 32]⟩
abbrev S1x1x4096x32 : Shape := ⟨4, ![1, 1, 4096, 32]⟩
abbrev S8x4096x2x64 : Shape := ⟨4, ![8, 4096, 2, 64]⟩
abbrev S8x2x4096x64 : Shape := ⟨4, ![8, 2, 4096, 64]⟩
abbrev S8x2x4096 : Shape := ⟨3, ![8, 2, 4096]⟩
abbrev S8x2x4096x1 : Shape := ⟨4, ![8, 2, 4096, 1]⟩
abbrev S8x2x4096x32 : Shape := ⟨4, ![8, 2, 4096, 32]⟩
abbrev S8x4096x640 : Shape := ⟨3, ![8, 4096, 640]⟩
abbrev S8x16x256x640 : Shape := ⟨4, ![8, 16, 256, 640]⟩
abbrev S8x16x640x256 : Shape := ⟨4, ![8, 16, 640, 256]⟩

abbrev nBuf : Space → Nat
  | .hbm => 136
  | .vmem => 0
  | .smem => 0
  | _ => 0

abbrev hbmTy0_0 (i : Nat) : BufTy := match i % 128 with
  | 0 => ⟨S8x4096x1024, .f32⟩
  | 1 => ⟨S8x6x1024, .f32⟩
  | 2 => ⟨S4096x32, .f32⟩
  | 3 => ⟨S4096x32, .f32⟩
  | 4 => ⟨S1x1024, .f32⟩
  | 5 => ⟨S1x1024x2304, .f32⟩
  | 6 => ⟨S1x64, .f32⟩
  | 7 => ⟨S1x64, .f32⟩
  | 8 => ⟨S8x1x1024, .f32⟩
  | 9 => ⟨S8x1x1024, .f32⟩
  | 10 => ⟨S1024, .f32⟩
  | 11 => ⟨S8x4096x1024, .f32⟩
  | 12 => ⟨S_, .f32⟩
  | 13 => ⟨S8x4096, .f32⟩
  | 14 => ⟨S8x4096x1, .f32⟩
  | 15 => ⟨S_, .f32⟩
  | 16 => ⟨S8x4096x1, .f32⟩
  | 17 => ⟨S8x4096x1, .f32⟩
  | 18 => ⟨S_, .f32⟩
  | 19 => ⟨S8x4096x1, .f32⟩
  | 20 => ⟨S8x4096x1, .f32⟩
  | 21 => ⟨S8x4096x1, .f32⟩
  | 22 => ⟨S8x4096x1024, .f32⟩
  | 23 => ⟨S8x4096x1024, .f32⟩
  | 24 => ⟨S1x1x1024, .f32⟩
  | 25 => ⟨S8x4096x1024, .f32⟩
  | 26 => ⟨S8x4096x1024, .f32⟩
  | 27 => ⟨S_, .f32⟩
  | 28 => ⟨S8x1x1024, .f32⟩
  | 29 => ⟨S8x1x1024, .f32⟩
  | 30 => ⟨S8x4096x1024, .f32⟩
  | 31 => ⟨S8x4096x1024, .f32⟩
  | 32 => ⟨S8x4096x1024, .f32⟩
  | 33 => ⟨S8x4096x1024, .f32⟩
  | 34 => ⟨S1024x2304, .f32⟩
  | 35 => ⟨S8x4096x2304, .f32⟩
  | 36 => ⟨S8x4096x512, .f32⟩
  | 37 => ⟨S8x4096x512, .f32⟩
  | 38 => ⟨S8x4096x512, .f32⟩
  | 39 => ⟨S8x4096x512, .f32⟩
  | 40 => ⟨S8x4096x128, .f32⟩
  | 41 => ⟨S8x4096x128, .f32⟩
  | 42 => ⟨S8x4096x8x64, .f32⟩
  | 43 => ⟨S8x8x4096x64, .f32⟩
  | 44 => ⟨S64, .f32⟩
  | 45 => ⟨S8x8x4096x64, .f32⟩
  | 46 => ⟨S_, .f32⟩
  | 47 => ⟨S8x8x4096, .f32⟩
  | 48 => ⟨S8x8x4096x1, .f32⟩
  | 49 => ⟨S_, .f32⟩
  | 50 => ⟨S8x8x4096x1, .f32⟩
  | 51 => ⟨S8x8x4096x1, .f32⟩
  | 52 => ⟨S_, .f32⟩
  | 53 => ⟨S8x8x4096x1, .f32⟩
  | 54 => ⟨S8x8x4096x1, .f32⟩
  | 55 => ⟨S8x8x4096x1, .f32⟩
  | 56 => ⟨S8x8x4096x64, .f32⟩
  | 57 => ⟨S8x8x4096x64, .f32⟩
  | 58 => ⟨S1x1x1x64, .f32⟩
  | 59 => ⟨S8x8x4096x64, .f32⟩
  | 60 => ⟨S8x8x4096x64, .f32⟩
  | 61 => ⟨S8x8x4096x32, .f32⟩
  | 62 => ⟨S8x8x4096x32, .f32⟩
  | 63 => ⟨S1x1x4096x32, .f32⟩
  | 64 => ⟨S8x8x4096x32, .f32⟩
  | 65 => ⟨S8x8x4096x32, .f32⟩
  | 66 => ⟨S1x1x4096x32, .f32⟩
  | 67 => ⟨S8x8x4096x32, .f32⟩
  | 68 => ⟨S8x8x4096x32, .f32⟩
  | 69 => ⟨S8x8x4096x32, .f32⟩
  | 70 => ⟨S1x1x4096x32, .f32⟩
  | 71 => ⟨S8x8x4096x32, .f32⟩
  | 72 => ⟨S8x8x4096x32, .f32⟩
  | 73 => ⟨S1x1x4096x32, .f32⟩
  | 74 => ⟨S8x8x4096x32, .f32⟩
  | 75 => ⟨S8x8x4096x32, .f32⟩
  | 76 => ⟨S8x8x4096x32, .f32⟩
  | 77 => ⟨S8x8x4096x64, .f32⟩
  | 78 => ⟨S8x4096x2x64, .f32⟩
  | 79 => ⟨S8x2x4096x64, .f32⟩
  | 80 => ⟨S64, .f32⟩
  | 81 => ⟨S8x2x4096x64, .f32⟩
  | 82 => ⟨S_, .f32⟩
  | 83 => ⟨S8x2x4096, .f32⟩
  | 84 => ⟨S8x2x4096x1, .f32⟩
  | 85 => ⟨S_, .f32⟩
  | 86 => ⟨S8x2x4096x1, .f32⟩
  | 87 => ⟨S8x2x4096x1, .f32⟩
  | 88 => ⟨S_, .f32⟩
  | 89 => ⟨S8x2x4096x1, .f32⟩
  | 90 => ⟨S8x2x4096x1, .f32⟩
  | 91 => ⟨S8x2x4096x1, .f32⟩
  | 92 => ⟨S8x2x4096x64, .f32⟩
  | 93 => ⟨S8x2x4096x64, .f32⟩
  | 94 => ⟨S1x1x1x64, .f32⟩
  | 95 => ⟨S8x2x4096x64, .f32⟩
  | 96 => ⟨S8x2x4096x64, .f32⟩
  | 97 => ⟨S8x2x4096x32, .f32⟩
  | 98 => ⟨S8x2x4096x32, .f32⟩
  | 99 => ⟨S1x1x4096x32, .f32⟩
  | 100 => ⟨S8x2x4096x32, .f32⟩
  | 101 => ⟨S8x2x4096x32, .f32⟩
  | 102 => ⟨S1x1x4096x32, .f32⟩
  | 103 => ⟨S8x2x4096x32, .f32⟩
  | 104 => ⟨S8x2x4096x32, .f32⟩
  | 105 => ⟨S8x2x4096x32, .f32⟩
  | 106 => ⟨S1x1x4096x32, .f32⟩
  | 107 => ⟨S8x2x4096x32, .f32⟩
  | 108 => ⟨S8x2x4096x32, .f32⟩
  | 109 => ⟨S1x1x4096x32, .f32⟩
  | 110 => ⟨S8x2x4096x32, .f32⟩
  | 111 => ⟨S8x2x4096x32, .f32⟩
  | 112 => ⟨S8x2x4096x32, .f32⟩
  | 113 => ⟨S8x2x4096x64, .f32⟩
  | 114 => ⟨S8x4096x640, .f32⟩
  | 115 => ⟨S8x16x256x640, .f32⟩
  | 116 => ⟨S8x16x640x256, .f32⟩
  | 117 => ⟨S_, .f32⟩
  | 118 => ⟨S8x4096x512, .f32⟩
  | 119 => ⟨S8x4096x512, .f32⟩
  | 120 => ⟨S8x4096x8x64, .f32⟩
  | 121 => ⟨S8x4096x512, .f32⟩
  | 122 => ⟨S_, .f32⟩
  | 123 => ⟨S8x4096x512, .f32⟩
  | 124 => ⟨S8x4096x512, .f32⟩
  | 125 => ⟨S8x4096x2x64, .f32⟩
  | 126 => ⟨S8x4096x128, .f32⟩
  | 127 => ⟨S8x2x4096x64, .f32⟩
  | _ => ⟨S8x4096x1024, .f32⟩

abbrev hbmTy0_1 (i : Nat) : BufTy := match i % 128 with
  | 0 => ⟨S8x4096x2x64, .f32⟩
  | 1 => ⟨S8x4096x128, .f32⟩
  | 2 => ⟨S8x4096x512, .bf16⟩
  | 3 => ⟨S8x4096x512, .bf16⟩
  | 4 => ⟨S8x4096x512, .bf16⟩
  | 5 => ⟨S8x4096x128, .bf16⟩
  | 6 => ⟨S8x4096x128, .bf16⟩
  | 7 => ⟨S8x16x640x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_6 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_cst_9 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_10 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩

abbrev nD : Nat := 1
abbrev τ : Topo := Topo.v7x

variable {F : FTy → Type} [FloatOps F]
-- ==== Ada.lean ====
abbrev S8x1024 : Shape := ⟨2, ![8, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x1024 : Shape := ⟨2, ![8, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x6144, .f32⟩
  | .hbm, ⟨13, _⟩ => ⟨S8x6144, .f32⟩
  | .hbm, ⟨14, _⟩ => ⟨S6144, .f32⟩
  | .hbm, ⟨15, _⟩ => ⟨S1x6144, .f32⟩
  | .hbm, ⟨16, _⟩ => ⟨S8x6144, .f32⟩
  | .hbm, ⟨17, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.AttnFrame.lean ====
/- The dense attention's reference leaves its arguments alone. -/
module

public import proofs.«01_k».proof.Defs
public import proofs.«01_k».proof.Proof.Gen.ReferenceIdeal.Run
public import proofs.«01_k».proof.Proof.Gen.ReferenceIdeal
public import Idealize.ShloMosaic.Adequacy
public import Idealize.ShloMosaic.Lib.Claim
public import Idealize.ShloMosaic.Init

@[expose] public section

noncomputable section

namespace Cert.AttnFrame

open Idealize.ShloMosaic Idealize.SL.Sem

/-- The reference's frame: its arguments stay as they were; it declares no semaphore. -/
theorem frame_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

end Cert.AttnFrame

end
-- ==== Proof.AttnPre.lean ====
/- What the precondition says: every query and every key is a number. -/
module

public import proofs.«01_k».proof.Defs
public import proofs.«01_k».proof.Proof.Gen.Pre_finite_qk
public import Idealize.ShloMosaic.Lib.ReduceAll
public import Idealize.ShloMosaic.Lib.IdealHost
public import Idealize.ShloMosaic.Lib.Pointwise

@[expose] public section

noncomputable section

namespace Cert.AttnPre

open Cert.Pre_finite_qk Idealize.ShloMosaic

instance : Subsingleton S_.Idx := ⟨fun a b => funext fun i => i.elim0⟩

theorem bits_top : Ideal.ofBits .f32 0x7F800000#32 = ⊤ := by
  simp [Ideal.ofBits, Ideal.ieee]

theorem real_of_cmp (x : EReal) (h : FloatOps.cmpf (F := Ideal) (φ := .f32) .olt (FloatOps.hostAbsf (F := Ideal) (φ := .f32) x) (Ideal.ofBits .f32 0x7F800000#32) = 1#1) :
    ∃ r : ℝ, x = r := by
  rw [bits_top] at h
  have h2 : max x (-x) < ⊤ := by
    by_contra hn
    have e : BitVec.ofBool (decide (max x (-x) < ⊤)) = 1#1 := h
    rw [decide_eq_false hn] at e
    exact absurd e (by decide)
  have ht : x ≠ ⊤ := (lt_of_le_of_lt (le_max_left _ _) h2).ne
  have hb : x ≠ ⊥ := fun hx => (lt_of_le_of_lt (le_max_right x (-x)) h2).ne (by rw [hx]; rfl)
  exact ⟨x.toReal, (EReal.coe_toReal ht hb).symm⟩

theorem both {a b : BitVec 1} (h : IntOp.andi a b = 1#1) : a = 1#1 ∧ b = 1#1 := by
  revert a b; decide

theorem finite (q : FVec Ideal S8x4096x512 .f32) (k : FVec Ideal S8x4096x128 .f32) (v : FVec Ideal S8x4096x640 .f32)
    (h : Cert.Pre_finite_qk.fn (F := Ideal) q k v = fun _ => 1#1) :
    (∀ i, ∃ r : ℝ, q i = r) ∧ ∀ i, ∃ r : ℝ, k i = r := by
  have h' := both (congrFun h fun a => a.elim0)
  exact ⟨fun i => real_of_cmp _ (Host.reduce_andi_all _ _ _ _ _ h'.1 i), fun i => real_of_cmp _ (Host.reduce_andi_all _ _ _ _ _ h'.2 i)⟩

end Cert.AttnPre
-- ==== Proof.AttnStep.lean ====
/- One head's pass over the key blocks, as vector operations: what the kernel does to its numerator and its denominator
   with each block of 256 keys. -/
module

public import proofs.«01_k».proof.Proof.Gen.KernelIdeal.Frame

@[expose] public section

noncomputable section

namespace Cert.AttnStep

open Cert.KernelIdeal Cert.KernelIdeal.Gen Idealize.ShloMosaic Idealize.ShloMosaic.TcCoe

variable {F : FTy → Type} [FloatOps F] [Named F]

theorem rows_inb (o : Fin 16) : ∀ a, (![0, o.val * 256, 0] : Fin 3 → ℕ) a + S1x256x128.size a ≤ S1x4096x128.size a := by
  intro a
  have := o.isLt
  fin_cases a
  · exact Nat.le_refl 1
  · show o.val * 256 + 256 ≤ 4096
    omega
  · exact Nat.le_refl 128

theorem cols_inb (o : Fin 16) (g : Fin 2) :
    ∀ a, (![0, o.val, g.val * 64, 0] : Fin 4 → ℕ) a + S1x1x64x256.size a ≤ S1x16x128x256.size a := by
  intro a
  have := o.isLt
  have := g.isLt
  fin_cases a
  · exact Nat.le_refl 1
  · show o.val + 1 ≤ 16
    omega
  · show g.val * 64 + 64 ≤ 128
    omega
  · exact Nat.le_refl 256

theorem pair_inb (g : Fin 4) : ∀ a, (![0, 0, g.val * 128] : Fin 3 → ℕ) a + S1x512x128.size a ≤ S1x512x512.size a := by
  intro a
  have := g.isLt
  fin_cases a
  · exact Nat.le_refl 1
  · exact Nat.le_refl 512
  · show g.val * 128 + 128 ≤ 512
    omega

/-- The queries of a pair of heads, scaled, laid with the queries along the lanes. -/
def scaled (x : Vec F S1x512x128 .f32) : FVec F S128x512 .bf16 :=
  truncf .bf16 (transpose S128x512 [1, 0]
    (mulf (shapeCast S512x128 x shapeCasts_S1x512x128_S512x128) (broadcast S512x128 (Named.named κ "s" 0x3E38AA3B#32)))
    transposes_S512x128_p1_0_S128x512) bitsLt_bf16_f32

/-- The zeros beside a staged head. -/
def besides : FVec F S64x512 .bf16 := broadcast S64x512 (Scalar.ofBits .bf16 0x0000#16)

/-- The pair's first head, staged over zeros in the second's place. -/
def stageLo (x : Vec F S1x512x128 .f32) : FVec F S1x128x512 .bf16 :=
  shapeCast S1x128x512 (concatenate S128x512 0
    [⟨S64x512, extractStridedSlice S64x512 ![0, 0] (scaled x) slices_S128x512_o0_0_S64x512⟩, ⟨S64x512, besides (F := F)⟩]
    concatenates_S64x512_S64x512_S128x512_d0) shapeCasts_S128x512_S1x128x512

/-- The pair's second head, staged over zeros in the first's place. -/
def stageHi (x : Vec F S1x512x128 .f32) : FVec F S1x128x512 .bf16 :=
  shapeCast S1x128x512 (concatenate S128x512 0
    [⟨S64x512, besides (F := F)⟩, ⟨S64x512, extractStridedSlice S64x512 ![64, 0] (scaled x) slices_S128x512_o64_0_S64x512⟩]
    concatenates_S64x512_S64x512_S128x512_d0) shapeCasts_S128x512_S1x128x512

/-- One head's numerator over its denominator, whose eight partial sums are added up first. -/
def quot (a : Vec F S1x64x512 .f32) (d : Vec F S1x8x512 .f32) : FVec F S64x512 .f32 :=
  divf (shapeCast S64x512 a shapeCasts_S1x64x512_S64x512)
    (broadcastTo S64x512 (shapeCast S1x512 (multiReduction .add [0] S512 (shapeCast S8x512 d shapeCasts_S1x8x512_S8x512)
      0x00000000#32 reduces_S8x512_S512 (.inl rfl) rfl) shapeCasts_S512_S1x512) broadcasts_S1x512_S64x512)

/-- A pair of heads' quotients, back with the queries along the rows. -/
def outPair (a : Vec F S1x64x512 .f32) (d : Vec F S1x8x512 .f32) (a' : Vec F S1x64x512 .f32) (d' : Vec F S1x8x512 .f32) :
    FVec F S1x512x128 .bf16 :=
  shapeCast S1x512x128 (truncf .bf16 (transpose S512x128 [1, 0] (concatenate S128x512 0
    [⟨S64x512, quot a d⟩, ⟨S64x512, quot a' d'⟩] concatenates_S64x512_S64x512_S128x512_d0)
    transposes_S128x512_p1_0_S512x128) bitsLt_bf16_f32) shapeCasts_S512x128_S1x512x128

/-- Block `o` of the keys, loaded. -/
def keyRows (a : Memref sig .tc .vmem S1x4096x128 .bf16) (ha : a.IsWhole) (x : Vec F S1x4096x128 .bf16) (o : Fin 16) :
    FVec F S256x128 .bf16 :=
  shapeCast S256x128 (View.readAt (Elt F) a.view (Rect.unit (s := S1x4096x128) ![0, o.val * 256, 0] S1x256x128.size (rows_inb o)).toLoadRect
    (ha.unread x)) shapeCasts_S1x256x128_S256x128

/-- Block `o` of the values of key head `g`, loaded. -/
def valRows (a : Memref sig .tc .vmem S1x16x128x256 .bf16) (ha : a.IsWhole) (x : Vec F S1x16x128x256 .bf16) (g : Fin 2)
    (o : Fin 16) : FVec F S64x256 .bf16 :=
  shapeCast S64x256 (View.readAt (Elt F) a.view
    (Rect.unit (s := S1x16x128x256) ![0, o.val, g.val * 64, 0] S1x1x64x256.size (cols_inb o g)).toLoadRect (ha.unread x)) shapeCasts_S1x1x64x256_S64x256

/-- The block's exponentials, for the staged queries `q`. -/
def expT (k : FVec F S256x128 .bf16) (q : FVec F S128x512 .bf16) : FVec F S256x512 .f32 :=
  exp2 (matmul dot_S256x128_S128x512_S256x512_1_0_0_1_n_n none k q (constant S256x512 .f32 0x00000000#32))

/-- The denominator's step. -/
def denStep (d : FVec F S8x512 .f32) (e : FVec F S256x512 .f32) : FVec F S8x512 .f32 :=
  addf d (multiReduction .add [0] S8x512 (shapeCast S32x8x512 e shapeCasts_S256x512_S32x8x512) 0x00000000#32
    reduces_S32x8x512_S8x512 (.inl rfl) rfl)

/-- The numerator's step. -/
def accStep (a : FVec F S64x512 .f32) (v : FVec F S64x256 .bf16) (e : FVec F S256x512 .f32) : FVec F S64x512 .f32 :=
  addf a (matmul dot_S64x256_S256x512_S64x512_1_0_0_1_n_n none v (truncf .bf16 e bitsLt_bf16_f32)
    (constant S64x512 .f32 0x00000000#32))

/-- The key blocks, in the order the kernel takes them. -/
abbrev order : List (Fin 16) := [0, 1, 2, 3, 4, 5, 6, 7, 8, 9, 10, 11, 12, 13, 14, 15]

/-- The denominator after all blocks. -/
def denAll (k : Fin 16 → FVec F S256x128 .bf16) (q : FVec F S128x512 .bf16) (d : FVec F S8x512 .f32) : FVec F S8x512 .f32 :=
  order.foldl (fun d o => denStep d (expT (k o) q)) d

/-- The numerator after all blocks. -/
def accAll (k : Fin 16 → FVec F S256x128 .bf16) (v : Fin 16 → FVec F S64x256 .bf16) (q : FVec F S128x512 .bf16)
    (a : FVec F S64x512 .f32) : FVec F S64x512 .f32 :=
  order.foldl (fun a o => accStep a (v o) (expT (k o) q)) a

/-- Block `o` of the keys `x`. -/
def keyBlk (x : Vec F S1x4096x128 .bf16) (o : Fin 16) : FVec F S256x128 .bf16 :=
  shapeCast S256x128 (View.ld x (Rect.unit (s := S1x4096x128) ![0, o.val * 256, 0] S1x256x128.size (rows_inb o)))
    shapeCasts_S1x256x128_S256x128

/-- Block `o` of the values `x` of key head `g`. -/
def valBlk (x : Vec F S1x16x128x256 .bf16) (g : Fin 2) (o : Fin 16) : FVec F S64x256 .bf16 :=
  shapeCast S64x256 (View.ld x (Rect.unit (s := S1x16x128x256) ![0, o.val, g.val * 64, 0] S1x1x64x256.size (cols_inb o g)))
    shapeCasts_S1x1x64x256_S64x256

theorem keyRows_eq (a : Memref sig .tc .vmem S1x4096x128 .bf16) (ha : a.IsWhole) (x : Vec F S1x4096x128 .bf16) :
    keyRows a ha x = keyBlk x := by
  funext o
  unfold keyRows keyBlk
  rw [View.readAt_eq_ld, ha.read_unread]

theorem valRows_eq (a : Memref sig .tc .vmem S1x16x128x256 .bf16) (ha : a.IsWhole) (x : Vec F S1x16x128x256 .bf16) (g : Fin 2) :
    valRows a ha x g = valBlk x g := by
  funext o
  unfold valRows valBlk
  rw [View.readAt_eq_ld, ha.read_unread]

/-- Two heads' queries (128 lanes of the block), loaded. -/
def qPair (x : Vec F S1x512x512 .f32) (p : Fin 4) : Vec F S1x512x128 .f32 :=
  View.ld x (Rect.unit (s := S1x512x512) ![0, 0, p.val * 128] S1x512x128.size (pair_inb p))

/-- A head's numerator for the staged queries `q`. -/
def numer (k : Vec F S1x4096x128 .bf16) (v : Vec F S1x16x128x256 .bf16) (g : Fin 2) (q : FVec F S1x128x512 .bf16) :
    Vec F S1x64x512 .f32 :=
  shapeCast S1x64x512 (accAll (keyBlk k) (valBlk v g) (shapeCast S128x512 q shapeCasts_S1x128x512_S128x512)
    (constant S64x512 .f32 0x00000000#32)) shapeCasts_S64x512_S1x64x512

/-- A head's denominator, as eight partial sums. -/
def denom (k : Vec F S1x4096x128 .bf16) (q : FVec F S1x128x512 .bf16) : Vec F S1x8x512 .f32 :=
  shapeCast S1x8x512 (denAll (keyBlk k) (shapeCast S128x512 q shapeCasts_S1x128x512_S128x512)
    (constant S8x512 .f32 0x00000000#32)) shapeCasts_S8x512_S1x8x512

/-- The columns of the result that belong to the pair `p`: its first head takes its keys from `ke`, its second from `ko`. -/
def tileOf (x : Vec F S1x512x512 .f32) (ke ko : Vec F S1x4096x128 .bf16) (v : Vec F S1x16x128x256 .bf16) (p : Fin 4) (g : Fin 2) :
    FVec F S1x512x128 .bf16 :=
  outPair (numer ke v g (stageLo (qPair x p))) (denom ke (stageLo (qPair x p)))
    (numer ko v g (stageHi (qPair x p))) (denom ko (stageHi (qPair x p)))

end Cert.AttnStep
-- ==== Proof.AttnChain.lean ====
/- The last numerator and denominator of each head, as passes over the key blocks. -/
module

public import proofs.«01_k».proof.Proof.AttnStep

@[expose] public section

set_option maxRecDepth 16384

noncomputable section

namespace Cert.AttnChain

open Cert.KernelIdeal Cert.KernelIdeal.Gen Cert.AttnStep Idealize.ShloMosaic Idealize.ShloMosaic.TcCoe

variable {F : FTy → Type} [FloatOps F] [Named F]
variable (c : Dev nD) (arg2 : Memref sig .tc .vmem S1x512x512 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x16x128x256 .bf16) (harg5 : arg5.IsWhole) (arg7 : Memref sig .tc .vmem S8x128x512 .bf16) (arg8 : Memref sig .tc .vmem S8x64x512 .f32) (arg9 : Memref sig .tc .vmem S8x8x512 .f32)
variable (x0 : Vec F S1x512x512 .f32) (x1 : Vec F S1x4096x128 .bf16) (x2 : Vec F S1x4096x128 .bf16) (x3 : Vec F S1x16x128x256 .bf16)

theorem den0 : kernelRun0_A.sl.v2564 c arg2 harg2 arg3 harg3 arg7 arg9 x0 x1
    = denAll (keyRows arg3 harg3 x1) (shapeCast S128x512 (kernelRun0_A.sl.v366 c arg2 harg2 arg7 x0) shapeCasts_S1x128x512_S128x512) (kernelRun0_A.sl.v90 c arg9) := rfl

theorem acc0 : kernelRun0_A.sl.v2570 c arg2 harg2 arg3 harg3 arg5 harg5 arg7 arg8 x0 x1 x3
    = accAll (keyRows arg3 harg3 x1) (valRows arg5 harg5 x3 0) (shapeCast S128x512 (kernelRun0_A.sl.v366 c arg2 harg2 arg7 x0) shapeCasts_S1x128x512_S128x512)
      (kernelRun0_A.sl.v74 c arg8) := rfl

theorem den1 : kernelRun0_A.sl.v2582 c arg2 harg2 arg4 harg4 arg7 arg9 x0 x2
    = denAll (keyRows arg4 harg4 x2) (shapeCast S128x512 (kernelRun0_A.sl.v374 c arg2 harg2 arg7 x0) shapeCasts_S1x128x512_S128x512) (kernelRun0_A.sl.v92 c arg9) := rfl

theorem acc1 : kernelRun0_A.sl.v2588 c arg2 harg2 arg4 harg4 arg5 harg5 arg7 arg8 x0 x2 x3
    = accAll (keyRows arg4 harg4 x2) (valRows arg5 harg5 x3 0) (shapeCast S128x512 (kernelRun0_A.sl.v374 c arg2 harg2 arg7 x0) shapeCasts_S1x128x512_S128x512)
      (kernelRun0_A.sl.v76 c arg8) := rfl

theorem den2 : kernelRun0_A.sl.v2600 c arg2 harg2 arg3 harg3 arg7 arg9 x0 x1
    = denAll (keyRows arg3 harg3 x1) (shapeCast S128x512 (kernelRun0_A.sl.v382 c arg2 harg2 arg7 x0) shapeCasts_S1x128x512_S128x512) (kernelRun0_A.sl.v94 c arg9) := rfl

theorem acc2 : kernelRun0_A.sl.v2606 c arg2 harg2 arg3 harg3 arg5 harg5 arg7 arg8 x0 x1 x3
    = accAll (keyRows arg3 harg3 x1) (valRows arg5 harg5 x3 0) (shapeCast S128x512 (kernelRun0_A.sl.v382 c arg2 harg2 arg7 x0) shapeCasts_S1x128x512_S128x512)
      (kernelRun0_A.sl.v78 c arg8) := rfl

theorem den3 : kernelRun0_A.sl.v2618 c arg2 harg2 arg4 harg4 arg7 arg9 x0 x2
    = denAll (keyRows arg4 harg4 x2) (shapeCast S128x512 (kernelRun0_A.sl.v390 c arg2 harg2 arg7 x0) shapeCasts_S1x128x512_S128x512) (kernelRun0_A.sl.v96 c arg9) := rfl

theorem acc3 : kernelRun0_A.sl.v2624 c arg2 harg2 arg4 harg4 arg5 harg5 arg7 arg8 x0 x2 x3
    = accAll (keyRows arg4 harg4 x2) (valRows arg5 harg5 x3 0) (shapeCast S128x512 (kernelRun0_A.sl.v390 c arg2 harg2 arg7 x0) shapeCasts_S1x128x512_S128x512)
      (kernelRun0_A.sl.v80 c arg8) := rfl

theorem den4 : kernelRun0_A.sl.v2628 c arg2 harg2 arg4 harg4 arg7 arg9 x0 x2
    = denAll (keyRows arg4 harg4 x2) (shapeCast S128x512 (kernelRun0_A.sl.v398 c arg2 harg2 arg7 x0) shapeCasts_S1x128x512_S128x512) (kernelRun0_A.sl.v98 c arg9) := rfl

theorem acc4 : kernelRun0_A.sl.v2634 c arg2 harg2 arg4 harg4 arg5 harg5 arg7 arg8 x0 x2 x3
    = accAll (keyRows arg4 harg4 x2) (valRows arg5 harg5 x3 1) (shapeCast S128x512 (kernelRun0_A.sl.v398 c arg2 harg2 arg7 x0) shapeCasts_S1x128x512_S128x512)
      (kernelRun0_A.sl.v82 c arg8) := rfl

theorem den5 : kernelRun0_A.sl.v2638 c arg2 harg2 arg3 harg3 arg7 arg9 x0 x1
    = denAll (keyRows arg3 harg3 x1) (shapeCast S128x512 (kernelRun0_A.sl.v416 c arg2 harg2 arg7 x0) shapeCasts_S1x128x512_S128x512) (kernelRun0_A.sl.v100 c arg9) := rfl

theorem acc5 : kernelRun0_A.sl.v2644 c arg2 harg2 arg3 harg3 arg5 harg5 arg7 arg8 x0 x1 x3
    = accAll (keyRows arg3 harg3 x1) (valRows arg5 harg5 x3 1) (shapeCast S128x512 (kernelRun0_A.sl.v416 c arg2 harg2 arg7 x0) shapeCasts_S1x128x512_S128x512)
      (kernelRun0_A.sl.v84 c arg8) := rfl

theorem den6 : kernelRun0_A.sl.v2648 c arg2 harg2 arg4 harg4 arg7 arg9 x0 x2
    = denAll (keyRows arg4 harg4 x2) (shapeCast S128x512 (kernelRun0_A.sl.v434 c arg2 harg2 arg7 x0) shapeCasts_S1x128x512_S128x512) (kernelRun0_A.sl.v102 c arg9) := rfl

theorem acc6 : kernelRun0_A.sl.v2654 c arg2 harg2 arg4 harg4 arg5 harg5 arg7 arg8 x0 x2 x3
    = accAll (keyRows arg4 harg4 x2) (valRows arg5 harg5 x3 1) (shapeCast S128x512 (kernelRun0_A.sl.v434 c arg2 harg2 arg7 x0) shapeCasts_S1x128x512_S128x512)
      (kernelRun0_A.sl.v86 c arg8) := rfl

theorem den7 : kernelRun0_A.sl.v2658 c arg2 harg2 arg3 harg3 arg7 arg9 x0 x1
    = denAll (keyRows arg3 harg3 x1) (shapeCast S128x512 (kernelRun0_A.sl.v452 c arg2 harg2 arg7 x0) shapeCasts_S1x128x512_S128x512) (kernelRun0_A.sl.v104 c arg9) := rfl

theorem acc7 : kernelRun0_A.sl.v2664 c arg2 harg2 arg3 harg3 arg5 harg5 arg7 arg8 x0 x1 x3
    = accAll (keyRows arg3 harg3 x1) (valRows arg5 harg5 x3 1) (shapeCast S128x512 (kernelRun0_A.sl.v452 c arg2 harg2 arg7 x0) shapeCasts_S1x128x512_S128x512)
      (kernelRun0_A.sl.v88 c arg8) := rfl

end Cert.AttnChain
-- ==== Proof.AttnReads.lean ====
/- What the kernel reads back from its scratch buffers: the staged queries, the zeroed sums, each head's last sums. -/
module

public import proofs.«01_k».proof.Proof.AttnChain
public import Idealize.ShloMosaic.Lib.Pipeline.ReadBack

@[expose] public section

set_option maxRecDepth 16384

noncomputable section

namespace Cert.AttnReads

open Cert.KernelIdeal Cert.KernelIdeal.Gen Cert.AttnStep Idealize.ShloMosaic Idealize.ShloMosaic.TcCoe

variable {F : FTy → Type} [FloatOps F] [Named F]
variable (c : Dev nD) (arg2 : Memref sig .tc .vmem S1x512x512 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x16x128x256 .bf16) (harg5 : arg5.IsWhole) (arg7 : Memref sig .tc .vmem S8x128x512 .bf16) (arg8 : Memref sig .tc .vmem S8x64x512 .f32) (arg9 : Memref sig .tc .vmem S8x8x512 .f32)
variable (x0 : Vec F S1x512x512 .f32) (x1 : Vec F S1x4096x128 .bf16) (x2 : Vec F S1x4096x128 .bf16) (x3 : Vec F S1x16x128x256 .bf16)

theorem staged0 : kernelRun0_A.sl.v366 c arg2 harg2 arg7 x0 = stageLo (qPair x0 0) := by
  unfold kernelRun0_A.sl.v366 kernelRun0_A.sl.HS0_8
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect, View.readAt_eq_ld, harg2.read_unread]
  rfl

theorem staged1 : kernelRun0_A.sl.v374 c arg2 harg2 arg7 x0 = stageHi (qPair x0 0) := by
  unfold kernelRun0_A.sl.v374 kernelRun0_A.sl.HS0_8
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect, View.readAt_eq_ld, harg2.read_unread]
  rfl

theorem staged2 : kernelRun0_A.sl.v382 c arg2 harg2 arg7 x0 = stageLo (qPair x0 1) := by
  unfold kernelRun0_A.sl.v382 kernelRun0_A.sl.HS0_8
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect, View.readAt_eq_ld, harg2.read_unread]
  rfl

theorem staged3 : kernelRun0_A.sl.v390 c arg2 harg2 arg7 x0 = stageHi (qPair x0 1) := by
  unfold kernelRun0_A.sl.v390 kernelRun0_A.sl.HS0_8
  rw [View.readCov_skip _ _ _ _ _ (by decide), View.readCov_skip _ _ _ _ _ (by decide), View.readCov_skip _ _ _ _ _ (by decide), View.readCov_skip _ _ _ _ _ (by decide), View.readCov_cons_toLoadRect, View.readAt_eq_ld, harg2.read_unread]
  rfl

theorem staged4 : kernelRun0_A.sl.v398 c arg2 harg2 arg7 x0 = stageLo (qPair x0 2) := by
  unfold kernelRun0_A.sl.v398 kernelRun0_A.sl.HS0_8
  rw [View.readCov_skip _ _ _ _ _ (by decide), View.readCov_skip _ _ _ _ _ (by decide), View.readCov_skip _ _ _ _ _ (by decide), View.readCov_cons_toLoadRect, View.readAt_eq_ld, harg2.read_unread]
  rfl

theorem staged5 : kernelRun0_A.sl.v416 c arg2 harg2 arg7 x0 = stageHi (qPair x0 2) := by
  unfold kernelRun0_A.sl.v416 kernelRun0_A.sl.HS0_8
  rw [View.readCov_skip _ _ _ _ _ (by decide), View.readCov_skip _ _ _ _ _ (by decide), View.readCov_cons_toLoadRect, View.readAt_eq_ld, harg2.read_unread]
  rfl

theorem staged6 : kernelRun0_A.sl.v434 c arg2 harg2 arg7 x0 = stageLo (qPair x0 3) := by
  unfold kernelRun0_A.sl.v434 kernelRun0_A.sl.HS0_8
  rw [View.readCov_skip _ _ _ _ _ (by decide), View.readCov_cons_toLoadRect, View.readAt_eq_ld, harg2.read_unread]
  rfl

theorem staged7 : kernelRun0_A.sl.v452 c arg2 harg2 arg7 x0 = stageHi (qPair x0 3) := by
  unfold kernelRun0_A.sl.v452 kernelRun0_A.sl.HS0_8
  rw [View.readCov_cons_toLoadRect, View.readAt_eq_ld, harg2.read_unread]
  rfl

theorem accZero0 : kernelRun0_A.sl.v74 (F := F) c arg8 = constant S64x512 .f32 0x00000000#32 := by
  unfold kernelRun0_A.sl.v74 kernelRun0_A.sl.v73 kernelRun0_A.sl.HS1_1
  rw [View.readCov_fill _ _ _ _ _ (by decide)]
  rfl

theorem denZero0 : kernelRun0_A.sl.v90 (F := F) c arg9 = constant S8x512 .f32 0x00000000#32 := by
  unfold kernelRun0_A.sl.v90 kernelRun0_A.sl.v89 kernelRun0_A.sl.HS2_1
  rw [View.readCov_fill _ _ _ _ _ (by decide)]
  rfl

theorem accZero1 : kernelRun0_A.sl.v76 (F := F) c arg8 = constant S64x512 .f32 0x00000000#32 := by
  unfold kernelRun0_A.sl.v76 kernelRun0_A.sl.v75 kernelRun0_A.sl.HS1_1
  rw [View.readCov_fill _ _ _ _ _ (by decide)]
  rfl

theorem denZero1 : kernelRun0_A.sl.v92 (F := F) c arg9 = constant S8x512 .f32 0x00000000#32 := by
  unfold kernelRun0_A.sl.v92 kernelRun0_A.sl.v91 kernelRun0_A.sl.HS2_1
  rw [View.readCov_fill _ _ _ _ _ (by decide)]
  rfl

theorem accZero2 : kernelRun0_A.sl.v78 (F := F) c arg8 = constant S64x512 .f32 0x00000000#32 := by
  unfold kernelRun0_A.sl.v78 kernelRun0_A.sl.v77 kernelRun0_A.sl.HS1_1
  rw [View.readCov_fill _ _ _ _ _ (by decide)]
  rfl

theorem denZero2 : kernelRun0_A.sl.v94 (F := F) c arg9 = constant S8x512 .f32 0x00000000#32 := by
  unfold kernelRun0_A.sl.v94 kernelRun0_A.sl.v93 kernelRun0_A.sl.HS2_1
  rw [View.readCov_fill _ _ _ _ _ (by decide)]
  rfl

theorem accZero3 : kernelRun0_A.sl.v80 (F := F) c arg8 = constant S64x512 .f32 0x00000000#32 := by
  unfold kernelRun0_A.sl.v80 kernelRun0_A.sl.v79 kernelRun0_A.sl.HS1_1
  rw [View.readCov_fill _ _ _ _ _ (by decide)]
  rfl

theorem denZero3 : kernelRun0_A.sl.v96 (F := F) c arg9 = constant S8x512 .f32 0x00000000#32 := by
  unfold kernelRun0_A.sl.v96 kernelRun0_A.sl.v95 kernelRun0_A.sl.HS2_1
  rw [View.readCov_fill _ _ _ _ _ (by decide)]
  rfl

theorem accZero4 : kernelRun0_A.sl.v82 (F := F) c arg8 = constant S64x512 .f32 0x00000000#32 := by
  unfold kernelRun0_A.sl.v82 kernelRun0_A.sl.v81 kernelRun0_A.sl.HS1_1
  rw [View.readCov_fill _ _ _ _ _ (by decide)]
  rfl

theorem denZero4 : kernelRun0_A.sl.v98 (F := F) c arg9 = constant S8x512 .f32 0x00000000#32 := by
  unfold kernelRun0_A.sl.v98 kernelRun0_A.sl.v97 kernelRun0_A.sl.HS2_1
  rw [View.readCov_fill _ _ _ _ _ (by decide)]
  rfl

theorem accZero5 : kernelRun0_A.sl.v84 (F := F) c arg8 = constant S64x512 .f32 0x00000000#32 := by
  unfold kernelRun0_A.sl.v84 kernelRun0_A.sl.v83 kernelRun0_A.sl.HS1_1
  rw [View.readCov_fill _ _ _ _ _ (by decide)]
  rfl

theorem denZero5 : kernelRun0_A.sl.v100 (F := F) c arg9 = constant S8x512 .f32 0x00000000#32 := by
  unfold kernelRun0_A.sl.v100 kernelRun0_A.sl.v99 kernelRun0_A.sl.HS2_1
  rw [View.readCov_fill _ _ _ _ _ (by decide)]
  rfl

theorem accZero6 : kernelRun0_A.sl.v86 (F := F) c arg8 = constant S64x512 .f32 0x00000000#32 := by
  unfold kernelRun0_A.sl.v86 kernelRun0_A.sl.v85 kernelRun0_A.sl.HS1_1
  rw [View.readCov_fill _ _ _ _ _ (by decide)]
  rfl

theorem denZero6 : kernelRun0_A.sl.v102 (F := F) c arg9 = constant S8x512 .f32 0x00000000#32 := by
  unfold kernelRun0_A.sl.v102 kernelRun0_A.sl.v101 kernelRun0_A.sl.HS2_1
  rw [View.readCov_fill _ _ _ _ _ (by decide)]
  rfl

theorem accZero7 : kernelRun0_A.sl.v88 (F := F) c arg8 = constant S64x512 .f32 0x00000000#32 := by
  unfold kernelRun0_A.sl.v88 kernelRun0_A.sl.v87 kernelRun0_A.sl.HS1_1
  rw [View.readCov_fill _ _ _ _ _ (by decide)]
  rfl

theorem denZero7 : kernelRun0_A.sl.v104 (F := F) c arg9 = constant S8x512 .f32 0x00000000#32 := by
  unfold kernelRun0_A.sl.v104 kernelRun0_A.sl.v103 kernelRun0_A.sl.HS2_1
  rw [View.readCov_fill _ _ _ _ _ (by decide)]
  rfl

theorem accLast0 : kernelRun0_A.sl.v2713 c arg2 harg2 arg3 harg3 arg4 harg4 arg5 harg5 arg7 arg8 x0 x1 x2 x3
    = numer x1 x3 0 (stageLo (qPair x0 0)) := by
  unfold kernelRun0_A.sl.v2713 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  show shapeCast S1x64x512 (kernelRun0_A.sl.v2570 c arg2 harg2 arg3 harg3 arg5 harg5 arg7 arg8 x0 x1 x3) shapeCasts_S64x512_S1x64x512 = _
  rw [AttnChain.acc0, staged0, accZero0, keyRows_eq, valRows_eq]
  rfl

theorem denLast0 : kernelRun0_A.sl.v2715 c arg2 harg2 arg3 harg3 arg4 harg4 arg7 arg9 x0 x1 x2
    = denom x1 (stageLo (qPair x0 0)) := by
  unfold kernelRun0_A.sl.v2715 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  show shapeCast S1x8x512 (kernelRun0_A.sl.v2564 c arg2 harg2 arg3 harg3 arg7 arg9 x0 x1) shapeCasts_S8x512_S1x8x512 = _
  rw [AttnChain.den0, staged0, denZero0, keyRows_eq]
  rfl

theorem accLast1 : kernelRun0_A.sl.v2721 c arg2 harg2 arg3 harg3 arg4 harg4 arg5 harg5 arg7 arg8 x0 x1 x2 x3
    = numer x2 x3 0 (stageHi (qPair x0 0)) := by
  unfold kernelRun0_A.sl.v2721 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  show shapeCast S1x64x512 (kernelRun0_A.sl.v2588 c arg2 harg2 arg4 harg4 arg5 harg5 arg7 arg8 x0 x2 x3) shapeCasts_S64x512_S1x64x512 = _
  rw [AttnChain.acc1, staged1, accZero1, keyRows_eq, valRows_eq]
  rfl

theorem denLast1 : kernelRun0_A.sl.v2723 c arg2 harg2 arg3 harg3 arg4 harg4 arg7 arg9 x0 x1 x2
    = denom x2 (stageHi (qPair x0 0)) := by
  unfold kernelRun0_A.sl.v2723 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  show shapeCast S1x8x512 (kernelRun0_A.sl.v2582 c arg2 harg2 arg4 harg4 arg7 arg9 x0 x2) shapeCasts_S8x512_S1x8x512 = _
  rw [AttnChain.den1, staged1, denZero1, keyRows_eq]
  rfl

theorem accLast2 : kernelRun0_A.sl.v2735 c arg2 harg2 arg3 harg3 arg4 harg4 arg5 harg5 arg7 arg8 x0 x1 x2 x3
    = numer x1 x3 0 (stageLo (qPair x0 1)) := by
  unfold kernelRun0_A.sl.v2735 kernelRun0_A.sl.HS1_9 kernelRun0_A.sl.HS1_8 kernelRun0_A.sl.HS1_7 kernelRun0_A.sl.HS1_6 kernelRun0_A.sl.HS1_5 kernelRun0_A.sl.HS1_4
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  show shapeCast S1x64x512 (kernelRun0_A.sl.v2606 c arg2 harg2 arg3 harg3 arg5 harg5 arg7 arg8 x0 x1 x3) shapeCasts_S64x512_S1x64x512 = _
  rw [AttnChain.acc2, staged2, accZero2, keyRows_eq, valRows_eq]
  rfl

theorem denLast2 : kernelRun0_A.sl.v2737 c arg2 harg2 arg3 harg3 arg4 harg4 arg7 arg9 x0 x1 x2
    = denom x1 (stageLo (qPair x0 1)) := by
  unfold kernelRun0_A.sl.v2737 kernelRun0_A.sl.HS2_9 kernelRun0_A.sl.HS2_8 kernelRun0_A.sl.HS2_7 kernelRun0_A.sl.HS2_6 kernelRun0_A.sl.HS2_5 kernelRun0_A.sl.HS2_4
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  show shapeCast S1x8x512 (kernelRun0_A.sl.v2600 c arg2 harg2 arg3 harg3 arg7 arg9 x0 x1) shapeCasts_S8x512_S1x8x512 = _
  rw [AttnChain.den2, staged2, denZero2, keyRows_eq]
  rfl

theorem accLast3 : kernelRun0_A.sl.v2743 c arg2 harg2 arg3 harg3 arg4 harg4 arg5 harg5 arg7 arg8 x0 x1 x2 x3
    = numer x2 x3 0 (stageHi (qPair x0 1)) := by
  unfold kernelRun0_A.sl.v2743 kernelRun0_A.sl.HS1_9 kernelRun0_A.sl.HS1_8 kernelRun0_A.sl.HS1_7 kernelRun0_A.sl.HS1_6 kernelRun0_A.sl.HS1_5
  rw [View.readCov_skip _ _ _ _ _ (by decide), View.readCov_skip _ _ _ _ _ (by decide), View.readCov_skip _ _ _ _ _ (by decide), View.readCov_skip _ _ _ _ _ (by decide), View.readCov_cons_toLoadRect]
  show shapeCast S1x64x512 (kernelRun0_A.sl.v2624 c arg2 harg2 arg4 harg4 arg5 harg5 arg7 arg8 x0 x2 x3) shapeCasts_S64x512_S1x64x512 = _
  rw [AttnChain.acc3, staged3, accZero3, keyRows_eq, valRows_eq]
  rfl

theorem denLast3 : kernelRun0_A.sl.v2745 c arg2 harg2 arg3 harg3 arg4 harg4 arg7 arg9 x0 x1 x2
    = denom x2 (stageHi (qPair x0 1)) := by
  unfold kernelRun0_A.sl.v2745 kernelRun0_A.sl.HS2_9 kernelRun0_A.sl.HS2_8 kernelRun0_A.sl.HS2_7 kernelRun0_A.sl.HS2_6 kernelRun0_A.sl.HS2_5
  rw [View.readCov_skip _ _ _ _ _ (by decide), View.readCov_skip _ _ _ _ _ (by decide), View.readCov_skip _ _ _ _ _ (by decide), View.readCov_skip _ _ _ _ _ (by decide), View.readCov_cons_toLoadRect]
  show shapeCast S1x8x512 (kernelRun0_A.sl.v2618 c arg2 harg2 arg4 harg4 arg7 arg9 x0 x2) shapeCasts_S8x512_S1x8x512 = _
  rw [AttnChain.den3, staged3, denZero3, keyRows_eq]
  rfl

theorem accLast4 : kernelRun0_A.sl.v2757 c arg2 harg2 arg3 harg3 arg4 harg4 arg5 harg5 arg7 arg8 x0 x1 x2 x3
    = numer x2 x3 1 (stageLo (qPair x0 2)) := by
  unfold kernelRun0_A.sl.v2757 kernelRun0_A.sl.HS1_9 kernelRun0_A.sl.HS1_8 kernelRun0_A.sl.HS1_7 kernelRun0_A.sl.HS1_6
  rw [View.readCov_skip _ _ _ _ _ (by decide), View.readCov_skip _ _ _ _ _ (by decide), View.readCov_skip _ _ _ _ _ (by decide), View.readCov_cons_toLoadRect]
  show shapeCast S1x64x512 (kernelRun0_A.sl.v2634 c arg2 harg2 arg4 harg4 arg5 harg5 arg7 arg8 x0 x2 x3) shapeCasts_S64x512_S1x64x512 = _
  rw [AttnChain.acc4, staged4, accZero4, keyRows_eq, valRows_eq]
  rfl

theorem denLast4 : kernelRun0_A.sl.v2759 c arg2 harg2 arg3 harg3 arg4 harg4 arg7 arg9 x0 x1 x2
    = denom x2 (stageLo (qPair x0 2)) := by
  unfold kernelRun0_A.sl.v2759 kernelRun0_A.sl.HS2_9 kernelRun0_A.sl.HS2_8 kernelRun0_A.sl.HS2_7 kernelRun0_A.sl.HS2_6
  rw [View.readCov_skip _ _ _ _ _ (by decide), View.readCov_skip _ _ _ _ _ (by decide), View.readCov_skip _ _ _ _ _ (by decide), View.readCov_cons_toLoadRect]
  show shapeCast S1x8x512 (kernelRun0_A.sl.v2628 c arg2 harg2 arg4 harg4 arg7 arg9 x0 x2) shapeCasts_S8x512_S1x8x512 = _
  rw [AttnChain.den4, staged4, denZero4, keyRows_eq]
  rfl

theorem accLast5 : kernelRun0_A.sl.v2765 c arg2 harg2 arg3 harg3 arg4 harg4 arg5 harg5 arg7 arg8 x0 x1 x2 x3
    = numer x1 x3 1 (stageHi (qPair x0 2)) := by
  unfold kernelRun0_A.sl.v2765 kernelRun0_A.sl.HS1_9 kernelRun0_A.sl.HS1_8 kernelRun0_A.sl.HS1_7
  rw [View.readCov_skip _ _ _ _ _ (by decide), View.readCov_skip _ _ _ _ _ (by decide), View.readCov_cons_toLoadRect]
  show shapeCast S1x64x512 (kernelRun0_A.sl.v2644 c arg2 harg2 arg3 harg3 arg5 harg5 arg7 arg8 x0 x1 x3) shapeCasts_S64x512_S1x64x512 = _
  rw [AttnChain.acc5, staged5, accZero5, keyRows_eq, valRows_eq]
  rfl

theorem denLast5 : kernelRun0_A.sl.v2767 c arg2 harg2 arg3 harg3 arg4 harg4 arg7 arg9 x0 x1 x2
    = denom x1 (stageHi (qPair x0 2)) := by
  unfold kernelRun0_A.sl.v2767 kernelRun0_A.sl.HS2_9 kernelRun0_A.sl.HS2_8 kernelRun0_A.sl.HS2_7
  rw [View.readCov_skip _ _ _ _ _ (by decide), View.readCov_skip _ _ _ _ _ (by decide), View.readCov_cons_toLoadRect]
  show shapeCast S1x8x512 (kernelRun0_A.sl.v2638 c arg2 harg2 arg3 harg3 arg7 arg9 x0 x1) shapeCasts_S8x512_S1x8x512 = _
  rw [AttnChain.den5, staged5, denZero5, keyRows_eq]
  rfl

theorem accLast6 : kernelRun0_A.sl.v2779 c arg2 harg2 arg3 harg3 arg4 harg4 arg5 harg5 arg7 arg8 x0 x1 x2 x3
    = numer x2 x3 1 (stageLo (qPair x0 3)) := by
  unfold kernelRun0_A.sl.v2779 kernelRun0_A.sl.HS1_9 kernelRun0_A.sl.HS1_8
  rw [View.readCov_skip _ _ _ _ _ (by decide), View.readCov_cons_toLoadRect]
  show shapeCast S1x64x512 (kernelRun0_A.sl.v2654 c arg2 harg2 arg4 harg4 arg5 harg5 arg7 arg8 x0 x2 x3) shapeCasts_S64x512_S1x64x512 = _
  rw [AttnChain.acc6, staged6, accZero6, keyRows_eq, valRows_eq]
  rfl

theorem denLast6 : kernelRun0_A.sl.v2781 c arg2 harg2 arg3 harg3 arg4 harg4 arg7 arg9 x0 x1 x2
    = denom x2 (stageLo (qPair x0 3)) := by
  unfold kernelRun0_A.sl.v2781 kernelRun0_A.sl.HS2_9 kernelRun0_A.sl.HS2_8
  rw [View.readCov_skip _ _ _ _ _ (by decide), View.readCov_cons_toLoadRect]
  show shapeCast S1x8x512 (kernelRun0_A.sl.v2648 c arg2 harg2 arg4 harg4 arg7 arg9 x0 x2) shapeCasts_S8x512_S1x8x512 = _
  rw [AttnChain.den6, staged6, denZero6, keyRows_eq]
  rfl

theorem accLast7 : kernelRun0_A.sl.v2787 c arg2 harg2 arg3 harg3 arg4 harg4 arg5 harg5 arg7 arg8 x0 x1 x2 x3
    = numer x1 x3 1 (stageHi (qPair x0 3)) := by
  unfold kernelRun0_A.sl.v2787 kernelRun0_A.sl.HS1_9
  rw [View.readCov_cons_toLoadRect]
  show shapeCast S1x64x512 (kernelRun0_A.sl.v2664 c arg2 harg2 arg3 harg3 arg5 harg5 arg7 arg8 x0 x1 x3) shapeCasts_S64x512_S1x64x512 = _
  rw [AttnChain.acc7, staged7, accZero7, keyRows_eq, valRows_eq]
  rfl

theorem denLast7 : kernelRun0_A.sl.v2789 c arg2 harg2 arg3 harg3 arg4 harg4 arg7 arg9 x0 x1 x2
    = denom x1 (stageHi (qPair x0 3)) := by
  unfold kernelRun0_A.sl.v2789 kernelRun0_A.sl.HS2_9
  rw [View.readCov_cons_toLoadRect]
  show shapeCast S1x8x512 (kernelRun0_A.sl.v2658 c arg2 harg2 arg3 harg3 arg7 arg9 x0 x1) shapeCasts_S8x512_S1x8x512 = _
  rw [AttnChain.den7, staged7, denZero7, keyRows_eq]
  rfl

theorem tile0 : kernelRun0_A.sl.v2734 c arg2 harg2 arg3 harg3 arg4 harg4 arg5 harg5 arg7 arg8 arg9 x0 x1 x2 x3
    = tileOf x0 x1 x2 x3 0 0 := by
  show outPair (kernelRun0_A.sl.v2713 c arg2 harg2 arg3 harg3 arg4 harg4 arg5 harg5 arg7 arg8 x0 x1 x2 x3) (kernelRun0_A.sl.v2715 c arg2 harg2 arg3 harg3 arg4 harg4 arg7 arg9 x0 x1 x2) (kernelRun0_A.sl.v2721 c arg2 harg2 arg3 harg3 arg4 harg4 arg5 harg5 arg7 arg8 x0 x1 x2 x3) (kernelRun0_A.sl.v2723 c arg2 harg2 arg3 harg3 arg4 harg4 arg7 arg9 x0 x1 x2) = _
  rw [accLast0, denLast0, accLast1, denLast1]
  rfl

theorem tile1 : kernelRun0_A.sl.v2756 c arg2 harg2 arg3 harg3 arg4 harg4 arg5 harg5 arg7 arg8 arg9 x0 x1 x2 x3
    = tileOf x0 x1 x2 x3 1 0 := by
  show outPair (kernelRun0_A.sl.v2735 c arg2 harg2 arg3 harg3 arg4 harg4 arg5 harg5 arg7 arg8 x0 x1 x2 x3) (kernelRun0_A.sl.v2737 c arg2 harg2 arg3 harg3 arg4 harg4 arg7 arg9 x0 x1 x2) (kernelRun0_A.sl.v2743 c arg2 harg2 arg3 harg3 arg4 harg4 arg5 harg5 arg7 arg8 x0 x1 x2 x3) (kernelRun0_A.sl.v2745 c arg2 harg2 arg3 harg3 arg4 harg4 arg7 arg9 x0 x1 x2) = _
  rw [accLast2, denLast2, accLast3, denLast3]
  rfl

theorem tile2 : kernelRun0_A.sl.v2778 c arg2 harg2 arg3 harg3 arg4 harg4 arg5 harg5 arg7 arg8 arg9 x0 x1 x2 x3
    = tileOf x0 x2 x1 x3 2 1 := by
  show outPair (kernelRun0_A.sl.v2757 c arg2 harg2 arg3 harg3 arg4 harg4 arg5 harg5 arg7 arg8 x0 x1 x2 x3) (kernelRun0_A.sl.v2759 c arg2 harg2 arg3 harg3 arg4 harg4 arg7 arg9 x0 x1 x2) (kernelRun0_A.sl.v2765 c arg2 harg2 arg3 harg3 arg4 harg4 arg5 harg5 arg7 arg8 x0 x1 x2 x3) (kernelRun0_A.sl.v2767 c arg2 harg2 arg3 harg3 arg4 harg4 arg7 arg9 x0 x1 x2) = _
  rw [accLast4, denLast4, accLast5, denLast5]
  rfl

theorem tile3 : k0_pay567 (kernelRun0_A.sl.v2779 c arg2 harg2 arg3 harg3 arg4 harg4 arg5 harg5 arg7 arg8 x0 x1 x2 x3) (kernelRun0_A.sl.v2781 c arg2 harg2 arg3 harg3 arg4 harg4 arg7 arg9 x0 x1 x2) (kernelRun0_A.sl.v2787 c arg2 harg2 arg3 harg3 arg4 harg4 arg5 harg5 arg7 arg8 x0 x1 x2 x3) (kernelRun0_A.sl.v2789 c arg2 harg2 arg3 harg3 arg4 harg4 arg7 arg9 x0 x1 x2)
    = tileOf x0 x2 x1 x3 3 1 := by
  rw [accLast6, denLast6, accLast7, denLast7]
  rfl

theorem pieces (i : grid0.Coords) (arg6 : Memref sig .tc .vmem S1x512x512 .bf16) (harg6 : arg6.IsWhole) (harg7 : arg7.IsWhole)
    (harg8 : arg8.IsWhole) (harg9 : arg9.IsWhole) :
    (kernelRun0_A c i arg2 harg2 arg3 harg3 arg4 harg4 arg5 harg5 arg6 harg6 arg7 harg7 arg8 harg8 arg9 harg9 x0 x1 x2 x3).1
      = [⟨Rect.unit ![0, 0, 384] ![1, 512, 128] inb_S1x512x512_S1x512x128_0_0_384, tileOf x0 x2 x1 x3 3 1⟩,
         ⟨Rect.unit ![0, 0, 256] ![1, 512, 128] inb_S1x512x512_S1x512x128_0_0_256, tileOf x0 x2 x1 x3 2 1⟩,
         ⟨Rect.unit ![0, 0, 128] ![1, 512, 128] inb_S1x512x512_S1x512x128_0_0_128, tileOf x0 x1 x2 x3 1 0⟩,
         ⟨Rect.unit ![0, 0, 0] ![1, 512, 128] inb_S1x512x512_S1x512x128_0_0_0, tileOf x0 x1 x2 x3 0 0⟩] := by
  unfold kernelRun0_A
  dsimp only
  rw [tile0, tile1, tile2, tile3]

end Cert.AttnReads
-- ==== Proof.AttnBlock.lean ====
/- The attention's vector operations read at an index, over the extended reals. -/
module

public import proofs.«01_k».proof.Proof.AttnStep
public import Idealize.ShloMosaic.Lib.Pointwise
public import Idealize.ShloMosaic.Lib.IdealHost
public import Idealize.ShloMosaic.Lib.Pipeline.ValueKit

@[expose] public section

noncomputable section

namespace Cert.AttnBlock

open Cert.KernelIdeal Cert.KernelIdeal.Gen Cert.AttnStep Idealize.ShloMosaic

/-- The scale of the queries: an eighth, to the base two. -/
def sc : EReal := Named.named (F := Ideal) κ "s" (φ := .f32) 0x3E38AA3B#32

section Steps

theorem expT_at (k : FVec Ideal S256x128 .bf16) (q : FVec Ideal S128x512 .bf16) (j : Fin 256) (r : Fin 512) :
    expT k q (ix2 j r) = Ideal.exp2 (∑ l : Fin 128, k (ix2 j l) * q (ix2 l r)) := by
  unfold expT; simp only [pointwise, zero_add]; rfl

theorem denStep_at (d : FVec Ideal S8x512 .f32) (e : FVec Ideal S256x512 .f32) (s : Fin 8) (r : Fin 512) :
    denStep d e (ix2 s r) = d (ix2 s r) + ∑ a : Fin 32, e (ix2 ⟨a.val * 8 + s.val, by omega⟩ r) := by
  unfold denStep; simp only [pointwise]

theorem accStep_at (a : FVec Ideal S64x512 .f32) (v : FVec Ideal S64x256 .bf16) (e : FVec Ideal S256x512 .f32)
    (i : Fin 64) (r : Fin 512) :
    accStep a v e (ix2 i r) = a (ix2 i r) + ∑ j : Fin 256, v (ix2 i j) * e (ix2 j r) := by
  unfold accStep; simp only [pointwise, zero_add]

theorem foldl_add {ι X : Type} (l : List ι) (st : (X → EReal) → ι → X → EReal) (x : X) (f : ι → EReal)
    (h : ∀ d o, st d o x = d x + f o) (d : X → EReal) : l.foldl st d x = d x + (l.map f).sum := by
  induction l generalizing d with
  | nil => simp
  | cons o l ih => rw [List.foldl_cons, ih, h, List.map_cons, List.sum_cons, add_assoc]

theorem order_sum (f : Fin 16 → EReal) : (order.map f).sum = ∑ o : Fin 16, f o := by
  rw [Fin.sum_univ_def]; rfl

theorem denAll_at (k : Fin 16 → FVec Ideal S256x128 .bf16) (q : FVec Ideal S128x512 .bf16) (d : FVec Ideal S8x512 .f32)
    (s : Fin 8) (r : Fin 512) :
    denAll k q d (ix2 s r) = d (ix2 s r) + ∑ o : Fin 16, ∑ a : Fin 32, expT (k o) q (ix2 ⟨a.val * 8 + s.val, by omega⟩ r) := by
  unfold denAll
  rw [foldl_add order (fun d o => denStep d (expT (k o) q)) (ix2 s r) _ (fun d o => denStep_at d _ s r), order_sum]

theorem accAll_at (k : Fin 16 → FVec Ideal S256x128 .bf16) (v : Fin 16 → FVec Ideal S64x256 .bf16)
    (q : FVec Ideal S128x512 .bf16) (a : FVec Ideal S64x512 .f32) (i : Fin 64) (r : Fin 512) :
    accAll k v q a (ix2 i r)
      = a (ix2 i r) + ∑ o : Fin 16, ∑ j : Fin 256, v o (ix2 i j) * expT (k o) q (ix2 j r) := by
  unfold accAll
  rw [foldl_add order (fun a o => accStep a (v o) (expT (k o) q)) (ix2 i r) _ (fun d o => accStep_at d _ _ i r), order_sum]

theorem scaled_at (x : Vec Ideal S1x512x128 .f32) (l : Fin 128) (r : Fin 512) :
    scaled x (ix2 l r) = x (ix3 0 r l) * sc := by
  unfold scaled; simp only [pointwise]; rfl

theorem stageLo_at (x : Vec Ideal S1x512x128 .f32) (l : Fin 128) (r : Fin 512) :
    shapeCast S128x512 (stageLo x) shapeCasts_S1x128x512_S128x512 (ix2 l r)
      = if l.val < 64 then x (ix3 0 r l) * sc else 0 := by
  unfold stageLo; simp only [pointwise]
  split
  · rw [← scaled_at]
    refine congrArg (scaled x) (congrArg₂ ix2 (Fin.ext (Nat.zero_add _)) (Fin.ext (Nat.zero_add _)))
  · exact Ideal.ofBits_zero_bf16

theorem stageHi_at (x : Vec Ideal S1x512x128 .f32) (l : Fin 128) (r : Fin 512) :
    shapeCast S128x512 (stageHi x) shapeCasts_S1x128x512_S128x512 (ix2 l r)
      = if l.val < 64 then 0 else x (ix3 0 r l) * sc := by
  unfold stageHi; simp only [pointwise]
  split
  · exact Ideal.ofBits_zero_bf16
  · rw [← scaled_at]
    refine congrArg (scaled x) (congrArg₂ ix2 (Fin.ext ?_) (Fin.ext ?_))
    · show 64 + (l.val - 64) = l.val
      omega
    · exact Nat.zero_add _

theorem lanes_lo (K X : Fin 128 → EReal) :
    (∑ l : Fin 128, K l * (if l.val < 64 then X l else 0)) = ∑ l : Fin 64, K (Fin.castAdd 64 l) * X (Fin.castAdd 64 l) := by
  refine (Fin.sum_univ_add (a := 64) (b := 64) fun l => K l * (if l.val < 64 then X l else 0)).trans ?_
  have h : ∀ l : Fin 64, K (Fin.natAdd 64 l) * (if (Fin.natAdd 64 l).val < 64 then X (Fin.natAdd 64 l) else 0) = 0 := fun l => by
    rw [if_neg (by simp), mul_zero]
  rw [Finset.sum_eq_zero (fun l _ => h l), add_zero]
  exact Finset.sum_congr rfl fun l _ => by rw [if_pos (show (Fin.castAdd 64 l).val < 64 from l.isLt)]

theorem lanes_hi (K X : Fin 128 → EReal) :
    (∑ l : Fin 128, K l * (if l.val < 64 then 0 else X l)) = ∑ l : Fin 64, K (Fin.natAdd 64 l) * X (Fin.natAdd 64 l) := by
  refine (Fin.sum_univ_add (a := 64) (b := 64) fun l => K l * (if l.val < 64 then 0 else X l)).trans ?_
  have h : ∀ l : Fin 64, K (Fin.castAdd 64 l) * (if (Fin.castAdd 64 l).val < 64 then 0 else X (Fin.castAdd 64 l)) = 0 := fun l => by
    rw [if_pos (show (Fin.castAdd 64 l).val < 64 from l.isLt), mul_zero]
  rw [Finset.sum_eq_zero (fun l _ => h l), zero_add]
  exact Finset.sum_congr rfl fun l _ => by rw [if_neg (by simp)]

theorem quot_at (a : Vec Ideal S1x64x512 .f32) (d : Vec Ideal S1x8x512 .f32) (i : Fin 64) (r : Fin 512) :
    quot a d (ix2 i r) = Ideal.div (a (ix3 0 i r)) (∑ s : Fin 8, d (ix3 0 s r)) := by
  unfold quot; simp only [pointwise]; rfl

theorem outPair_at (a a' : Vec Ideal S1x64x512 .f32) (d d' : Vec Ideal S1x8x512 .f32) (z : Fin 1) (r : Fin 512) (j : Fin 128) :
    outPair a d a' d' (ix3 z r j)
      = if h : j.val < 64 then quot a d (ix2 ⟨j.val, h⟩ r) else quot a' d' (ix2 ⟨j.val - 64, by omega⟩ r) := by
  unfold outPair; simp only [pointwise]; rfl

theorem keyBlk_at (x : Vec Ideal S1x4096x128 .bf16) (o : Fin 16) (j : Fin 256) (l : Fin 128) :
    keyBlk x o (ix2 j l) = x (ix3 0 ⟨o.val * 256 + j.val, by omega⟩ l) := by
  unfold keyBlk; simp only [pointwise]
  refine congrArg x (funext fun a => Fin.ext ?_)
  fin_cases a
  · rfl
  · show o.val * 256 + 1 * j.val = o.val * 256 + j.val; omega
  · show 0 + 1 * l.val = l.val; omega

theorem valBlk_at (x : Vec Ideal S1x16x128x256 .bf16) (g : Fin 2) (o : Fin 16) (i : Fin 64) (j : Fin 256) :
    valBlk x g o (ix2 i j) = x (ix4 0 o ⟨g.val * 64 + i.val, by omega⟩ j) := by
  unfold valBlk; simp only [pointwise]
  refine congrArg x (funext fun a => Fin.ext ?_)
  fin_cases a
  · rfl
  · show o.val + 1 * 0 = o.val; omega
  · show g.val * 64 + 1 * i.val = g.val * 64 + i.val; omega
  · show 0 + 1 * j.val = j.val; omega

theorem qPair_at (x : Vec Ideal S1x512x512 .f32) (p : Fin 4) (r : Fin 512) (l : Fin 128) :
    qPair x p (ix3 0 r l) = x (ix3 0 r ⟨p.val * 128 + l.val, by omega⟩) := by
  unfold qPair
  refine congrArg x (funext fun a => Fin.ext ?_)
  fin_cases a
  · rfl
  · show 0 + 1 * r.val = r.val; omega
  · show p.val * 128 + 1 * l.val = p.val * 128 + l.val; omega

end Steps

/-- Attention's quotient for one query and one column: the values `v` weighted by the exponentials of the scores `y`, over
    the sum of the exponentials, both block by block. -/
def attnOf (v y : Fin 16 → Fin 256 → EReal) : EReal :=
  Ideal.div (∑ o : Fin 16, ∑ j : Fin 256, v o j * Ideal.exp2 (y o j))
    (∑ s : Fin 8, ∑ o : Fin 16, ∑ a : Fin 32, Ideal.exp2 (y o ⟨a.val * 8 + s.val, by omega⟩))

section Tile

variable (x : Vec Ideal S1x512x512 .f32) (k : Vec Ideal S1x4096x128 .bf16) (v : Vec Ideal S1x16x128x256 .bf16)

/-- One query's score against one key, over the 64 lanes from lane `b` on, the queries' own lanes beginning at `a`. -/
def score (r : Fin 512) (a b : ℕ) (ha : a + 64 ≤ 512) (hb : b + 64 ≤ 128) (o : Fin 16) (j : Fin 256) : EReal :=
  ∑ l : Fin 64, k (ix3 0 ⟨o.val * 256 + j.val, by omega⟩ ⟨b + l.val, by omega⟩)
    * (x (ix3 0 r ⟨a + l.val, by omega⟩) * sc)

theorem head_at (Q : FVec Ideal S1x128x512 .bf16) (g : Fin 2) (i : Fin 64) (r : Fin 512) (y : Fin 16 → Fin 256 → EReal)
    (hy : ∀ o j, ∑ l : Fin 128, keyBlk k o (ix2 j l) * shapeCast S128x512 Q shapeCasts_S1x128x512_S128x512 (ix2 l r) = y o j) :
    quot (numer k v g Q) (denom k Q) (ix2 i r) = attnOf (fun o j => v (ix4 0 o ⟨g.val * 64 + i.val, by omega⟩ j)) y := by
  have z : ∀ (s : Shape) (i : s.Idx), constant (F := Ideal) s .f32 0x00000000#32 i = 0 := fun s i => Ideal.ofBits_zero_f32
  have e1 : numer k v g Q (ix3 0 i r) = accAll (keyBlk k) (valBlk v g) (shapeCast S128x512 Q shapeCasts_S1x128x512_S128x512)
      (constant S64x512 .f32 0x00000000#32) (ix2 i r) := by
    unfold numer; simp only [pointwise]
  have e2 : ∀ s : Fin 8, denom k Q (ix3 0 s r) = denAll (keyBlk k) (shapeCast S128x512 Q shapeCasts_S1x128x512_S128x512)
      (constant S8x512 .f32 0x00000000#32) (ix2 s r) := fun s => by
    unfold denom; simp only [pointwise]
  rw [quot_at, e1, accAll_at, z, zero_add]
  simp only [e2, denAll_at, z, zero_add, expT_at, hy, valBlk_at]
  rfl

theorem headLo_at (p : Fin 4) (g : Fin 2) (i : Fin 64) (r : Fin 512) :
    quot (numer k v g (stageLo (qPair x p))) (denom k (stageLo (qPair x p))) (ix2 i r)
      = attnOf (fun o j => v (ix4 0 o ⟨g.val * 64 + i.val, by omega⟩ j))
          (score x k r (p.val * 128) 0 (by omega) (by omega)) := by
  refine head_at k v _ g i r _ fun o j => ?_
  simp only [stageLo_at, keyBlk_at, qPair_at]
  refine (lanes_lo (fun l => k (ix3 0 ⟨o.val * 256 + j.val, by omega⟩ l))
    (fun l => x (ix3 0 r ⟨p.val * 128 + l.val, by omega⟩) * sc)).trans ?_
  refine Finset.sum_congr rfl fun l _ => ?_
  refine congrArg₂ (· * ·) (congrArg k (congrArg (ix3 0 _) (Fin.ext (Nat.zero_add _).symm))) rfl

theorem headHi_at (p : Fin 4) (g : Fin 2) (i : Fin 64) (r : Fin 512) :
    quot (numer k v g (stageHi (qPair x p))) (denom k (stageHi (qPair x p))) (ix2 i r)
      = attnOf (fun o j => v (ix4 0 o ⟨g.val * 64 + i.val, by omega⟩ j))
          (score x k r (p.val * 128 + 64) 64 (by omega) (by omega)) := by
  refine head_at k v _ g i r _ fun o j => ?_
  simp only [stageHi_at, keyBlk_at, qPair_at]
  refine (lanes_hi (fun l => k (ix3 0 ⟨o.val * 256 + j.val, by omega⟩ l))
    (fun l => x (ix3 0 r ⟨p.val * 128 + l.val, by omega⟩) * sc)).trans ?_
  refine Finset.sum_congr rfl fun l _ => ?_
  refine congrArg₂ (· * ·) rfl (congrArg (· * sc) (congrArg x (congrArg (ix3 0 r) (Fin.ext ?_))))
  show p.val * 128 + (64 + l.val) = p.val * 128 + 64 + l.val
  omega

end Tile

end Cert.AttnBlock
-- ==== Proof.AttnKernel.lean ====
/- The array the attention's kernel leaves, index by index over its arguments. -/
module

public import proofs.«01_k».proof.Proof.Gen.KernelIdeal.Value
public import proofs.«01_k».proof.Proof.AttnReads
public import proofs.«01_k».proof.Proof.AttnBlock

@[expose] public section

noncomputable section

namespace Cert.AttnKernel

open Cert.KernelIdeal Cert.KernelIdeal.Gen Cert.AttnStep Cert.AttnBlock Idealize.ShloMosaic Idealize.ShloMosaic.TcCoe Idealize.SL.Sem
open Idealize.ShloMosaic.Pipeline (Dat)

section Block

variable (x0 : Vec Ideal S1x512x512 .f32) (x1 x2 : Vec Ideal S1x4096x128 .bf16) (x3 : Vec Ideal S1x16x128x256 .bf16)

/-- What the block holds at row `r` and column `n`: head `n / 64` reads its keys from the first copy of the keys if the
    head's place in its pair is its key head's place in the row, and else from the copy with the places exchanged. -/
def blockVal (r n : Fin 512) : EReal :=
  attnOf (fun o j => x3 (ix4 0 o ⟨n.val / 256 * 64 + n.val % 64, by omega⟩ j))
    (score x0 (if n.val / 64 % 2 = n.val / 256 then x1 else x2) r (n.val / 64 * 64) (n.val / 64 % 2 * 64) (by omega) (by omega))

theorem score_congr (x : Vec Ideal S1x512x512 .f32) (k k' : Vec Ideal S1x4096x128 .bf16) (r : Fin 512) (a b a' b' : ℕ)
    (ha hb ha' hb') (hk : k = k') (e : a = a') (e' : b = b') : score x k r a b ha hb = score x k' r a' b' ha' hb' := by
  subst e e' hk; rfl

theorem tile_at (ke ko : Vec Ideal S1x4096x128 .bf16) (p : Fin 4) (g : Fin 2) (hg : g.val = p.val / 2)
    (he : ke = if p.val < 2 then x1 else x2) (ho : ko = if p.val < 2 then x2 else x1)
    (z : Fin 1) (r n : Fin 512) (j : Fin 128) (hn : n.val = p.val * 128 + j.val) :
    tileOf x0 ke ko x3 p g (ix3 z r j) = blockVal x0 x1 x2 x3 r n := by
  unfold tileOf blockVal
  rw [outPair_at]
  split
  · rw [headLo_at]
    refine congrArg₂ attnOf (funext fun o => funext fun j' => congrArg x3 (congrArg (fun i => ix4 0 o i j') (Fin.ext ?_))) ?_
    · show g.val * 64 + j.val = n.val / 256 * 64 + n.val % 64
      omega
    · refine score_congr _ _ _ _ _ _ _ _ _ _ _ _ ?_ (by omega) (by omega)
      rw [he]
      refine if_congr ?_ rfl rfl
      omega
  · rw [headHi_at]
    refine congrArg₂ attnOf (funext fun o => funext fun j' => congrArg x3 (congrArg (fun i => ix4 0 o i j') (Fin.ext ?_))) ?_
    · show g.val * 64 + (j.val - 64) = n.val / 256 * 64 + n.val % 64
      omega
    · refine score_congr _ _ _ _ _ _ _ _ _ _ _ _ ?_ (by omega) (by omega)
      rw [ho, ← ite_not]
      refine if_congr ?_ rfl rfl
      omega

theorem out_at (c : Dev nD) (i : grid0.Coords) (arg2 : Memref sig .tc .vmem S1x512x512 .f32) (harg2 : arg2.IsWhole)
    (arg3 : Memref sig .tc .vmem S1x4096x128 .bf16) (harg3 : arg3.IsWhole) (arg4 : Memref sig .tc .vmem S1x4096x128 .bf16)
    (harg4 : arg4.IsWhole) (arg5 : Memref sig .tc .vmem S1x16x128x256 .bf16) (harg5 : arg5.IsWhole)
    (arg6 : Memref sig .tc .vmem S1x512x512 .bf16) (harg6 : arg6.IsWhole) (arg7 : Memref sig .tc .vmem S8x128x512 .bf16)
    (harg7 : arg7.IsWhole) (arg8 : Memref sig .tc .vmem S8x64x512 .f32) (harg8 : arg8.IsWhole)
    (arg9 : Memref sig .tc .vmem S8x8x512 .f32) (harg9 : arg9.IsWhole) (y : S1x512x512.Idx) :
    out0_A_4 c i arg2 harg2 arg3 harg3 arg4 harg4 arg5 harg5 arg6 harg6 arg7 harg7 arg8 harg8 arg9 harg9 x0 x1 x2 x3 y
      = blockVal x0 x1 x2 x3 (y 1) (y 2) := by
  have hc := cover0_A_4 c i arg2 harg2 arg3 harg3 arg4 harg4 arg5 harg5 arg6 harg6 arg7 harg7 arg8 harg8 arg9 harg9 x0 x1 x2 x3 y
  unfold out0_A_4
  rw [AttnReads.pieces] at hc ⊢
  rw [View.read_writes_junk_eq_canon]
  refine View.canon_apply_of_pieces (Val := Elt Ideal) (e := .bf16) (S := S1x512x512) (fun y => blockVal x0 x1 x2 x3 (y 1) (y 2)) _ ?_ y hc
  have key : ∀ (ke ko : Vec Ideal S1x4096x128 .bf16) (p : Fin 4) (g : Fin 2) (n : ℕ) (hp : n = p.val * 128) (hg : g.val = p.val / 2)
      (he : ke = if p.val < 2 then x1 else x2) (ho : ko = if p.val < 2 then x2 else x1) (hx) (x : S1x512x128.Idx),
      tileOf x0 ke ko x3 p g x
        = blockVal x0 x1 x2 x3 ((Rect.unit (s := S1x512x512) ![0, 0, n] S1x512x128.size hx).emb x 1)
            ((Rect.unit (s := S1x512x512) ![0, 0, n] S1x512x128.size hx).emb x 2) := fun ke ko p g n hp hg he ho hx x => by
    rw [eq_ix3 x]
    refine (tile_at x0 x1 x2 x3 ke ko p g hg he ho _ _ _ _ (by rw [← hp]; exact Rect.idx_unit_val _ _ hx _ 2)).trans
      (congrArg (fun r => blockVal x0 x1 x2 x3 r _) ?_)
    exact Fin.ext ((Rect.idx_unit_val _ _ hx _ 1).trans (Nat.zero_add _)).symm
  intro p hp x
  simp only [List.mem_cons, List.not_mem_nil, or_false] at hp
  rcases hp with rfl | rfl | rfl | rfl
  · exact key x2 x1 3 1 384 rfl rfl rfl rfl inb_S1x512x512_S1x512x128_0_0_384 x
  · exact key x2 x1 2 1 256 rfl rfl rfl rfl inb_S1x512x512_S1x512x128_0_0_256 x
  · exact key x1 x2 1 0 128 rfl rfl rfl rfl inb_S1x512x512_S1x512x128_0_0_128 x
  · exact key x1 x2 0 0 0 rfl rfl rfl rfl inb_S1x512x512_S1x512x128_0_0_0 x

end Block

/-- Attention's result for batch `b`, query `t` and column `n`, over the queries, the keys and the values. -/
def attnAt (q : S8x4096x512.Idx → EReal) (k : S8x4096x128.Idx → EReal) (v : S8x4096x640.Idx → EReal) (b : Fin 8) (t : Fin 4096)
    (n : Fin 512) : EReal :=
  attnOf (fun o j => v (ix3 b ⟨o.val * 256 + j.val, by omega⟩ ⟨512 + (n.val / 256 * 64 + n.val % 64), by omega⟩))
    (fun o j => ∑ l : Fin 64, k (ix3 b ⟨o.val * 256 + j.val, by omega⟩ ⟨n.val / 256 * 64 + l.val, by omega⟩)
      * (q (ix3 b t ⟨n.val / 64 * 64 + l.val, by omega⟩) * sc))

theorem blockVal_eq (x0 : Vec Ideal S1x512x512 .f32) (x1 x2 : Vec Ideal S1x4096x128 .bf16) (x3 : Vec Ideal S1x16x128x256 .bf16)
    (q : S8x4096x512.Idx → EReal) (k : S8x4096x128.Idx → EReal) (v : S8x4096x640.Idx → EReal) (b : Fin 8) (t : Fin 4096) (r : Fin 512)
    (h0 : ∀ l : Fin 512, x0 (ix3 0 r l) = q (ix3 b t l)) (h1 : ∀ (s : Fin 4096) (l : Fin 128), x1 (ix3 0 s l) = k (ix3 b s l))
    (h2 : ∀ (s : Fin 4096) (l : Fin 128), x2 (ix3 0 s l)
      = k (ix3 b s ⟨if l.val < 64 then 64 + l.val else l.val - 64, by split <;> omega⟩))
    (h3 : ∀ (o : Fin 16) (i : Fin 128) (j : Fin 256), x3 (ix4 0 o i j)
      = v (ix3 b ⟨o.val * 256 + j.val, by omega⟩ ⟨512 + i.val, by omega⟩)) (n : Fin 512) :
    blockVal x0 x1 x2 x3 r n = attnAt q k v b t n := by
  unfold blockVal attnAt
  refine congrArg₂ attnOf (funext fun o => funext fun j => h3 o _ j) ?_
  funext o j
  unfold score
  refine Finset.sum_congr rfl fun l _ => ?_
  rw [h0]
  refine congrArg (· * _) ?_
  split
  · rw [h1]
    refine congrArg k (congrArg (ix3 b _) (Fin.ext ?_))
    show n.val / 64 % 2 * 64 + l.val = n.val / 256 * 64 + l.val
    omega
  · rw [h2]
    refine congrArg k (congrArg (ix3 b _) (Fin.ext ?_))
    show (if n.val / 64 % 2 * 64 + l.val < 64 then 64 + (n.val / 64 % 2 * 64 + l.val) else n.val / 64 % 2 * 64 + l.val - 64)
      = n.val / 256 * 64 + l.val
    split <;> omega

variable (m : (ℓ : Loc nD τ sig) → Buf (Elt Ideal) ℓ)

/-- The result array. -/
def G (c : Dev nD) : Buf (Elt Ideal) ((c.tc : Thread nD τ).loc main_v7) := fun y =>
  attnAt (m ((c.tc : Thread nD τ).loc main_arg0)) (m ((c.tc : Thread nD τ).loc main_arg1)) (m ((c.tc : Thread nD τ).loc main_arg2))
    (y 0) (y 1) (y 2)

/-! ## What the host hands to the call -/

theorem V_v0 (c : Dev nD) (y : S8x4096x128.Idx) : (V m c main_v0 : S8x4096x128.Idx → EReal) y = m ((c.tc : Thread nD τ).loc main_arg1) y := by
  dsimp only [V, hostOps0]; after_results; rfl

theorem V_v3 (c : Dev nD) (b : Fin 8) (s : Fin 4096) (l : Fin 128) : (V m c main_v3 : S8x4096x128.Idx → EReal) (ix3 b s l)
    = m ((c.tc : Thread nD τ).loc main_arg1) (ix3 b s ⟨if l.val < 64 then 64 + l.val else l.val - 64, by split <;> omega⟩) := by
  dsimp only [V, hostOps0]; after_results; simp only [pointwise]; split
  · exact congrArg _ (congrArg₂ (ix3 · · _) (Fin.ext (Nat.zero_add _)) (Fin.ext (Nat.zero_add _)) |>.trans
      (congrArg (ix3 b s) (Fin.ext rfl)))
  · exact congrArg _ (congrArg₂ (ix3 · · _) (Fin.ext (Nat.zero_add _)) (Fin.ext (Nat.zero_add _)) |>.trans
      (congrArg (ix3 b s) (Fin.ext (Nat.zero_add _))))

theorem V_v6 (c : Dev nD) (b : Fin 8) (o : Fin 16) (i : Fin 640) (j : Fin 256) : (V m c main_v6 : S8x16x640x256.Idx → EReal) (ix4 b o i j)
    = m ((c.tc : Thread nD τ).loc main_arg2) (ix3 b ⟨o.val * 256 + j.val, by omega⟩ i) := by
  dsimp only [V, hostOps0]; after_results; simp only [pointwise]

set_option maxHeartbeats 4000000 in
theorem final (c : Dev nD) : (dats m 0 c).arrAt 4 cfg0.N = G m c := by
  refine (dats m 0 c).arrAt_eq_of_covers 4 _ (by decide +kernel) fun t hf y => ?_
  blk_simp
  rw [after0_4]
  have e0 : ∀ t : Fin cfg0.N, win0_0.index t = ![(grid0.coords t 0).val, (grid0.coords t 1).val, 0] := (by decide +kernel : ∀ t : Fin grid0.N, _)
  have e1 : ∀ t : Fin cfg0.N, win0_1.index t = ![(grid0.coords t 0).val, 0, 0] := (by decide +kernel : ∀ t : Fin grid0.N, _)
  have e2 : ∀ t : Fin cfg0.N, win0_2.index t = ![(grid0.coords t 0).val, 0, 0] := (by decide +kernel : ∀ t : Fin grid0.N, _)
  have e3 : ∀ t : Fin cfg0.N, win0_3.index t = ![(grid0.coords t 0).val, 0, 4, 0] := (by decide +kernel : ∀ t : Fin grid0.N, _)
  have e4 : ∀ t : Fin cfg0.N, win0_4.index t = ![(grid0.coords t 0).val, (grid0.coords t 1).val, 0] := (by decide +kernel : ∀ t : Fin grid0.N, _)
  unfold outsAt0
  refine (out_at _ _ _ _ _ _ _ _ _ _ _ _ _ _ _ _ _ _ _ _ _ _ y).trans ?_
  have hb : (grid0.coords t 0).val < 8 := (grid0.coords t 0).isLt
  have ht : (grid0.coords t 1).val < 8 := (grid0.coords t 1).isLt
  have hT : ∀ r : Fin 512, (grid0.coords t 1).val * 512 + r.val < 4096 := fun r => by omega
  have h0 : ∀ r l : Fin 512, iblk m c 0 t (ix3 0 r l) = m ((c.tc : Thread nD τ).loc main_arg0)
      (ix3 ⟨(grid0.coords t 0).val, hb⟩ ⟨(grid0.coords t 1).val * 512 + r.val, hT r⟩ l) := fun r l => by
    blk_simp [iblk]
    rw [V_main_arg0]
    refine congrArg _ ?_
    blk_ext [e0]
  have h1 : ∀ (s : Fin 4096) (l : Fin 128), iblk m c 1 t (ix3 0 s l) = m ((c.tc : Thread nD τ).loc main_arg1)
      (ix3 ⟨(grid0.coords t 0).val, hb⟩ s l) := fun s l => by
    blk_simp [iblk]
    refine (congrArg (V m c main_v0) (?_ : _ = (ix3 ⟨(grid0.coords t 0).val, hb⟩ s l))).trans (V_v0 m c _)
    blk_ext [e1]
  have h2 : ∀ (s : Fin 4096) (l : Fin 128), iblk m c 2 t (ix3 0 s l) = m ((c.tc : Thread nD τ).loc main_arg1)
      (ix3 ⟨(grid0.coords t 0).val, hb⟩ s ⟨if l.val < 64 then 64 + l.val else l.val - 64, by split <;> omega⟩) := fun s l => by
    blk_simp [iblk]
    refine (congrArg (V m c main_v3) (?_ : _ = (ix3 ⟨(grid0.coords t 0).val, hb⟩ s l))).trans (V_v3 m c _ _ _)
    blk_ext [e2]
  have h3 : ∀ (o : Fin 16) (i : Fin 128) (j : Fin 256), iblk m c 3 t (ix4 0 o i j) = m ((c.tc : Thread nD τ).loc main_arg2)
      (ix3 ⟨(grid0.coords t 0).val, hb⟩ ⟨o.val * 256 + j.val, by omega⟩ ⟨512 + i.val, by omega⟩) := fun o i j => by
    blk_simp [iblk]
    refine (congrArg (V m c main_v6) (?_ : _ = (ix4 ⟨(grid0.coords t 0).val, hb⟩ o ⟨512 + i.val, by omega⟩ j))).trans (V_v6 m c _ _ _ _)
    blk_ext [e3]
  have hy : ((cfg0.win 4).blk t).view.emb y = ix3 (n0 := 8) (n1 := 4096) (n2 := 512) ⟨(grid0.coords t 0).val, hb⟩
      ⟨(grid0.coords t 1).val * 512 + (y 1).val, hT (y 1)⟩ (y 2) := by
    idx_bounds y
    blk_ext [e4]
  have hG : G m c (((cfg0.win 4).blk t).view.emb y) = G m c (ix3 (n0 := 8) (n1 := 4096) (n2 := 512) ⟨(grid0.coords t 0).val, hb⟩
      ⟨(grid0.coords t 1).val * 512 + (y 1).val, hT (y 1)⟩ (y 2)) := congrArg _ hy
  have key : ∀ r n : Fin 512,
      blockVal (iblk m c 0 t) (iblk m c 1 t) (iblk m c 2 t) (iblk m c 3 t) r n
        = G m c (ix3 (n0 := 8) (n1 := 4096) (n2 := 512) ⟨(grid0.coords t 0).val, hb⟩
            ⟨(grid0.coords t 1).val * 512 + r.val, hT r⟩ n) := fun r n =>
    blockVal_eq _ _ _ _ _ _ _ _ _ _ (h0 r) h1 h2 h3 n
  exact (key (y 1) (y 2)).trans hG.symm

end Cert.AttnKernel
-- ==== Proof.AttnMath.lean ====
/- The arithmetic of the dense attention: the quotient of sums of powers of two, block by block, is the softmax average. -/
module

public import Idealize.ShloMosaic.Lib.IdealHost
public import Idealize.ShloMosaic.Lib.Pointwise

@[expose] public section

noncomputable section

namespace Cert.AttnMath

open Idealize.ShloMosaic

theorem sum_blocks (m n : ℕ) (f : Fin (m * n) → EReal) (h : ∀ (a : Fin m) (b : Fin n), a.val * n + b.val < m * n) :
    (∑ a : Fin m, ∑ b : Fin n, f ⟨a.val * n + b.val, h a b⟩) = ∑ i, f i := by
  rw [← Equiv.sum_comp finProdFinEquiv f, Fintype.sum_prod_type]
  refine Finset.sum_congr rfl fun a _ => Finset.sum_congr rfl fun b _ => congrArg f (Fin.ext ?_)
  show a.val * n + b.val = b.val + n * a.val
  rw [Nat.mul_comm, Nat.add_comm]

theorem coe_sum {ι : Type} (s : Finset ι) (f : ι → ℝ) : (∑ i ∈ s, (f i : EReal)) = ((∑ i ∈ s, f i : ℝ) : EReal) := by
  classical
  induction s using Finset.induction_on with
  | empty => rfl
  | insert a s h ih => rw [Finset.sum_insert h, Finset.sum_insert h, ih, EReal.coe_add]

theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => exact zero_mul _
  | insert a s h ih =>
    rw [Finset.sum_insert h, Finset.sum_insert h, ← ih,
      EReal.right_distrib_of_nonneg_of_ne_top (EReal.coe_nonneg.mpr hc) (EReal.coe_ne_top c)]

theorem exp2_scaled (x : ℝ) : Ideal.exp2 (((x * (Real.log 2)⁻¹ : ℝ)) : EReal) = ((Real.exp x : ℝ) : EReal) := by
  rw [Ideal.exp2_coe]
  refine congrArg _ ?_
  have h : Real.log 2 ≠ 0 := (Real.log_pos (by norm_num)).ne'
  show (2 : ℝ) ^ (x * (Real.log 2)⁻¹) = Real.exp x
  rw [Real.rpow_def_of_pos (by norm_num)]
  refine congrArg _ ?_
  field_simp

/-- A quotient of two sums of exponentials is the average that the softmax takes, whatever the shift `M`. -/
theorem softmax_avg (x : Fin 4096 → ℝ) (M : ℝ) (v : Fin 4096 → EReal) :
    Ideal.div (∑ s, v s * ((Real.exp (x s) : ℝ) : EReal)) (∑ s, ((Real.exp (x s) : ℝ) : EReal))
      = ∑ s, Ideal.div (Ideal.exp ((x s : EReal) - (M : EReal))) (∑ s', Ideal.exp ((x s' : EReal) - (M : EReal))) * v s := by
  have hW : (0 : ℝ) < ∑ s, Real.exp (x s) := Finset.sum_pos (fun s _ => Real.exp_pos _) ⟨0, Finset.mem_univ _⟩
  have hD : (0 : ℝ) < ∑ s, Real.exp (x s - M) := Finset.sum_pos (fun s _ => Real.exp_pos _) ⟨0, Finset.mem_univ _⟩
  have he : ∀ s, Ideal.exp ((x s : EReal) - (M : EReal)) = ((Real.exp (x s - M) : ℝ) : EReal) := fun s => by
    rw [← EReal.coe_sub, Ideal.exp_coe]
  simp only [he, coe_sum]
  have hdiv : ∀ (a : EReal) (c : ℝ), 0 < c → Ideal.div a (c : EReal) = a * ((c⁻¹ : ℝ) : EReal) := fun a c hc => by
    unfold Ideal.div
    rw [if_neg (by exact_mod_cast hc.ne'), EReal.coe_inv]
  rw [hdiv _ _ hW, sum_mul_coe _ _ _ (inv_nonneg.mpr hW.le)]
  refine Finset.sum_congr rfl fun s _ => ?_
  rw [hdiv _ _ hD, mul_assoc, ← EReal.coe_mul, ← EReal.coe_mul, mul_comm]
  refine congrArg (fun r : ℝ => (r : EReal) * v s) ?_
  have hs : (∑ s, Real.exp (x s - M)) = (∑ s, Real.exp (x s)) * Real.exp (-M) := by
    rw [Finset.sum_mul]
    exact Finset.sum_congr rfl fun s _ => by rw [sub_eq_add_neg, Real.exp_add]
  rw [hs, sub_eq_add_neg, Real.exp_add, mul_inv]
  have := (Real.exp_pos (-M)).ne'
  field_simp

/-- The largest of finitely many numbers, from below all of them on, is a number. -/
theorem foldl_max_real {ι : Type} (f : ι → EReal) (hf : ∀ i, ∃ r : ℝ, f i = r) (l : List ι) (init : EReal)
    (hi : (init = ⊥ ∧ l ≠ []) ∨ ∃ r : ℝ, init = r) : ∃ r : ℝ, l.foldl (fun a i => max a (f i)) init = r := by
  induction l generalizing init with
  | nil =>
    rcases hi with ⟨_, h⟩ | h
    · exact absurd rfl h
    · exact h
  | cons a l ih =>
    refine ih _ (.inr ?_)
    obtain ⟨q, hq⟩ := hf a
    rcases hi with ⟨h, _⟩ | ⟨r, h⟩
    · exact ⟨q, by show max init (f a) = _; rw [h, hq]; exact max_eq_right bot_le⟩
    · exact ⟨max r q, by show max init (f a) = _; rw [h, hq]; exact (EReal.coe_strictMono.monotone.map_max (a := r) (b := q)).symm⟩

end Cert.AttnMath
-- ==== Proof.AttnRef.lean ====
/- The plain attention read at an index. -/
module

public import proofs.«01_k».proof.Proof.Gen.ReferenceIdeal.Read
public import proofs.«01_k».proof.Proof.AttnMath

@[expose] public section

noncomputable section

namespace Cert.AttnRef

open Cert.ReferenceIdeal Cert.ReferenceIdeal.Gen Cert.ReferenceIdeal.Read Idealize.ShloMosaic

variable (x0 : S8x4096x512.Idx → EReal) (x1 : S8x4096x128.Idx → EReal) (x2 : S8x4096x640.Idx → EReal)

/-- The score of query `t` against key `s`, for the head `g` of the key head `u`. -/
def score (b : Fin 8) (u : Fin 2) (g : Fin 4) (t s : Fin 4096) : EReal :=
  (∑ l : Fin 64, x0 (ix3 b t ⟨(u.val * 4 + g.val) * 64 + l.val, by omega⟩) * x1 (ix3 b s ⟨u.val * 64 + l.val, by omega⟩))
    * Ideal.ofBits .f32 0x3E000000#32

theorem v9_at (b : Fin 8) (u : Fin 2) (g : Fin 4) (t s : Fin 4096) :
    val_main_v9 (F := Ideal) x0 x1 (ix5 b u g t s) = score x0 x1 b u g t s := by
  rw [val_main_v9_apply, val_main_v7_apply, val_main_v8_apply, val_main_cst_apply]
  refine congrArg (· * _) (Finset.sum_congr rfl fun l _ => ?_)
  rw [val_main_v1_apply, val_main_v0_apply, val_main_v3_apply, val_main_v2_apply]
  refine congrArg₂ (· * ·) (congrArg x0 (funext fun a => Fin.ext ?_)) (congrArg x1 (funext fun a => Fin.ext ?_))
  · have := b.isLt; have := t.isLt; have := u.isLt; have := g.isLt; have := l.isLt
    fin_cases a
    · show ((((b.val * 4096 + t.val) * 2 + u.val) * 4 + g.val) * 64 + l.val) / 2097152 = b.val
      omega
    · show ((((b.val * 4096 + t.val) * 2 + u.val) * 4 + g.val) * 64 + l.val) / 512 % 4096 = t.val
      omega
    · show ((((b.val * 4096 + t.val) * 2 + u.val) * 4 + g.val) * 64 + l.val) % 512 = (u.val * 4 + g.val) * 64 + l.val
      omega
  · have := b.isLt; have := s.isLt; have := u.isLt; have := l.isLt
    fin_cases a
    · show (((b.val * 4096 + s.val) * 2 + u.val) * 64 + l.val) / 524288 = b.val
      omega
    · show (((b.val * 4096 + s.val) * 2 + u.val) * 64 + l.val) / 128 % 4096 = s.val
      omega
    · show (((b.val * 4096 + s.val) * 2 + u.val) * 64 + l.val) % 128 = u.val * 64 + l.val
      omega

theorem bits_bot : Ideal.ofBits .f32 0xFF800000#32 = ⊥ := by
  simp [Ideal.ofBits, Ideal.ieee]

/-- The shift the softmax subtracts is a number, the scores being numbers. -/
theorem v12_real (hs : ∀ b u g t s, ∃ r : ℝ, score x0 x1 b u g t s = r) (b : Fin 8) (u : Fin 2) (g : Fin 4) (t : Fin 4096) :
    ∃ r : ℝ, val_main_v12 (F := Ideal) x0 x1 (ix4 b u g t) = r := by
  have h10 : ∃ r : ℝ, val_main_v10 (F := Ideal) x0 x1 (ix4 b u g t) = r := by
    unfold val_main_v10 Host.reduce
    refine AttnMath.foldl_max_real (fun n => val_main_v9 (F := Ideal) x0 x1 (S8x2x4x4096x4096.rowMajor.symm n)) (fun n => ?_) _ _ (.inl ⟨bits_bot, ?_⟩)
    · obtain ⟨r, hr⟩ := hs _ _ _ _ _
      exact ⟨r, (congrArg (val_main_v9 (F := Ideal) x0 x1) (eq_ix5 _)).trans ((v9_at x0 x1 _ _ _ _ _).trans hr)⟩
    · refine List.ne_nil_of_mem (a := S8x2x4x4096x4096.rowMajor (ix5 b u g t 0)) ?_
      rw [List.mem_filter]
      refine ⟨List.mem_finRange _, ?_⟩
      rw [Equiv.symm_apply_apply]
      refine decide_eq_true ?_
      funext a
      fin_cases a <;> rfl
  obtain ⟨r, hr⟩ := h10
  refine ⟨r, ?_⟩
  rw [val_main_v12_apply, hr, val_main_v11_apply, val_main_cst_1_apply]
  exact (congrArg (max · _) bits_bot).trans (max_eq_right bot_le)

theorem v16_at (b : Fin 8) (u : Fin 2) (g : Fin 4) (t s : Fin 4096) :
    val_main_v16 (F := Ideal) x0 x1 (ix5 b u g t s)
      = Ideal.exp (score x0 x1 b u g t s - val_main_v12 (F := Ideal) x0 x1 (ix4 b u g t)) := by
  rw [val_main_v16_apply, val_main_v15_apply, v9_at, val_main_v14_apply, val_main_v13_apply]
  refine congrArg (fun z => Ideal.exp (_ - val_main_v12 (F := Ideal) x0 x1 z)) (funext fun a => Fin.ext ?_)
  fin_cases a <;> rfl

theorem v19_at (b : Fin 8) (u : Fin 2) (g : Fin 4) (t s : Fin 4096) :
    val_main_v19 (F := Ideal) x0 x1 (ix5 b u g t s)
      = ∑ s' : Fin 4096, Ideal.exp (score x0 x1 b u g t s' - val_main_v12 (F := Ideal) x0 x1 (ix4 b u g t)) := by
  rw [val_main_v19_apply, val_main_v18_apply, val_main_v17_apply, val_main_cst_2_apply]
  refine (congrArg (· + _) Ideal.ofBits_zero_f32).trans ((zero_add _).trans (Finset.sum_congr rfl fun s' _ => ?_))
  rw [← v16_at]
  refine congrArg (val_main_v16 (F := Ideal) x0 x1) (funext fun a => Fin.ext ?_)
  fin_cases a <;> rfl

theorem v6_at (b : Fin 8) (u : Fin 2) (s : Fin 4096) (d : Fin 64) :
    val_main_v6 (F := Ideal) x2 (ix4 b u s d) = x2 (ix3 b s ⟨512 + (u.val * 64 + d.val), by omega⟩) := by
  rw [val_main_v6_apply, val_main_v5_apply, val_main_v4_apply]
  have := b.isLt; have := s.isLt; have := u.isLt; have := d.isLt
  refine congrArg x2 (funext fun a => Fin.ext ?_)
  fin_cases a
  · show (((b.val * 4096 + s.val) * 2 + u.val) * 64 + d.val) / 524288 = b.val
    omega
  · show (((b.val * 4096 + s.val) * 2 + u.val) * 64 + d.val) / 128 % 4096 = s.val
    omega
  · show 512 + (((b.val * 4096 + s.val) * 2 + u.val) * 64 + d.val) % 128 = 512 + (u.val * 64 + d.val)
    omega

theorem v24_at (b : Fin 8) (t : Fin 4096) (n : Fin 512) (u : Fin 2) (g : Fin 4) (d : Fin 64)
    (hn : n.val = (u.val * 4 + g.val) * 64 + d.val) :
    val_main_v24 (F := Ideal) x0 x1 x2 (ix3 b t n)
      = ∑ s : Fin 4096, Ideal.div (Ideal.exp (score x0 x1 b u g t s - val_main_v12 (F := Ideal) x0 x1 (ix4 b u g t)))
          (∑ s' : Fin 4096, Ideal.exp (score x0 x1 b u g t s' - val_main_v12 (F := Ideal) x0 x1 (ix4 b u g t)))
          * x2 (ix3 b s ⟨512 + (u.val * 64 + d.val), by omega⟩) := by
  have h24 : val_main_v24 (F := Ideal) x0 x1 x2 (ix3 b t n) = val_main_v23 (F := Ideal) x0 x1 x2 (ix3 b t n) := rfl
  have hi : idx_main_v22 (idx_main_v23 (ix3 b t n)) = ix5 b u g t d := by
    have := b.isLt; have := t.isLt; have := u.isLt; have := g.isLt; have := d.isLt
    refine funext fun a => Fin.ext ?_
    fin_cases a
    · show ((b.val * 4096 + t.val) * 512 + n.val) / 2097152 = b.val
      omega
    · show ((b.val * 4096 + t.val) * 512 + n.val) / 256 % 2 = u.val
      omega
    · show ((b.val * 4096 + t.val) * 512 + n.val) / 64 % 4 = g.val
      omega
    · show ((b.val * 4096 + t.val) * 512 + n.val) / 512 % 4096 = t.val
      omega
    · show ((b.val * 4096 + t.val) * 512 + n.val) % 64 = d.val
      omega
  rw [h24, val_main_v23_apply, val_main_v22_apply, hi, val_main_v21_apply]
  refine Finset.sum_congr rfl fun s _ => ?_
  refine congrArg₂ (· * ·) ?_ ?_
  · have e : lidx_main_v21 (ix5 b u g t d) s = ix5 b u g t s := by
      refine funext fun a => Fin.ext ?_
      fin_cases a <;> rfl
    rw [e, val_main_v20_apply, v16_at, v19_at]
    rfl
  · refine (congrArg (val_main_v6 (F := Ideal) x2) (funext fun a => Fin.ext ?_)).trans (v6_at x2 b u s d)
    fin_cases a <;> rfl

end Cert.AttnRef
-- ==== Proof.AttnClaim.lean ====
/- The dense attention: on finite queries and keys the kernel and the reference end with the same array. -/
module

public import proofs.«01_k».proof.Proof.AttnPre
public import proofs.«01_k».proof.Proof.AttnKernel
public import proofs.«01_k».proof.Proof.AttnRef
public import proofs.«01_k».proof.Proof.Gen.ReferenceIdeal.Run
public import proofs.«01_k».proof.Proof.Gen.ReferenceIdeal
public import proofs.«01_k».proof.Proof.Gen.KernelIdeal

@[expose] public section

noncomputable section

namespace Cert.AttnClaim

open Cert.KernelIdeal Idealize.ShloMosaic Idealize.SL.Sem Cert.AttnBlock

theorem bits_eighth : Ideal.ofBits .f32 0x3E000000#32 = ((8⁻¹ : ℝ) : EReal) := by
  simp [Ideal.ofBits, Ideal.ieee, -EReal.coe_mul]
  norm_num

theorem sc_eq : sc = ((8⁻¹ * (Real.log 2)⁻¹ : ℝ) : EReal) := IdealRules.named_const.ideal_named_scalar _ _ _ _ rfl

/-- The kernel's quotient for scores that are the numbers `x` to the base two. -/
theorem attnOf_eq (v : Fin 4096 → EReal) (x : Fin 4096 → ℝ) (v' y : Fin 16 → Fin 256 → EReal)
    (hv : ∀ (o : Fin 16) (j : Fin 256), v' o j = v ⟨o.val * 256 + j.val, by omega⟩)
    (hy : ∀ (o : Fin 16) (j : Fin 256), y o j = ((x ⟨o.val * 256 + j.val, by omega⟩ * (Real.log 2)⁻¹ : ℝ) : EReal)) :
    attnOf v' y = Ideal.div (∑ s, v s * ((Real.exp (x s) : ℝ) : EReal)) (∑ s, ((Real.exp (x s) : ℝ) : EReal)) := by
  have he : ∀ (o : Fin 16) (j : Fin 256), Ideal.exp2 (y o j) = ((Real.exp (x ⟨o.val * 256 + j.val, by omega⟩) : ℝ) : EReal) :=
    fun o j => by rw [hy, AttnMath.exp2_scaled]
  unfold attnOf
  simp only [he, hv]
  refine congrArg₂ Ideal.div ?_ ?_
  · exact AttnMath.sum_blocks 16 256 (fun s => v s * ((Real.exp (x s) : ℝ) : EReal)) fun a b => by omega
  · rw [← AttnMath.sum_blocks 16 256 (fun s => ((Real.exp (x s) : ℝ) : EReal)) fun a b => by omega, Finset.sum_comm]
    refine Finset.sum_congr rfl fun o _ => ?_
    rw [Finset.sum_comm]
    exact AttnMath.sum_blocks 32 8 (fun j => ((Real.exp (x ⟨o.val * 256 + j.val, by omega⟩) : ℝ) : EReal)) fun a b => by omega

theorem value_eq (q : S8x4096x512.Idx → EReal) (k : S8x4096x128.Idx → EReal) (v : S8x4096x640.Idx → EReal)
    (hq : ∀ i, ∃ r : ℝ, q i = r) (hk : ∀ i, ∃ r : ℝ, k i = r) (b : Fin 8) (t : Fin 4096) (n : Fin 512) :
    Cert.ReferenceIdeal.Read.val_main_v24 (F := Ideal) q k v (ix3 b t n) = AttnKernel.attnAt q k v b t n := by
  choose qr hqr using hq
  choose kr hkr using hk
  have hsc : ∀ (b : Fin 8) (u : Fin 2) (g : Fin 4) (t s : Fin 4096), AttnRef.score q k b u g t s
      = (((∑ l : Fin 64, qr (ix3 b t ⟨(u.val * 4 + g.val) * 64 + l.val, by omega⟩) * kr (ix3 b s ⟨u.val * 64 + l.val, by omega⟩)) * 8⁻¹ : ℝ) : EReal) := by
    intro b u g t s
    unfold AttnRef.score
    rw [bits_eighth]
    simp only [hqr, hkr, ← EReal.coe_mul, AttnMath.coe_sum]
  obtain ⟨M, hM⟩ := AttnRef.v12_real q k (fun b u g t s => ⟨_, hsc b u g t s⟩) b ⟨n.val / 256, by omega⟩ ⟨n.val / 64 % 4, by omega⟩ t
  rw [AttnRef.v24_at q k v b t n ⟨n.val / 256, by omega⟩ ⟨n.val / 64 % 4, by omega⟩ ⟨n.val % 64, by omega⟩
    (by show n.val = (n.val / 256 * 4 + n.val / 64 % 4) * 64 + n.val % 64; omega), hM]
  simp only [hsc]
  rw [← AttnMath.softmax_avg]
  unfold AttnKernel.attnAt
  refine (attnOf_eq _ _ _ _ (fun o j => rfl) fun o j => ?_).symm
  rw [sc_eq]
  simp only [hqr, hkr, ← EReal.coe_mul, AttnMath.coe_sum]
  refine congrArg _ ?_
  rw [Finset.sum_mul, Finset.sum_mul]
  refine Finset.sum_congr rfl fun l _ => ?_
  have e : ∀ h : (n.val / 256 * 4 + n.val / 64 % 4) * 64 + l.val < 512,
      (⟨(n.val / 256 * 4 + n.val / 64 % 4) * 64 + l.val, h⟩ : Fin 512) = ⟨n.val / 64 * 64 + l.val, by omega⟩ :=
    fun h => Fin.ext (by show (n.val / 256 * 4 + n.val / 64 % 4) * 64 + l.val = n.val / 64 * 64 + l.val; omega)
  rw [e]
  ring

theorem equal_ref : Cert.algebraic_KernelIdeal_ReferenceIdeal_pre_finite_qk := fun m g m' g' hp ha => by
  refine ⟨fun c => AttnKernel.G m c, ?_, ?_⟩
  · exact (θ_run Cert.KernelIdeal.defs _ _).mono
      (fun r h c => ⟨(h c).1.trans (AttnKernel.final m c), (h c).2⟩) (Cert.KernelIdeal.Value.run_blocks m g)
  · refine (θ_run Cert.ReferenceIdeal.defs _ _).mono (fun r h c => ⟨(h c).1.trans ?_, (h c).2⟩)
      (Cert.ReferenceIdeal.Value.run m' g')
    obtain ⟨h0, h1, h2⟩ := ha c
    rw [Cert.ReferenceIdeal.Read.val_main_v24_eq, h0, h1, h2]
    funext y
    have fin := AttnPre.finite _ _ _ (hp c)
    have key : ∀ (b : Fin 8) (t : Fin 4096) (n : Fin 512), _ = AttnKernel.G m c (ix3 b t n) := fun b t n =>
      value_eq _ _ _ fin.1 fin.2 b t n
    rw [eq_ix3 y]
    exact key (y 0) (y 1) (y 2)

end Cert.AttnClaim
-- ==== Proof.PostRow.lean ====
/- One row of the closing block of the layer, as scalar functions of the extended reals: the residual after the output
   projection, the normalisation, the gated feed-forward network, the second residual and the closing normalisation.
   Both programs are read down to these functions. -/
module

public import Idealize.ShloMosaic.PureOps.Ideal
public import Idealize.ShloMosaic.Lib.Pointwise
public import Idealize.ShloMosaic.Lib.ValueIdx

@[expose] public section

noncomputable section

namespace Cert.PostRow

open Idealize.ShloMosaic

/-- One number of a 32-bit word. -/
abbrev num (w : BitVec 32) : EReal := (Scalar.ofBits .f32 w : Ideal .f32)

/-- The reciprocal root of a row's mean square, shifted by the small constant. -/
def rinv (x : Fin 1024 → EReal) : EReal :=
  Ideal.rsqrt (Ideal.div (∑ k : Fin 1024, x k * x k) (num 0x44800000#32) + num 0x358637BD#32)

/-- The first residual: the row plus the gated output projection of the two attention halves. -/
def mid (x ga : Fin 1024 → EReal) (ona og : Fin 512 → EReal) (wlo whi : Fin 512 → Fin 1024 → EReal) (d : Fin 1024) : EReal :=
  x d + ga d * (∑ k : Fin 512, ona k * wlo k d + ∑ k : Fin 512, og k * whi k d)

/-- The normalised row, scaled and shifted by the modulation. -/
def hid (x gf gain shift : Fin 1024 → EReal) (d : Fin 1024) : EReal :=
  x d * rinv x * gf d * gain d + shift d

/-- A row times a matrix. -/
def lin {n : Nat} (h : Fin 1024 → EReal) (w : Fin 1024 → Fin n → EReal) (j : Fin n) : EReal :=
  ∑ k : Fin 1024, h k * w k j

/-- The gated unit: the smooth gate of `g` times `u`. -/
def gated (g u : EReal) : EReal :=
  Ideal.div g (num 0x3F800000#32 + Ideal.exp (num 0x00000000#32 - g)) * u

/-- The second residual. -/
def tailRow (x h gfc : Fin 1024 → EReal) (wg wu : Fin 1024 → Fin 2816 → EReal) (wd : Fin 2816 → Fin 1024 → EReal)
    (d : Fin 1024) : EReal :=
  x d + gfc d * ∑ j : Fin 2816, gated (lin h wg j) (lin h wu j) * wd j d

/-- The closing normalisation. -/
def closing (x gfin : Fin 1024 → EReal) (d : Fin 1024) : EReal := x d * rinv x * gfin d

/-- The whole row. -/
def rowOut (x ga shift gain gfc gf gfin : Fin 1024 → EReal) (ona og : Fin 512 → EReal)
    (wlo whi : Fin 512 → Fin 1024 → EReal) (wg wu : Fin 1024 → Fin 2816 → EReal) (wd : Fin 2816 → Fin 1024 → EReal) :
    Fin 1024 → EReal :=
  closing (tailRow (mid x ga ona og wlo whi) (hid (mid x ga ona og wlo whi) gf gain shift) gfc wg wu wd) gfin

/-- The closing block of the layer at batch `b`, token `t` and column `d`, of the program's arguments. -/
def postVal (x0 : (⟨3, ![8, 4096, 1024]⟩ : Shape).Idx → EReal) (x1 x2 : (⟨3, ![8, 4096, 512]⟩ : Shape).Idx → EReal)
    (x3 : (⟨3, ![8, 6, 1024]⟩ : Shape).Idx → EReal) (x4 : (⟨3, ![1, 1024, 1024]⟩ : Shape).Idx → EReal)
    (x5 : (⟨2, ![1, 1024]⟩ : Shape).Idx → EReal) (x6 x7 : (⟨3, ![1, 1024, 2816]⟩ : Shape).Idx → EReal)
    (x8 : (⟨3, ![1, 2816, 1024]⟩ : Shape).Idx → EReal) (x9 : (⟨1, ![1024]⟩ : Shape).Idx → EReal)
    (b : Fin 8) (t : Fin 4096) (d : Fin 1024) : EReal :=
  rowOut (fun k => x0 (ix3 b t k)) (fun k => x3 (ix3 b 2 k)) (fun k => x3 (ix3 b 3 k))
    (fun k => num 0x3F800000#32 + x3 (ix3 b 4 k)) (fun k => x3 (ix3 b 5 k)) (fun k => x5 (ix2 0 k)) (fun k => x9 (ix1 k))
    (fun k => x1 (ix3 b t k)) (fun k => x2 (ix3 b t k))
    (fun k d => x4 (ix3 0 ⟨k.val, by omega⟩ d)) (fun k d => x4 (ix3 0 ⟨512 + k.val, by omega⟩ d))
    (fun k j => x6 (ix3 0 k j)) (fun k j => x7 (ix3 0 k j)) (fun j d => x8 (ix3 0 j d)) d

/-- A sum over 1024 coordinates is the sum over the lower half plus the sum over the upper half. -/
theorem sum_halves (f : Fin 1024 → EReal) :
    ∑ k : Fin 1024, f k
      = ∑ k : Fin 512, f ⟨k.val, by omega⟩ + ∑ k : Fin 512, f ⟨512 + k.val, by omega⟩ :=
  Fin.sum_univ_add (a := 512) (b := 512) f

end Cert.PostRow
-- ==== Proof.PostBlock.lean ====
/- One tile of 256 rows of the closing block, as the printed kernel computes it, and its reading at an index: row `r` of
   the tile is `PostRow.rowOut` of the tile's row. -/
module

public import proofs.«01_k».proof.Proof.Gen.PostIdeal.Value
public import proofs.«01_k».proof.Proof.PostRow
public import Idealize.ShloMosaic.Lib.Pipeline.ValueKit

@[expose] public section

noncomputable section

namespace Cert.PostBlock

open Cert.PostIdeal Cert.PostIdeal.Gen Idealize.ShloMosaic Cert.PostRow

/-- A tile of 256 rows. -/
abbrev Tile := FVec Ideal S256x1024 .f32
/-- One row of 1024 numbers. -/
abbrev Row := FVec Ideal S1x1024 .f32

def across (v : Row) : Tile := broadcastTo S256x1024 v broadcasts_S1x1024_S256x1024

def proj (ona og : FVec Ideal S256x512 .bf16) (wlo whi : FVec Ideal S512x1024 .bf16) : Tile :=
  addf (matmul dot_S256x512_S512x1024_S256x1024_1_0_0_1_n_n none ona wlo (constant S256x1024 .f32 0x00000000#32))
    (matmul dot_S256x512_S512x1024_S256x1024_1_0_0_1_n_n none og whi (constant S256x1024 .f32 0x00000000#32))

def midT (x : Tile) (ga : Row) (p : Tile) : Tile := addf x (mulf (across ga) p)

def normT (x : Tile) : Tile :=
  mulf x (broadcastTo S256x1024
    (rsqrt (addf (divf (shapeCast S256x1
        (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32))))
    broadcasts_S256x1_S256x1024)

def hidT (x : Tile) (gf gain shift : Row) : FVec Ideal S256x1024 .bf16 :=
  truncf .bf16 (addf (mulf (mulf (normT x) (across gf)) (across gain)) (across shift)) bitsLt_bf16_f32

def linT (h : FVec Ideal S256x1024 .bf16) (w : FVec Ideal S1024x2816 .bf16) : FVec Ideal S256x2816 .f32 :=
  matmul dot_S256x1024_S1024x2816_S256x2816_1_0_0_1_n_n none h w (constant S256x2816 .f32 0x00000000#32)

def gateT (g u : FVec Ideal S256x2816 .f32) : FVec Ideal S256x2816 .bf16 :=
  truncf .bf16 (mulf (divf g (addf (broadcast S256x2816 (Scalar.ofBits .f32 0x3F800000#32))
    (exp (subf (broadcast S256x2816 (Scalar.ofBits .f32 0x00000000#32)) g)))) u) bitsLt_bf16_f32

def tailT (x : Tile) (gfc : Row) (f : FVec Ideal S256x2816 .bf16) (wd : FVec Ideal S2816x1024 .bf16) : Tile :=
  addf x (mulf (across gfc)
    (matmul dot_S256x2816_S2816x1024_S256x1024_1_0_0_1_n_n none f wd (constant S256x1024 .f32 0x00000000#32)))

def closeT (x : Tile) (gfin : Row) : Tile := mulf (normT x) (across gfin)

/-- The whole tile. -/
def tile (x : Tile) (ga shift gain gfc gf gfin : Row) (ona og : FVec Ideal S256x512 .bf16)
    (wlo whi : FVec Ideal S512x1024 .bf16) (wg wu : FVec Ideal S1024x2816 .bf16) (wd : FVec Ideal S2816x1024 .bf16) : Tile :=
  closeT (tailT (midT x ga (proj ona og wlo whi)) gfc
    (gateT (linT (hidT (midT x ga (proj ona og wlo whi)) gf gain shift) wg)
      (linT (hidT (midT x ga (proj ona og wlo whi)) gf gain shift) wu)) wd) gfin

section Read

open ValueIdx (addf_apply mulf_apply truncf_apply)
variable (r : Fin 256)

theorem across_at (v : Row) (d : Fin 1024) : across v (ix2 r d) = v (ix2 0 d) := by
  unfold across; simp only [pointwise]; rfl

theorem proj_at (ona og : FVec Ideal S256x512 .bf16) (wlo whi : FVec Ideal S512x1024 .bf16) (d : Fin 1024) :
    proj ona og wlo whi (ix2 r d)
      = ∑ k : Fin 512, ona (ix2 r k) * wlo (ix2 k d) + ∑ k : Fin 512, og (ix2 r k) * whi (ix2 k d) := by
  unfold proj; simp only [pointwise, zero_add]

theorem midT_at (x p : Tile) (ga : Row) (d : Fin 1024) :
    midT x ga p (ix2 r d) = x (ix2 r d) + ga (ix2 0 d) * p (ix2 r d) := by
  unfold midT; rw [addf_apply, mulf_apply, across_at]

theorem midT_proj_at (x : Tile) (ga : Row) (ona og : FVec Ideal S256x512 .bf16) (wlo whi : FVec Ideal S512x1024 .bf16)
    (d : Fin 1024) :
    midT x ga (proj ona og wlo whi) (ix2 r d)
      = mid (fun k => x (ix2 r k)) (fun k => ga (ix2 0 k)) (fun k => ona (ix2 r k)) (fun k => og (ix2 r k))
          (fun k d => wlo (ix2 k d)) (fun k d => whi (ix2 k d)) d := by
  rw [midT_at, proj_at]; rfl

theorem normT_at (x : Tile) (d : Fin 1024) :
    normT x (ix2 r d) = x (ix2 r d) * rinv fun k => x (ix2 r k) := by
  unfold normT rinv; simp only [pointwise]; rfl

theorem hidT_at (x : Tile) (gf gain shift : Row) (d : Fin 1024) :
    hidT x gf gain shift (ix2 r d)
      = hid (fun k => x (ix2 r k)) (fun k => gf (ix2 0 k)) (fun k => gain (ix2 0 k)) (fun k => shift (ix2 0 k)) d := by
  unfold hidT hid; rw [truncf_apply, addf_apply, mulf_apply, mulf_apply, across_at, across_at, across_at, normT_at]

theorem linT_at (h : FVec Ideal S256x1024 .bf16) (w : FVec Ideal S1024x2816 .bf16) (j : Fin 2816) :
    linT h w (ix2 r j) = lin (fun k => h (ix2 r k)) (fun k j => w (ix2 k j)) j := by
  unfold linT lin; simp only [pointwise, zero_add]

theorem gateT_at (g u : FVec Ideal S256x2816 .f32) (j : Fin 2816) :
    gateT g u (ix2 r j) = gated (g (ix2 r j)) (u (ix2 r j)) := rfl

theorem tailT_at (x : Tile) (gfc : Row) (f : FVec Ideal S256x2816 .bf16) (wd : FVec Ideal S2816x1024 .bf16) (d : Fin 1024) :
    tailT x gfc f wd (ix2 r d)
      = x (ix2 r d) + gfc (ix2 0 d) * ∑ j : Fin 2816, f (ix2 r j) * wd (ix2 j d) := by
  unfold tailT; rw [addf_apply, mulf_apply, across_at]; simp only [pointwise, zero_add]

theorem closeT_at (x : Tile) (gfin : Row) (d : Fin 1024) :
    closeT x gfin (ix2 r d) = closing (fun k => x (ix2 r k)) (fun k => gfin (ix2 0 k)) d := by
  unfold closeT closing; rw [mulf_apply, across_at, normT_at]

theorem tile_at (x : Tile) (ga shift gain gfc gf gfin : Row) (ona og : FVec Ideal S256x512 .bf16)
    (wlo whi : FVec Ideal S512x1024 .bf16) (wg wu : FVec Ideal S1024x2816 .bf16) (wd : FVec Ideal S2816x1024 .bf16)
    (d : Fin 1024) :
    tile x ga shift gain gfc gf gfin ona og wlo whi wg wu wd (ix2 r d)
      = rowOut (fun k => x (ix2 r k)) (fun k => ga (ix2 0 k)) (fun k => shift (ix2 0 k)) (fun k => gain (ix2 0 k))
          (fun k => gfc (ix2 0 k)) (fun k => gf (ix2 0 k)) (fun k => gfin (ix2 0 k)) (fun k => ona (ix2 r k))
          (fun k => og (ix2 r k)) (fun k d => wlo (ix2 k d)) (fun k d => whi (ix2 k d)) (fun k j => wg (ix2 k j))
          (fun k j => wu (ix2 k j)) (fun j d => wd (ix2 j d)) d := by
  unfold tile rowOut
  rw [closeT_at]
  refine congrArg (fun f => closing f _ d) (funext fun k => ?_)
  rw [tailT_at]
  unfold tailRow
  simp only [gateT_at, linT_at, hidT_at, midT_proj_at]

end Read

/-! ## The block a grid point writes -/

section Block

variable (x0 : Vec Ideal S1x1024x1024 .f32) (x1 x2 : Vec Ideal S1x1024x512 .bf16) (x3 : Vec Ideal S1x6x1024 .f32)
  (x4 : Vec Ideal S1024x1024 .bf16) (x5 : Vec Ideal S1x1024 .f32) (x6 x7 : Vec Ideal S1024x2816 .bf16)
  (x8 : Vec Ideal S2816x1024 .bf16) (x9 : Vec Ideal S1x1024 .f32)

/-- The tile of the block's rows `o … o+255`. -/
def tileOf (o : Nat) (hx : ∀ a, ![0, o, 0] a + S1x256x1024.size a ≤ S1x1024x1024.size a)
    (ho : ∀ a, ![0, o, 0] a + S1x256x512.size a ≤ S1x1024x512.size a) : FVec Ideal S1x256x1024 .f32 :=
  shapeCast S1x256x1024 (tile
    (shapeCast S256x1024 (View.ld x0 (Rect.unit (s := S1x1024x1024) ![0, o, 0] S1x256x1024.size hx)) shapeCasts_S1x256x1024_S256x1024)
    (shapeCast S1x1024 (View.ld x3 r0_0) shapeCasts_S1x1x1024_S1x1024)
    (shapeCast S1x1024 (View.ld x3 r0_1) shapeCasts_S1x1x1024_S1x1024)
    (addf (broadcast S1x1024 (Scalar.ofBits .f32 0x3F800000#32)) (shapeCast S1x1024 (View.ld x3 r0_2) shapeCasts_S1x1x1024_S1x1024))
    (shapeCast S1x1024 (View.ld x3 r0_3) shapeCasts_S1x1x1024_S1x1024)
    (shapeCast S1x1024 (View.ld x5 r0_10) shapeCasts_S1x1024_S1x1024)
    (shapeCast S1x1024 (View.ld x9 r0_10) shapeCasts_S1x1024_S1x1024)
    (shapeCast S256x512 (View.ld x1 (Rect.unit (s := S1x1024x512) ![0, o, 0] S1x256x512.size ho)) shapeCasts_S1x256x512_S256x512)
    (shapeCast S256x512 (View.ld x2 (Rect.unit (s := S1x1024x512) ![0, o, 0] S1x256x512.size ho)) shapeCasts_S1x256x512_S256x512)
    (shapeCast S512x1024 (View.ld x4 r0_5) shapeCasts_S512x1024_S512x1024)
    (shapeCast S512x1024 (View.ld x4 r0_6) shapeCasts_S512x1024_S512x1024)
    (shapeCast S1024x2816 (View.ld x6 r0_11) shapeCasts_S1024x2816_S1024x2816)
    (shapeCast S1024x2816 (View.ld x7 r0_11) shapeCasts_S1024x2816_S1024x2816)
    (shapeCast S2816x1024 (View.ld x8 r0_12) shapeCasts_S2816x1024_S2816x1024)) shapeCasts_S256x1024_S1x256x1024

/-- What the block holds at row `R` and column `d`. -/
def blockVal (R d : Fin 1024) : EReal :=
  rowOut (fun k => x0 (ix3 0 R k)) (fun k => x3 (ix3 0 2 k)) (fun k => x3 (ix3 0 3 k))
    (fun k => num 0x3F800000#32 + x3 (ix3 0 4 k)) (fun k => x3 (ix3 0 5 k)) (fun k => x5 (ix2 0 k)) (fun k => x9 (ix2 0 k))
    (fun k => x1 (ix3 0 R k)) (fun k => x2 (ix3 0 R k))
    (fun k d => x4 (ix2 ⟨k.val, by omega⟩ d)) (fun k d => x4 (ix2 ⟨512 + k.val, by omega⟩ d))
    (fun k j => x6 (ix2 k j)) (fun k j => x7 (ix2 k j)) (fun j d => x8 (ix2 j d)) d

theorem tileOf_at (o : Nat) (hx ho) (a : Fin 1) (r : Fin 256) (R d : Fin 1024) (hR : R.val = o + r.val) :
    tileOf x0 x1 x2 x3 x4 x5 x6 x7 x8 x9 o hx ho (ix3 a r d) = blockVal x0 x1 x2 x3 x4 x5 x6 x7 x8 x9 R d := by
  unfold tileOf
  have e : ∀ v : Tile, shapeCast S1x256x1024 v shapeCasts_S256x1024_S1x256x1024 (ix3 a r d) = v (ix2 r d) := fun v => by
    simp only [pointwise]
  rw [e, tile_at]
  unfold blockVal
  have hx0 : ∀ k : Fin 1024, shapeCast S256x1024 (View.ld x0 (Rect.unit (s := S1x1024x1024) ![0, o, 0] S1x256x1024.size hx))
      shapeCasts_S1x256x1024_S256x1024 (ix2 r k) = x0 (ix3 0 R k) := fun k => by
    simp only [pointwise]
    refine congrArg x0 (funext fun a => Fin.ext ?_)
    fin_cases a
    · rfl
    · show o + 1 * r.val = R.val; omega
    · show 0 + 1 * k.val = k.val; omega
  have hx1 : ∀ (X : Vec Ideal S1x1024x512 .bf16) (k : Fin 512),
      shapeCast S256x512 (View.ld X (Rect.unit (s := S1x1024x512) ![0, o, 0] S1x256x512.size ho))
      shapeCasts_S1x256x512_S256x512 (ix2 r k) = X (ix3 0 R k) := fun X k => by
    simp only [pointwise]
    refine congrArg X (funext fun a => Fin.ext ?_)
    fin_cases a
    · rfl
    · show o + 1 * r.val = R.val; omega
    · show 0 + 1 * k.val = k.val; omega
  have hm : ∀ (q : Nat) (hq) (k : Fin 1024) (h6 : q < 6),
      shapeCast S1x1024 (View.ld x3 (Rect.unit (s := S1x6x1024) ![0, q, 0] S1x1x1024.size hq))
        shapeCasts_S1x1x1024_S1x1024 (ix2 0 k) = x3 (ix3 0 ⟨q, h6⟩ k) := fun q hq k h6 => by
    simp only [pointwise]
    refine congrArg x3 (funext fun a => Fin.ext ?_)
    fin_cases a
    · rfl
    · show q + 1 * 0 = q; omega
    · show 0 + 1 * k.val = k.val; omega
  have hw : ∀ (q : Nat) (hq) (k : Fin 512) (d : Fin 1024) (h6 : q + k.val < 1024),
      shapeCast S512x1024 (View.ld x4 (Rect.unit (s := S1024x1024) ![q, 0] S512x1024.size hq))
        shapeCasts_S512x1024_S512x1024 (ix2 k d) = x4 (ix2 ⟨q + k.val, h6⟩ d) := fun q hq k d h6 => by
    simp only [pointwise]
    refine congrArg x4 (funext fun a => Fin.ext ?_)
    fin_cases a
    · show q + 1 * k.val = q + k.val; omega
    · show 0 + 1 * d.val = d.val; omega
  have hg : ∀ (X : Vec Ideal S1x1024 .f32) (k : Fin 1024),
      shapeCast S1x1024 (View.ld X r0_10) shapeCasts_S1x1024_S1x1024 (ix2 0 k) = X (ix2 0 k) := fun X k => by
    simp only [pointwise]
    refine congrArg X (funext fun a => Fin.ext ?_)
    fin_cases a
    · rfl
    · show 0 + 1 * k.val = k.val; omega
  have hu : ∀ (X : Vec Ideal S1024x2816 .bf16) (k : Fin 1024) (j : Fin 2816),
      shapeCast S1024x2816 (View.ld X r0_11) shapeCasts_S1024x2816_S1024x2816 (ix2 k j) = X (ix2 k j) := fun X k j => by
    simp only [pointwise]
    refine congrArg X (funext fun a => Fin.ext ?_)
    fin_cases a
    · show 0 + 1 * k.val = k.val; omega
    · show 0 + 1 * j.val = j.val; omega
  have hd : ∀ (X : Vec Ideal S2816x1024 .bf16) (j : Fin 2816) (k : Fin 1024),
      shapeCast S2816x1024 (View.ld X r0_12) shapeCasts_S2816x1024_S2816x1024 (ix2 j k) = X (ix2 j k) := fun X j k => by
    simp only [pointwise]
    refine congrArg X (funext fun a => Fin.ext ?_)
    fin_cases a
    · show 0 + 1 * j.val = j.val; omega
    · show 0 + 1 * k.val = k.val; omega
  have hlo : ∀ (k : Fin 512) (d : Fin 1024), shapeCast S512x1024 (View.ld x4 r0_5)
      shapeCasts_S512x1024_S512x1024 (ix2 k d) = x4 (ix2 ⟨k.val, by omega⟩ d) := fun k d =>
    (hw 0 _ k d (by omega)).trans (congrArg x4 (congrArg (fun q => ix2 q d) (Fin.ext (Nat.zero_add _))))
  have hhi : ∀ (k : Fin 512) (d : Fin 1024), shapeCast S512x1024 (View.ld x4 r0_6)
      shapeCasts_S512x1024_S512x1024 (ix2 k d) = x4 (ix2 ⟨512 + k.val, by omega⟩ d) := fun k d =>
    hw 512 _ k d (by omega)
  simp only [hx0, hx1, ValueIdx.addf_apply, hm 2 _ _ (by omega), hm 3 _ _ (by omega), hm 4 _ _ (by omega),
    hm 5 _ _ (by omega), hg, hu, hd, hlo, hhi]
  rfl

/-- The block a grid point leaves, at row `R` and column `d`. -/
theorem out_at (y : S1x1024x1024.Idx) :
    out0_10 x0 x1 x2 x3 x4 x5 x6 x7 x8 x9 y = blockVal x0 x1 x2 x3 x4 x5 x6 x7 x8 x9 (y 1) (y 2) := by
  have h : out0_10 x0 x1 x2 x3 x4 x5 x6 x7 x8 x9
      = View.canon [⟨r0_16, tileOf x0 x1 x2 x3 x4 x5 x6 x7 x8 x9 768 inb_S1x1024x1024_S1x256x1024_0_768_0 inb_S1x1024x512_S1x256x512_0_768_0⟩,
        ⟨r0_15, tileOf x0 x1 x2 x3 x4 x5 x6 x7 x8 x9 512 inb_S1x1024x1024_S1x256x1024_0_512_0 inb_S1x1024x512_S1x256x512_0_512_0⟩,
        ⟨r0_9, tileOf x0 x1 x2 x3 x4 x5 x6 x7 x8 x9 256 inb_S1x1024x1024_S1x256x1024_0_256_0 inb_S1x1024x512_S1x256x512_0_256_0⟩,
        ⟨r0_8, tileOf x0 x1 x2 x3 x4 x5 x6 x7 x8 x9 0 inb_S1x1024x1024_S1x256x1024_0_0_0 inb_S1x1024x512_S1x256x512_0_0_0⟩] := rfl
  rw [h]
  refine View.canon_apply_of_pieces (Val := Elt Ideal) (e := .f32) (S := S1x1024x1024) (fun y => blockVal x0 x1 x2 x3 x4 x5 x6 x7 x8 x9 (y 1) (y 2)) _ ?_ y (cover0_10 _ _ _ _ y)
  have key : ∀ (o : Nat) (hx ho) (x : S1x256x1024.Idx),
      tileOf x0 x1 x2 x3 x4 x5 x6 x7 x8 x9 o hx ho x
        = blockVal x0 x1 x2 x3 x4 x5 x6 x7 x8 x9 ((Rect.unit (s := S1x1024x1024) ![0, o, 0] S1x256x1024.size hx).emb x 1)
            ((Rect.unit (s := S1x1024x1024) ![0, o, 0] S1x256x1024.size hx).emb x 2) := fun o hx ho x => by
    rw [eq_ix3 x]
    refine (tileOf_at x0 x1 x2 x3 x4 x5 x6 x7 x8 x9 o hx ho _ _ _ _ (Rect.idx_unit_val _ _ hx _ 1)).trans
      (congrArg (blockVal x0 x1 x2 x3 x4 x5 x6 x7 x8 x9 _) ?_)
    exact Fin.ext ((Rect.idx_unit_val _ _ hx _ 2).trans (Nat.zero_add _)).symm
  intro p hp x
  simp only [List.mem_cons, List.not_mem_nil, or_false] at hp
  rcases hp with rfl | rfl | rfl | rfl
  · exact key 768 _ _ x
  · exact key 512 _ _ x
  · exact key 256 _ _ x
  · exact key 0 _ _ x

end Block

end Cert.PostBlock
-- ==== Proof.PostKernel.lean ====
/- The array the closing block's kernel leaves, index by index over its arguments. -/
module

public import proofs.«01_k».proof.Proof.PostBlock
public import Idealize.ShloMosaic.Lib.Pipeline.ValueKit

@[expose] public section

noncomputable section

namespace Cert.PostKernel

open Cert.PostIdeal Cert.PostIdeal.Gen Cert.PostRow Cert.PostBlock Idealize.ShloMosaic Idealize.ShloMosaic.TcCoe Idealize.SL.Sem
open Idealize.ShloMosaic.Pipeline (Dat)

variable (m : (ℓ : Loc nD τ sig) → Buf (Elt Ideal) ℓ)

/-- The result array. -/
def G (c : Dev nD) : Buf (Elt Ideal) ((c.tc : Thread nD τ).loc main_v13) := fun y =>
  postVal (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (y 0) (y 1) (y 2)

/-! ## What the host hands to the call -/

theorem V_v0 (c : Dev nD) (y : S8x4096x512.Idx) : (V m c main_v0 : S8x4096x512.Idx → EReal) y = m ((c.tc : Thread nD τ).loc main_arg1) y := by
  dsimp only [V, hostOps0]; after_results; rfl
theorem V_v1 (c : Dev nD) (y : S8x4096x512.Idx) : (V m c main_v1 : S8x4096x512.Idx → EReal) y = m ((c.tc : Thread nD τ).loc main_arg2) y := by
  dsimp only [V, hostOps0]; after_results; rfl
theorem V_v3 (c : Dev nD) (i : Fin 1024) (j : Fin 1024) :
    (V m c main_v3 : S1024x1024.Idx → EReal) (ix2 i j) = m ((c.tc : Thread nD τ).loc main_arg4) (ix3 0 i j) := by
  dsimp only [V, hostOps0]; after_results; simp only [pointwise]
theorem V_v5 (c : Dev nD) (j : Fin 1024) :
    (V m c main_v5 : S1x1024.Idx → EReal) (ix2 0 j) = m ((c.tc : Thread nD τ).loc main_arg5) (ix2 0 j) := by
  dsimp only [V, hostOps0]; after_results; simp only [pointwise]
theorem V_v7 (c : Dev nD) (i : Fin 1024) (j : Fin 2816) :
    (V m c main_v7 : S1024x2816.Idx → EReal) (ix2 i j) = m ((c.tc : Thread nD τ).loc main_arg6) (ix3 0 i j) := by
  dsimp only [V, hostOps0]; after_results; simp only [pointwise]
theorem V_v9 (c : Dev nD) (i : Fin 1024) (j : Fin 2816) :
    (V m c main_v9 : S1024x2816.Idx → EReal) (ix2 i j) = m ((c.tc : Thread nD τ).loc main_arg7) (ix3 0 i j) := by
  dsimp only [V, hostOps0]; after_results; simp only [pointwise]
theorem V_v11 (c : Dev nD) (i : Fin 2816) (j : Fin 1024) :
    (V m c main_v11 : S2816x1024.Idx → EReal) (ix2 i j) = m ((c.tc : Thread nD τ).loc main_arg8) (ix3 0 i j) := by
  dsimp only [V, hostOps0]; after_results; simp only [pointwise]
theorem V_v12 (c : Dev nD) (j : Fin 1024) :
    (V m c main_v12 : S1x1024.Idx → EReal) (ix2 0 j) = m ((c.tc : Thread nD τ).loc main_arg9) (ix1 j) := by
  dsimp only [V, hostOps0]; after_results; simp only [pointwise]

set_option maxHeartbeats 4000000 in
theorem final (c : Dev nD) : (dats m 0 c).arrAt 10 cfg0.N = G m c := by
  refine (dats m 0 c).arrAt_eq_of_covers 10 _ (by decide +kernel) fun t hf y => ?_
  blk_simp
  rw [after0_10]
  have e0 : ∀ t : Fin cfg0.N, win0_0.index t = ![(grid0.coords t 0).val, (grid0.coords t 1).val, 0] := (by decide +kernel : ∀ t : Fin grid0.N, _)
  have e1 : ∀ t : Fin cfg0.N, win0_1.index t = ![(grid0.coords t 0).val, (grid0.coords t 1).val, 0] := (by decide +kernel : ∀ t : Fin grid0.N, _)
  have e2 : ∀ t : Fin cfg0.N, win0_2.index t = ![(grid0.coords t 0).val, (grid0.coords t 1).val, 0] := (by decide +kernel : ∀ t : Fin grid0.N, _)
  have e3 : ∀ t : Fin cfg0.N, win0_3.index t = ![(grid0.coords t 0).val, 0, 0] := (by decide +kernel : ∀ t : Fin grid0.N, _)
  have e4 : ∀ t : Fin cfg0.N, win0_4.index t = ![0, 0] := (by decide +kernel : ∀ t : Fin grid0.N, _)
  have e5 : ∀ t : Fin cfg0.N, win0_5.index t = ![0, 0] := (by decide +kernel : ∀ t : Fin grid0.N, _)
  have e6 : ∀ t : Fin cfg0.N, win0_6.index t = ![0, 0] := (by decide +kernel : ∀ t : Fin grid0.N, _)
  have e7 : ∀ t : Fin cfg0.N, win0_7.index t = ![0, 0] := (by decide +kernel : ∀ t : Fin grid0.N, _)
  have e8 : ∀ t : Fin cfg0.N, win0_8.index t = ![0, 0] := (by decide +kernel : ∀ t : Fin grid0.N, _)
  have e9 : ∀ t : Fin cfg0.N, win0_9.index t = ![0, 0] := (by decide +kernel : ∀ t : Fin grid0.N, _)
  have e10 : ∀ t : Fin cfg0.N, win0_10.index t = ![(grid0.coords t 0).val, (grid0.coords t 1).val, 0] := (by decide +kernel : ∀ t : Fin grid0.N, _)
  refine (out_at _ _ _ _ _ _ _ _ _ _ y).trans ?_
  have hb : (grid0.coords t 0).val < 8 := (grid0.coords t 0).isLt
  have ht : (grid0.coords t 1).val < 4 := (grid0.coords t 1).isLt
  have hT : ∀ r : Fin 1024, (grid0.coords t 1).val * 1024 + r.val < 4096 := fun r => by omega
  have h0 : ∀ r k : Fin 1024, iblk m c 0 t (ix3 0 r k) = m ((c.tc : Thread nD τ).loc main_arg0)
      (ix3 ⟨(grid0.coords t 0).val, hb⟩ ⟨(grid0.coords t 1).val * 1024 + r.val, hT r⟩ k) := fun r k => by
    blk_simp [iblk]
    rw [V_main_arg0]
    refine congrArg _ ?_
    blk_ext [e0]
  have h1 : ∀ (r : Fin 1024) (k : Fin 512), iblk m c 1 t (ix3 0 r k) = m ((c.tc : Thread nD τ).loc main_arg1)
      (ix3 ⟨(grid0.coords t 0).val, hb⟩ ⟨(grid0.coords t 1).val * 1024 + r.val, hT r⟩ k) := fun r k => by
    blk_simp [iblk]
    refine (congrArg (V m c main_v0) (?_ : _ = (ix3 ⟨(grid0.coords t 0).val, hb⟩ ⟨(grid0.coords t 1).val * 1024 + r.val, hT r⟩ k))).trans (V_v0 m c _)
    blk_ext [e1]
  have h2 : ∀ (r : Fin 1024) (k : Fin 512), iblk m c 2 t (ix3 0 r k) = m ((c.tc : Thread nD τ).loc main_arg2)
      (ix3 ⟨(grid0.coords t 0).val, hb⟩ ⟨(grid0.coords t 1).val * 1024 + r.val, hT r⟩ k) := fun r k => by
    blk_simp [iblk]
    refine (congrArg (V m c main_v1) (?_ : _ = (ix3 ⟨(grid0.coords t 0).val, hb⟩ ⟨(grid0.coords t 1).val * 1024 + r.val, hT r⟩ k))).trans (V_v1 m c _)
    blk_ext [e2]
  have h3 : ∀ (q : Fin 6) (k : Fin 1024), iblk m c 3 t (ix3 0 q k) = m ((c.tc : Thread nD τ).loc main_arg3)
      (ix3 ⟨(grid0.coords t 0).val, hb⟩ q k) := fun q k => by
    blk_simp [iblk]
    rw [V_main_arg3]
    refine congrArg _ ?_
    blk_ext [e3]
  have h4 : ∀ (i : Fin 1024) (j : Fin 1024), iblk m c 4 t (ix2 i j) = m ((c.tc : Thread nD τ).loc main_arg4) (ix3 0 i j) := fun i j => by
    blk_simp [iblk]
    refine (congrArg (V m c main_v3) (?_ : _ = ix2 i j)).trans (V_v3 m c i j)
    blk_ext [e4]
  have h6 : ∀ (i : Fin 1024) (j : Fin 2816), iblk m c 6 t (ix2 i j) = m ((c.tc : Thread nD τ).loc main_arg6) (ix3 0 i j) := fun i j => by
    blk_simp [iblk]
    refine (congrArg (V m c main_v7) (?_ : _ = ix2 i j)).trans (V_v7 m c i j)
    blk_ext [e6]
  have h7 : ∀ (i : Fin 1024) (j : Fin 2816), iblk m c 7 t (ix2 i j) = m ((c.tc : Thread nD τ).loc main_arg7) (ix3 0 i j) := fun i j => by
    blk_simp [iblk]
    refine (congrArg (V m c main_v9) (?_ : _ = ix2 i j)).trans (V_v9 m c i j)
    blk_ext [e7]
  have h8 : ∀ (i : Fin 2816) (j : Fin 1024), iblk m c 8 t (ix2 i j) = m ((c.tc : Thread nD τ).loc main_arg8) (ix3 0 i j) := fun i j => by
    blk_simp [iblk]
    refine (congrArg (V m c main_v11) (?_ : _ = ix2 i j)).trans (V_v11 m c i j)
    blk_ext [e8]
  have h5 : ∀ (j : Fin 1024), iblk m c 5 t (ix2 0 j) = m ((c.tc : Thread nD τ).loc main_arg5) (ix2 0 j) := fun j => by
    blk_simp [iblk]
    refine (congrArg (V m c main_v5) (?_ : _ = ix2 0 j)).trans (V_v5 m c j)
    blk_ext [e5]
  have h9 : ∀ (j : Fin 1024), iblk m c 9 t (ix2 0 j) = m ((c.tc : Thread nD τ).loc main_arg9) (ix1 j) := fun j => by
    blk_simp [iblk]
    refine (congrArg (V m c main_v12) (?_ : _ = ix2 0 j)).trans (V_v12 m c j)
    blk_ext [e9]
  have hy : ((cfg0.win 10).blk t).view.emb y = ix3 (n0 := 8) (n1 := 4096) (n2 := 1024) ⟨(grid0.coords t 0).val, hb⟩
      ⟨(grid0.coords t 1).val * 1024 + (y 1).val, hT (y 1)⟩ (y 2) := by
    idx_bounds y
    blk_ext [e10]
  have hG : G m c (((cfg0.win 10).blk t).view.emb y) = G m c (ix3 (n0 := 8) (n1 := 4096) (n2 := 1024) ⟨(grid0.coords t 0).val, hb⟩
      ⟨(grid0.coords t 1).val * 1024 + (y 1).val, hT (y 1)⟩ (y 2)) := congrArg _ hy
  have key : ∀ r d : Fin 1024,
      blockVal (iblk m c 0 t) (iblk m c 1 t) (iblk m c 2 t) (iblk m c 3 t) (iblk m c 4 t) (iblk m c 5 t) (iblk m c 6 t)
          (iblk m c 7 t) (iblk m c 8 t) (iblk m c 9 t) r d
        = G m c (ix3 (n0 := 8) (n1 := 4096) (n2 := 1024) ⟨(grid0.coords t 0).val, hb⟩
            ⟨(grid0.coords t 1).val * 1024 + r.val, hT r⟩ d) := fun r d => by
    unfold blockVal
    simp only [h0, h1, h2, h3, h4, h5, h6, h7, h8, h9]
    rfl
  exact (key (y 1) (y 2)).trans hG.symm

end Cert.PostKernel
-- ==== Proof.PostRef.lean ====
/- The plain program of the closing block, read at an index: the same row function. -/
module

public import proofs.«01_k».proof.Proof.Gen.PostRefIdeal.Read
public import proofs.«01_k».proof.Proof.PostRow
public import Idealize.ShloMosaic.Lib.IdealHost

@[expose] public section

noncomputable section

namespace Cert.PostRef

open Cert.PostRefIdeal Cert.PostRefIdeal.Gen Cert.PostRefIdeal.Read Cert.PostRow Idealize.ShloMosaic

variable (x0 : (⟨S8x4096x1024, .f32⟩ : BufTy).Contents (Elt Ideal)) (x1 x2 : (⟨S8x4096x512, .f32⟩ : BufTy).Contents (Elt Ideal))
  (x3 : (⟨S8x6x1024, .f32⟩ : BufTy).Contents (Elt Ideal)) (x4 : (⟨S1x1024x1024, .f32⟩ : BufTy).Contents (Elt Ideal))
  (x5 : (⟨S1x1024, .f32⟩ : BufTy).Contents (Elt Ideal)) (x6 x7 : (⟨S1x1024x2816, .f32⟩ : BufTy).Contents (Elt Ideal))
  (x8 : (⟨S1x2816x1024, .f32⟩ : BufTy).Contents (Elt Ideal)) (x9 : (⟨S1024, .f32⟩ : BufTy).Contents (Elt Ideal))
  (b : Fin 8) (t : Fin 4096)

theorem v4_lo (k : Fin 512) : val_main_v4 (F := Ideal) x1 x2 (ix3 b t ⟨k.val, by omega⟩) = x1 (ix3 b t k) := by
  unfold val_main_v4
  exact concatenate_pair_apply_left (t := S8x4096x1024) 2 x1 x2 _ _ rfl (ix3 b t k) fun a => by fin_cases a <;> rfl
theorem v4_hi (k : Fin 512) : val_main_v4 (F := Ideal) x1 x2 (ix3 b t ⟨512 + k.val, by omega⟩) = x2 (ix3 b t k) := by
  unfold val_main_v4
  exact concatenate_pair_apply_right (t := S8x4096x1024) 2 x1 x2 _ _ rfl rfl (ix3 b t k)
    (fun a h => by fin_cases a <;> first | rfl | exact absurd rfl h) (Nat.add_comm _ _)

theorem v0_at (d : Fin 1024) : val_main_v0 (F := Ideal) x3 (ix3 b 0 d) = x3 (ix3 b 2 d) := by
  rw [val_main_v0_apply]; refine congrArg x3 (funext fun a => Fin.ext ?_); fin_cases a <;> simp <;> rfl
theorem v1_at (d : Fin 1024) : val_main_v1 (F := Ideal) x3 (ix3 b 0 d) = x3 (ix3 b 3 d) := by
  rw [val_main_v1_apply]; refine congrArg x3 (funext fun a => Fin.ext ?_); fin_cases a <;> simp <;> rfl
theorem v2_at (d : Fin 1024) : val_main_v2 (F := Ideal) x3 (ix3 b 0 d) = x3 (ix3 b 4 d) := by
  rw [val_main_v2_apply]; refine congrArg x3 (funext fun a => Fin.ext ?_); fin_cases a <;> simp <;> rfl
theorem v3_at (d : Fin 1024) : val_main_v3 (F := Ideal) x3 (ix3 b 0 d) = x3 (ix3 b 5 d) := by
  rw [val_main_v3_apply]; refine congrArg x3 (funext fun a => Fin.ext ?_); fin_cases a <;> simp <;> rfl

theorem v6_at (d : Fin 1024) : val_main_v6 (F := Ideal) x1 x2 x4 (ix3 b t d)
    = ∑ k : Fin 512, x1 (ix3 b t k) * x4 (ix3 0 ⟨k.val, by omega⟩ d)
      + ∑ k : Fin 512, x2 (ix3 b t k) * x4 (ix3 0 ⟨512 + k.val, by omega⟩ d) := by
  unfold val_main_v6 val_main_v5
  simp only [pointwise]
  rw [sum_halves]
  simp only [v4_lo, v4_hi, zero_add]

theorem v7_at (d : Fin 1024) : val_main_v7 (F := Ideal) x3 (ix3 b t d) = x3 (ix3 b 2 d) := by
  rw [val_main_v7_apply, show idx_main_v7 (ix3 b t d) = ix3 b 0 d from funext fun a => by fin_cases a <;> rfl, v0_at]
theorem v26_at (d : Fin 1024) : val_main_v26 (F := Ideal) x3 (ix3 b t d) = num 0x3F800000#32 + x3 (ix3 b 4 d) := by
  rw [val_main_v26_apply, show idx_main_v26 (ix3 b t d) = ix3 b 0 d from funext fun a => by fin_cases a <;> rfl,
    val_main_v25_apply, v2_at]; rfl
theorem v28_at (d : Fin 1024) : val_main_v28 (F := Ideal) x3 (ix3 b t d) = x3 (ix3 b 3 d) := by
  rw [val_main_v28_apply, show idx_main_v28 (ix3 b t d) = ix3 b 0 d from funext fun a => by fin_cases a <;> rfl, v1_at]
theorem v38_at (d : Fin 1024) : val_main_v38 (F := Ideal) x3 (ix3 b t d) = x3 (ix3 b 5 d) := by
  rw [val_main_v38_apply, show idx_main_v38 (ix3 b t d) = ix3 b 0 d from funext fun a => by fin_cases a <;> rfl, v3_at]

theorem v9_at (d : Fin 1024) : val_main_v9 (F := Ideal) x0 x1 x2 x3 x4 (ix3 b t d)
    = mid (fun k => x0 (ix3 b t k)) (fun k => x3 (ix3 b 2 k)) (fun k => x1 (ix3 b t k)) (fun k => x2 (ix3 b t k))
    (fun k d => x4 (ix3 0 ⟨k.val, by omega⟩ d)) (fun k d => x4 (ix3 0 ⟨512 + k.val, by omega⟩ d)) d := by
  rw [val_main_v9_apply, val_main_v8_apply, v6_at, v7_at]; rfl

theorem v29_at (d : Fin 1024) : val_main_v29 (F := Ideal) x0 x1 x2 x3 x4 x5 (ix3 b t d)
    = hid (fun k => val_main_v9 (F := Ideal) x0 x1 x2 x3 x4 (ix3 b t k)) (fun k => x5 (ix2 0 k))
        (fun k => num 0x3F800000#32 + x3 (ix3 b 4 k)) (fun k => x3 (ix3 b 3 k)) d := by
  rw [val_main_v29_apply, val_main_v27_apply, val_main_v23_apply, val_main_v20_apply, v26_at, v28_at]
  unfold val_main_v22 val_main_v21 val_main_v10
    val_main_v19 val_main_v18 val_main_v17 val_main_v15 val_main_v13 val_main_v12 val_main_v11 val_main_v14 val_main_v16
    val_main_cst val_main_cst_0 val_main_cst_1 hid rinv
  generalize val_main_v9 (F := Ideal) x0 x1 x2 x3 x4 = y
  simp only [pointwise, zero_add]
  rfl

/-- The smooth gate written as a product with the logistic function is the quotient. -/
theorem gate_eq (g u : EReal) :
    g * Ideal.div (num 0x3F800000#32) (num 0x3F800000#32 + Ideal.exp (-g)) * u = gated g u := by
  have h1 : num 0x3F800000#32 = 1 := Ideal.ofBits_one_f32
  have h0 : num 0x00000000#32 = 0 := Ideal.ofBits_zero_f32
  unfold gated
  rw [h1, h0, zero_sub]
  have hpos : (0 : EReal) ≤ Ideal.exp (-g) := by
    generalize -g = h
    induction h using EReal.rec with
    | bot => exact le_refl _
    | coe r => exact EReal.coe_nonneg.mpr (Real.exp_pos r).le
    | top => exact le_top
  have hne : (1 : EReal) + Ideal.exp (-g) ≠ 0 := by
    have : (0 : EReal) < 1 + Ideal.exp (-g) := lt_of_lt_of_le zero_lt_one (le_add_of_nonneg_right hpos)
    exact this.ne'
  unfold Ideal.div
  rw [if_neg hne, if_neg hne, one_mul]

theorem v35_at (j : Fin 2816) : val_main_v35 (F := Ideal) x0 x1 x2 x3 x4 x5 x6 x7 (ix3 b t j)
    = gated (lin (fun k => val_main_v29 (F := Ideal) x0 x1 x2 x3 x4 x5 (ix3 b t k)) (fun k j => x6 (ix3 0 k j)) j)
        (lin (fun k => val_main_v29 (F := Ideal) x0 x1 x2 x3 x4 x5 (ix3 b t k)) (fun k j => x7 (ix3 0 k j)) j) := by
  rw [← gate_eq]
  unfold val_main_v35 val_main_v32 val_main_v34 val_main_v33 val_main_call0_v5 val_main_call0_v4 val_main_call0_v3 val_main_call0_v2
    val_main_call0_v1 val_main_call0_v0 val_main_v31 val_main_v30 val_main_call0_cst val_main_call0_cst_0 lin
  generalize val_main_v29 (F := Ideal) x0 x1 x2 x3 x4 x5 = y
  simp only [pointwise, zero_add]

theorem v40_at (d : Fin 1024) : val_main_v40 (F := Ideal) x0 x1 x2 x3 x4 x5 x6 x7 x8 (ix3 b t d)
    = tailRow (fun k => val_main_v9 (F := Ideal) x0 x1 x2 x3 x4 (ix3 b t k))
        (fun k => val_main_v29 (F := Ideal) x0 x1 x2 x3 x4 x5 (ix3 b t k)) (fun k => x3 (ix3 b 5 k))
        (fun k j => x6 (ix3 0 k j)) (fun k j => x7 (ix3 0 k j)) (fun j d => x8 (ix3 0 j d)) d := by
  rw [val_main_v40_apply, val_main_v39_apply, v38_at]
  unfold tailRow val_main_v37 val_main_v36
  simp only [pointwise, zero_add, v35_at]

theorem v53_at (d : Fin 1024) : val_main_v53 (F := Ideal) x0 x1 x2 x3 x4 x5 x6 x7 x8 x9 (ix3 b t d)
    = postVal x0 x1 x2 x3 x4 x5 x6 x7 x8 x9 b t d := by
  have h9 : (fun k => val_main_v9 (F := Ideal) x0 x1 x2 x3 x4 (ix3 b t k)) = _ := funext fun k => v9_at x0 x1 x2 x3 x4 b t k
  have h29 : (fun k => val_main_v29 (F := Ideal) x0 x1 x2 x3 x4 x5 (ix3 b t k)) = _ := funext fun k => v29_at x0 x1 x2 x3 x4 x5 b t k
  have h40 : (fun k => val_main_v40 (F := Ideal) x0 x1 x2 x3 x4 x5 x6 x7 x8 (ix3 b t k)) = _ :=
    funext fun k => v40_at x0 x1 x2 x3 x4 x5 x6 x7 x8 b t k
  have h : val_main_v53 (F := Ideal) x0 x1 x2 x3 x4 x5 x6 x7 x8 x9 (ix3 b t d)
      = closing (fun k => val_main_v40 (F := Ideal) x0 x1 x2 x3 x4 x5 x6 x7 x8 (ix3 b t k)) (fun k => x9 (ix1 k)) d := by
    rw [val_main_v53_apply, val_main_v50_apply]
    unfold val_main_v52 val_main_v51 val_main_v49 val_main_v48 val_main_v47 val_main_v45 val_main_v43 val_main_v42 val_main_v41
      val_main_v44 val_main_v46 val_main_cst_3 val_main_cst_4 val_main_cst_5 closing rinv
    generalize val_main_v40 (F := Ideal) x0 x1 x2 x3 x4 x5 x6 x7 x8 = y
    simp only [pointwise, zero_add]
    rfl
  rw [h, h40, h29, h9]
  rfl

end Cert.PostRef
-- ==== Proof.PostClaim.lean ====
/- The closing block: the kernel and the reference end with the same array, and the reference leaves its arguments alone. -/
module

public import proofs.«01_k».proof.Defs
public import proofs.«01_k».proof.Proof.PostKernel
public import proofs.«01_k».proof.Proof.PostRef
public import proofs.«01_k».proof.Proof.Gen.PostIdeal.Value
public import proofs.«01_k».proof.Proof.Gen.PostRefIdeal.Run
public import proofs.«01_k».proof.Proof.Gen.PostRefIdeal.Read
public import proofs.«01_k».proof.Proof.Gen.PostRefIdeal
public import proofs.«01_k».proof.Proof.Gen.PostIdeal

@[expose] public section

noncomputable section

namespace Cert.PostClaim

open Idealize.ShloMosaic Idealize.SL.Sem

/-- The reference's frame: its arguments stay as they were; it declares no semaphore. -/
theorem frame_ref : Cert.quiescent_PostRefIdeal := fun m ρ _ =>
  (θ_run Cert.PostRefIdeal.defs _ _).mono
    (fun r h => ⟨fun c => (h c).2, sem_eq_zero_of_no_sems (by decide) r.2⟩)
    (Cert.PostRefIdeal.Value.run m ρ)

/-- Both runs end with `PostKernel.G`. -/
theorem equal_ref : Cert.algebraic_PostIdeal_PostRefIdeal := fun m g m' g' _ ha => by
  refine ⟨fun c => PostKernel.G m c, ?_, ?_⟩
  · exact (θ_run Cert.PostIdeal.defs _ _).mono
      (fun r h c => ⟨(h c).1.trans (PostKernel.final m c), (h c).2⟩) (Cert.PostIdeal.Value.run_blocks m g)
  · refine (θ_run Cert.PostRefIdeal.defs _ _).mono (fun r h c => ⟨(h c).1.trans ?_, (h c).2⟩)
      (Cert.PostRefIdeal.Value.run m' g')
    obtain ⟨h0, h1, h2, h3, h4, h5, h6, h7, h8, h9⟩ := ha c
    rw [Cert.PostRefIdeal.Read.val_main_v53_eq, h0, h1, h2, h3, h4, h5, h6, h7, h8, h9]
    funext y
    have key : ∀ (b : Fin 8) (t : Fin 4096) (d : Fin 1024), _ = PostKernel.G m c (ix3 b t d) := fun b t d =>
      PostRef.v53_at _ _ _ _ _ _ _ _ _ _ b t d
    rw [eq_ix3 y]
    exact key (y 0) (y 1) (y 2)

end Cert.PostClaim

end
-- ==== Proof.InRow.lean ====
/- One row of the input projections, as scalar functions of the extended reals: the normalised and modulated row, its
   product with the weights, and the normalisation and rotation of one head of 64 columns. -/
module

public import proofs.«01_k».proof.Proof.PostRow
public import Idealize.ShloMosaic.Lib.IdealHost

@[expose] public section

noncomputable section

namespace Cert.InRow

open Idealize.ShloMosaic Cert.PostRow

/-- The reciprocal root of a head's mean square, shifted by the small constant. -/
def headInv (y : Fin 64 → EReal) : EReal :=
  Ideal.rsqrt (Ideal.div (∑ d : Fin 64, y d * y d) (num 0x42800000#32) + num 0x358637BD#32)

/-- The normalised head. -/
def headNorm (y g : Fin 64 → EReal) (d : Fin 64) : EReal := y d * headInv y * g d

/-- The column of a head that the rotation pairs with column `d`. -/
def other (d : Fin 64) : Fin 64 := ⟨(d.val + 32) % 64, Nat.mod_lt _ (by omega)⟩

/-- The head rotated, column by column. -/
def turned (y c s : Fin 64 → EReal) (d : Fin 64) : EReal := y d * c d + y (other d) * s d

/-- The head normalised, then rotated. -/
def head (y g c s : Fin 64 → EReal) (d : Fin 64) : EReal := turned (headNorm y g) c s d

/-- The cosines, one for each column of the head. -/
def cosT (c : Fin 32 → EReal) (d : Fin 64) : EReal := c ⟨d.val % 32, Nat.mod_lt _ (by omega)⟩

/-- The sines, one for each column of the head, negated on the lower half. -/
def sinT (s : Fin 32 → EReal) (d : Fin 64) : EReal :=
  if d.val < 32 then -s ⟨d.val % 32, Nat.mod_lt _ (by omega)⟩ else s ⟨d.val % 32, Nat.mod_lt _ (by omega)⟩

theorem turned_lo (y : Fin 64 → EReal) (c s : Fin 32 → EReal) (d : Fin 32) :
    turned y (cosT c) (sinT s) ⟨d.val, by omega⟩
      = y ⟨d.val, by omega⟩ * c d - y ⟨32 + d.val, by omega⟩ * s d := by
  have hd := d.isLt
  have hm : (⟨d.val % 32, Nat.mod_lt _ (by omega)⟩ : Fin 32) = d := Fin.ext (Nat.mod_eq_of_lt hd)
  have ho : other ⟨d.val, by omega⟩ = ⟨32 + d.val, by omega⟩ := Fin.ext (by show (d.val + 32) % 64 = 32 + d.val; omega)
  unfold turned cosT sinT
  rw [ho, if_pos hd, hm, sub_eq_add_neg, mul_neg]

theorem turned_hi (y : Fin 64 → EReal) (c s : Fin 32 → EReal) (d : Fin 32) :
    turned y (cosT c) (sinT s) ⟨32 + d.val, by omega⟩
      = y ⟨d.val, by omega⟩ * s d + y ⟨32 + d.val, by omega⟩ * c d := by
  have hd := d.isLt
  have hm : (⟨(32 + d.val) % 32, Nat.mod_lt _ (by omega)⟩ : Fin 32) = d := Fin.ext (by show (32 + d.val) % 32 = d.val; omega)
  have ho : other ⟨32 + d.val, by omega⟩ = ⟨d.val, by omega⟩ := Fin.ext (by show (32 + d.val + 32) % 64 = d.val; omega)
  unfold turned cosT sinT
  rw [ho, if_neg (show ¬ (32 + d.val < 32) by omega), hm, add_comm]

theorem num_64 : num 0x42800000#32 = ((64 : ℝ) : EReal) := by
  show Ideal.ofBits .f32 0x42800000#32 = _
  simp [Ideal.ofBits, Ideal.ieee, -EReal.coe_mul]
  norm_num

theorem num_64th : num 0x3C800000#32 = ((64⁻¹ : ℝ) : EReal) := by
  show Ideal.ofBits .f32 0x3C800000#32 = _
  simp [Ideal.ofBits, Ideal.ieee, -EReal.coe_mul]
  norm_num

/-- A multiple by the 64th is the quotient by 64. -/
theorem mul_64th (x : EReal) : x * num 0x3C800000#32 = Ideal.div x (num 0x42800000#32) := by
  rw [num_64, num_64th]
  unfold Ideal.div
  rw [if_neg (by exact_mod_cast (by norm_num : (64 : ℝ) ≠ 0)), EReal.coe_inv]

/-- The head that lane `l` of 128 lanes is in, normalised and rotated, at that lane. -/
def laneHead (a g c s : Fin 128 → EReal) (l : Fin 128) : EReal :=
  head (fun d => a ⟨64 * (l.val / 64) + d.val, by omega⟩) (fun d => g ⟨64 * (l.val / 64) + d.val, by omega⟩)
    (fun d => c ⟨64 * (l.val / 64) + d.val, by omega⟩) (fun d => s ⟨64 * (l.val / 64) + d.val, by omega⟩)
    ⟨l.val % 64, Nat.mod_lt _ (by omega)⟩

/-- The square of a lane's number, summed over the lanes of its head only. -/
theorem masked_sum (f : Fin 128 → EReal) (l : Fin 128) :
    (if l.val < 64 then ∑ k : Fin 128, (if k.val < 64 then f k else 0) else ∑ k : Fin 128, (if k.val < 64 then 0 else f k))
      = ∑ d : Fin 64, f ⟨64 * (l.val / 64) + d.val, by omega⟩ := by
  have hs : ∀ F : Fin 128 → EReal, ∑ k : Fin 128, F k
      = ∑ d : Fin 64, F ⟨d.val, by omega⟩ + ∑ d : Fin 64, F ⟨64 + d.val, by omega⟩ := fun F =>
    Fin.sum_univ_add (a := 64) (b := 64) F
  have hl := l.isLt
  by_cases h : l.val < 64
  · rw [if_pos h, hs]
    have h1 : ∀ d : Fin 64, (if (⟨d.val, by omega⟩ : Fin 128).val < 64 then f ⟨d.val, by omega⟩ else 0) = f ⟨64 * (l.val / 64) + d.val, by omega⟩ := fun d => by
      rw [if_pos d.isLt]
      exact congrArg f (Fin.ext (show d.val = 64 * (l.val / 64) + d.val by omega))
    have h2 : ∀ d : Fin 64, (if (⟨64 + d.val, by omega⟩ : Fin 128).val < 64 then f ⟨64 + d.val, by omega⟩ else 0) = 0 := fun d =>
      if_neg (show ¬ (64 + d.val < 64) by omega)
    simp only [h1, h2, Finset.sum_const_zero, add_zero]
  · rw [if_neg h, hs]
    have h1 : ∀ d : Fin 64, (if (⟨d.val, by omega⟩ : Fin 128).val < 64 then 0 else f ⟨d.val, by omega⟩) = 0 := fun d => if_pos d.isLt
    have h2 : ∀ d : Fin 64, (if (⟨64 + d.val, by omega⟩ : Fin 128).val < 64 then 0 else f ⟨64 + d.val, by omega⟩) = f ⟨64 * (l.val / 64) + d.val, by omega⟩ := fun d => by
      rw [if_neg (show ¬ (64 + d.val < 64) by omega)]
      exact congrArg f (Fin.ext (show 64 + d.val = 64 * (l.val / 64) + d.val by omega))
    simp only [h1, h2, Finset.sum_const_zero, zero_add]

section Values

variable (x0 : (⟨3, ![8, 4096, 1024]⟩ : Shape).Idx → EReal) (x1 : (⟨3, ![8, 6, 1024]⟩ : Shape).Idx → EReal)
  (x2 x3 : (⟨2, ![4096, 32]⟩ : Shape).Idx → EReal) (x4 : (⟨2, ![1, 1024]⟩ : Shape).Idx → EReal)
  (x5 : (⟨3, ![1, 1024, 2304]⟩ : Shape).Idx → EReal) (g : (⟨2, ![1, 64]⟩ : Shape).Idx → EReal)

/-- Column `j` of the projection of batch `b`, token `t`, of the program's arguments. -/
def projVal (b : Fin 8) (t : Fin 4096) (j : Fin 2304) : EReal :=
  lin (hid (fun k => x0 (ix3 b t k)) (fun k => x4 (ix2 0 k)) (fun k => num 0x3F800000#32 + x1 (ix3 b 1 k)) (fun k => x1 (ix3 b 0 k)))
    (fun k j => x5 (ix3 0 k j)) j

/-- Column `d` of the normalised and rotated head that starts at column `o` of the projection. -/
def headVal (b : Fin 8) (t : Fin 4096) (o : Nat) (ho : o + 64 ≤ 2304) (d : Fin 64) : EReal :=
  head (fun d => projVal x0 x1 x4 x5 b t ⟨o + d.val, by omega⟩) (fun d => g (ix2 0 d))
    (cosT fun i => x2 (ix2 t i)) (sinT fun i => x3 (ix2 t i)) d

/-- The six results. -/
def r0 (b : Fin 8) (t : Fin 4096) (j : Fin 512) : EReal := projVal x0 x1 x4 x5 b t ⟨j.val, by omega⟩ * num 0x3E38AA3B#32
def r1 (b : Fin 8) (t : Fin 4096) (j : Fin 512) : EReal := projVal x0 x1 x4 x5 b t ⟨512 + j.val, by omega⟩
def r2 (b : Fin 8) (t : Fin 4096) (j : Fin 512) : EReal :=
  headVal x0 x1 x2 x3 x4 x5 g b t (1536 + 64 * (j.val / 64)) (by omega) ⟨j.val % 64, Nat.mod_lt _ (by omega)⟩ * num 0x3E38AA3B#32
def r3 (b : Fin 8) (t : Fin 4096) (l : Fin 128) : EReal :=
  headVal x0 x1 x2 x3 x4 x5 g b t (2048 + 64 * (l.val / 64)) (by omega) ⟨l.val % 64, Nat.mod_lt _ (by omega)⟩
def r4 (b : Fin 8) (t : Fin 4096) (l : Fin 128) : EReal :=
  headVal x0 x1 x2 x3 x4 x5 g b t (2048 + 64 * (1 - l.val / 64)) (by omega) ⟨l.val % 64, Nat.mod_lt _ (by omega)⟩
def r5 (b : Fin 8) (i : Fin 16) (j : Fin 640) (r : Fin 256) : EReal :=
  projVal x0 x1 x4 x5 b ⟨256 * i.val + r.val, by omega⟩
    (if j.val < 512 then ⟨1024 + j.val, by omega⟩ else ⟨1664 + j.val, by omega⟩)

end Values

end Cert.InRow
-- ==== Proof.InHost.lean ====
/- What the host hands to the input projections' kernel, read at an index. -/
module

public import proofs.«01_k».proof.Proof.Gen.InProjIdeal.Value
public import proofs.«01_k».proof.Proof.InRow
public import Idealize.ShloMosaic.Lib.Pipeline.ValueKit

@[expose] public section

noncomputable section

namespace Cert.InHost

open Cert.InProjIdeal Cert.InProjIdeal.Gen Cert.PostRow Cert.InRow Idealize.ShloMosaic Idealize.ShloMosaic.TcCoe Idealize.SL.Sem

variable (m : (ℓ : Loc nD τ sig) → Buf (Elt Ideal) ℓ)

theorem V_v10 (c : Dev nD) (j : Fin 1024) :
    (V m c main_v10 : S1x1024.Idx → EReal) (ix2 0 j) = m ((c.tc : Thread nD τ).loc main_arg4) (ix2 0 j) := by
  dsimp only [V, hostOps0]; after_results; simp only [pointwise]

theorem V_v24 (c : Dev nD) (l : Fin 128) :
    (V m c main_v24 : S1x128.Idx → EReal) (ix2 0 l) = m ((c.tc : Thread nD τ).loc main_arg6) (ix2 0 ⟨l.val % 64, Nat.mod_lt _ (by omega)⟩) := by
  dsimp only [V, hostOps0]; after_results; simp only [pointwise]; rfl

theorem V_v29 (c : Dev nD) (l : Fin 128) :
    (V m c main_v29 : S1x128.Idx → EReal) (ix2 0 l) = m ((c.tc : Thread nD τ).loc main_arg7) (ix2 0 ⟨l.val % 64, Nat.mod_lt _ (by omega)⟩) := by
  dsimp only [V, hostOps0]; after_results; simp only [pointwise]; rfl

theorem V_v3 (c : Dev nD) (t : Fin 4096) (l : Fin 128) :
    (V m c main_v3 : S4096x128.Idx → EReal) (ix2 t l)
      = cosT (fun i => m ((c.tc : Thread nD τ).loc main_arg2) (ix2 (n0 := 4096) (n1 := 32) t i)) ⟨l.val % 64, Nat.mod_lt _ (by omega)⟩ := by
  dsimp only [V, hostOps0]; after_results; simp only [pointwise]
  unfold cosT
  by_cases h : l.val % 64 < 32
  · refine (dif_pos h).trans (congrArg (m ((c.tc : Thread nD τ).loc main_arg2)) (congrArg (ix2 (n0 := 4096) (n1 := 32) t) (Fin.ext ?_)))
    show l.val % 64 = l.val % 64 % 32
    omega
  · refine (dif_neg h).trans (congrArg (m ((c.tc : Thread nD τ).loc main_arg2)) (congrArg (ix2 (n0 := 4096) (n1 := 32) t) (Fin.ext ?_)))
    show l.val % 64 - 32 = l.val % 64 % 32
    omega

theorem V_v8 (c : Dev nD) (t : Fin 4096) (l : Fin 128) :
    (V m c main_v8 : S4096x128.Idx → EReal) (ix2 t l)
      = sinT (fun i => m ((c.tc : Thread nD τ).loc main_arg3) (ix2 (n0 := 4096) (n1 := 32) t i)) ⟨l.val % 64, Nat.mod_lt _ (by omega)⟩ := by
  dsimp only [V, hostOps0]; after_results; simp only [pointwise]
  unfold sinT
  by_cases h : l.val % 64 < 32
  · refine (dif_pos h).trans (Eq.trans ?_ (if_pos h).symm)
    refine congrArg (fun e : EReal => -e) (congrArg (m ((c.tc : Thread nD τ).loc main_arg3)) (congrArg (ix2 (n0 := 4096) (n1 := 32) t) (Fin.ext ?_)))
    show l.val % 64 = l.val % 64 % 32
    omega
  · refine (dif_neg h).trans (Eq.trans ?_ (if_neg h).symm)
    refine (congrArg (m ((c.tc : Thread nD τ).loc main_arg3)) (congrArg (ix2 (n0 := 4096) (n1 := 32) t) (Fin.ext ?_)))
    show l.val % 64 - 32 = l.val % 64 % 32
    omega

/-- The column of the weights as given that the kernel's column `j` is. -/
def perm (j : Fin 2304) : Fin 2304 :=
  ⟨if j.val < 768 then j.val + 1536 else if j.val < 1280 then j.val + 256 else j.val - 1280, by split_ifs <;> omega⟩

/-- Six blocks of columns side by side, each a run of columns of one matrix. -/
theorem cat_at (W : Fin 1024 → Fin 2304 → EReal) (A0 A3 A4 A5 : S1024x512.Idx → EReal) (A1 A2 : S1024x128.Idx → EReal) h
    (h0 : ∀ (k : Fin 1024) (j : Fin 512), A0 (ix2 k j) = W k ⟨1536 + j.val, by omega⟩)
    (h1 : ∀ (k : Fin 1024) (j : Fin 128), A1 (ix2 k j) = W k ⟨2048 + j.val, by omega⟩)
    (h2 : ∀ (k : Fin 1024) (j : Fin 128), A2 (ix2 k j) = W k ⟨2176 + j.val, by omega⟩)
    (h3 : ∀ (k : Fin 1024) (j : Fin 512), A3 (ix2 k j) = W k ⟨1024 + j.val, by omega⟩)
    (h4 : ∀ (k : Fin 1024) (j : Fin 512), A4 (ix2 k j) = W k ⟨0 + j.val, by omega⟩)
    (h5 : ∀ (k : Fin 1024) (j : Fin 512), A5 (ix2 k j) = W k ⟨512 + j.val, by omega⟩)
    (k : Fin 1024) (j : Fin 2304) :
    concatenate S1024x2304 1 [⟨S1024x512, A0⟩, ⟨S1024x128, A1⟩, ⟨S1024x128, A2⟩, ⟨S1024x512, A3⟩, ⟨S1024x512, A4⟩, ⟨S1024x512, A5⟩] h (ix2 k j)
      = W k (perm j) := by
  have hj := j.isLt
  by_cases c0 : j.val < 512
  · refine (concatenate_apply_piece 1 _ h (ix2 k j) 0 (by simp) S1024x512 A0 rfl rfl 0 rfl (ix2 k ⟨j.val - 0, by omega⟩)
      (fun b hb => by fin_cases b; exacts [rfl, absurd rfl hb]) (show 0 + (j.val - 0) = j.val by omega)).trans ((h0 _ _).trans (congrArg (W k) (Fin.ext ?_)))
    show 1536 + (j.val - 0) = if j.val < 768 then j.val + 1536 else if j.val < 1280 then j.val + 256 else j.val - 1280
    split_ifs <;> omega
  by_cases c1 : j.val < 640
  · refine (concatenate_apply_piece 1 _ h (ix2 k j) 1 (by simp) S1024x128 A1 rfl rfl 512 rfl (ix2 k ⟨j.val - 512, by omega⟩)
      (fun b hb => by fin_cases b; exacts [rfl, absurd rfl hb]) (show 512 + (j.val - 512) = j.val by omega)).trans ((h1 _ _).trans (congrArg (W k) (Fin.ext ?_)))
    show 2048 + (j.val - 512) = if j.val < 768 then j.val + 1536 else if j.val < 1280 then j.val + 256 else j.val - 1280
    split_ifs <;> omega
  by_cases c2 : j.val < 768
  · refine (concatenate_apply_piece 1 _ h (ix2 k j) 2 (by simp) S1024x128 A2 rfl rfl 640 rfl (ix2 k ⟨j.val - 640, by omega⟩)
      (fun b hb => by fin_cases b; exacts [rfl, absurd rfl hb]) (show 640 + (j.val - 640) = j.val by omega)).trans ((h2 _ _).trans (congrArg (W k) (Fin.ext ?_)))
    show 2176 + (j.val - 640) = if j.val < 768 then j.val + 1536 else if j.val < 1280 then j.val + 256 else j.val - 1280
    split_ifs <;> omega
  by_cases c3 : j.val < 1280
  · refine (concatenate_apply_piece 1 _ h (ix2 k j) 3 (by simp) S1024x512 A3 rfl rfl 768 rfl (ix2 k ⟨j.val - 768, by omega⟩)
      (fun b hb => by fin_cases b; exacts [rfl, absurd rfl hb]) (show 768 + (j.val - 768) = j.val by omega)).trans ((h3 _ _).trans (congrArg (W k) (Fin.ext ?_)))
    show 1024 + (j.val - 768) = if j.val < 768 then j.val + 1536 else if j.val < 1280 then j.val + 256 else j.val - 1280
    split_ifs <;> omega
  by_cases c4 : j.val < 1792
  · refine (concatenate_apply_piece 1 _ h (ix2 k j) 4 (by simp) S1024x512 A4 rfl rfl 1280 rfl (ix2 k ⟨j.val - 1280, by omega⟩)
      (fun b hb => by fin_cases b; exacts [rfl, absurd rfl hb]) (show 1280 + (j.val - 1280) = j.val by omega)).trans ((h4 _ _).trans (congrArg (W k) (Fin.ext ?_)))
    show 0 + (j.val - 1280) = if j.val < 768 then j.val + 1536 else if j.val < 1280 then j.val + 256 else j.val - 1280
    split_ifs <;> omega
  refine (concatenate_apply_piece 1 _ h (ix2 k j) 5 (by simp) S1024x512 A5 rfl rfl 1792 rfl (ix2 k ⟨j.val - 1792, by omega⟩)
      (fun b hb => by fin_cases b; exacts [rfl, absurd rfl hb]) (show 1792 + (j.val - 1792) = j.val by omega)).trans ((h5 _ _).trans (congrArg (W k) (Fin.ext ?_)))
  show 512 + (j.val - 1792) = if j.val < 768 then j.val + 1536 else if j.val < 1280 then j.val + 256 else j.val - 1280
  split_ifs <;> omega

theorem V_v19 (c : Dev nD) (k : Fin 1024) (j : Fin 2304) :
    (V m c main_v19 : S1024x2304.Idx → EReal) (ix2 k j)
      = m ((c.tc : Thread nD τ).loc main_arg5) (ix3 (n0 := 1) (n1 := 1024) (n2 := 2304) 0 k (perm j)) := by
  dsimp only [V, hostOps0]; after_results
  have hW : ∀ (k : Fin 1024) (j : Fin 2304), shapeCast S1024x2304 (m ((c.tc : Thread nD τ).loc main_arg5)) shapeCasts_S1x1024x2304_S1024x2304 (ix2 k j)
      = m ((c.tc : Thread nD τ).loc main_arg5) (ix3 (n0 := 1) (n1 := 1024) (n2 := 2304) 0 k j) := fun k j => by simp only [pointwise]
  dsimp only [Matrix.cons_val]
  refine (ValueIdx.truncf_apply (φ := .f32) (ψ := .bf16) _ bitsLt_bf16_f32 _).trans ?_
  refine cat_at (fun k j => m ((c.tc : Thread nD τ).loc main_arg5) (ix3 (n0 := 1) (n1 := 1024) (n2 := 2304) 0 k j)) _ _ _ _ _ _ _
    ?_ ?_ ?_ ?_ ?_ ?_ k j <;> intro k j
  all_goals repeat (first | rw [StableHlo.unary_result] | rw [StableHlo.reshape_result] | (rw [StableHlo.unary_result_ne]; rotate_left; decide) | (rw [StableHlo.reshape_result_ne]; rotate_left; decide) | (rw [StableHlo.binary_result_ne]; rotate_left; decide))
  all_goals
    refine (congrArg (shapeCast S1024x2304 (m ((c.tc : Thread nD τ).loc main_arg5)) shapeCasts_S1x1024x2304_S1024x2304) (?_ : _ = ix2 k _)).trans (hW k _)
    funext a
    fin_cases a
    · exact Fin.ext (Nat.zero_add _)
    · rfl

end Cert.InHost
-- ==== Proof.InTile.lean ====
/- One tile of 256 rows of the input projections, as the printed kernel computes it, and its reading at an index. -/
module

public import proofs.«01_k».proof.Proof.Gen.InProjIdeal.Value
public import proofs.«01_k».proof.Proof.InRow
public import Idealize.ShloMosaic.Lib.Pipeline.ValueKit
public import Idealize.ShloMosaic.Lib.KernelVsHost

@[expose] public section

noncomputable section

namespace Cert.InTile

open Cert.InProjIdeal Cert.InProjIdeal.Gen Idealize.ShloMosaic Cert.PostRow Cert.InRow

/-- 256 rows of two heads. -/
abbrev Pair := FVec Ideal S256x128 .f32

def hidT (x : FVec Ideal S256x1024 .f32) (g gain shift : FVec Ideal S1x1024 .f32) : FVec Ideal S256x1024 .bf16 :=
  truncf .bf16 (addf (mulf (mulf (mulf x (broadcastTo S256x1024
    (rsqrt (addf (divf (shapeCast S256x1
        (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32))))
    broadcasts_S256x1_S256x1024)) (broadcastTo S256x1024 g broadcasts_S1x1024_S256x1024))
    (broadcastTo S256x1024 gain broadcasts_S1x1024_S256x1024)) (broadcastTo S256x1024 shift broadcasts_S1x1024_S256x1024)) bitsLt_bf16_f32

theorem hidT_at (x : FVec Ideal S256x1024 .f32) (g gain shift : FVec Ideal S1x1024 .f32) (r : Fin 256) (d : Fin 1024) :
    hidT x g gain shift (ix2 r d)
      = hid (fun k => x (ix2 r k)) (fun k => g (ix2 0 k)) (fun k => gain (ix2 0 k)) (fun k => shift (ix2 0 k)) d := by
  unfold hidT hid rinv; simp only [pointwise]; rfl

/-- The square sums of the lower head's lanes, and of the upper head's. -/
def sumLo (sq : Pair) : FVec Ideal S256x1 .f32 := shapeCast S256x1 (multiReduction .add [1] S256
  (select k0_pay4 sq (broadcast S256x128 (Scalar.ofBits .f32 0x00000000#32))) 0x00000000#32 reduces_S256x128_S256 (.inl rfl) rfl) shapeCasts_S256_S256x1
def sumHi (sq : Pair) : FVec Ideal S256x1 .f32 := shapeCast S256x1 (multiReduction .add [1] S256
  (select k0_pay4 (broadcast S256x128 (Scalar.ofBits .f32 0x00000000#32)) sq) 0x00000000#32 reduces_S256x128_S256 (.inl rfl) rfl) shapeCasts_S256_S256x1

/-- Both heads normalised. -/
def normT (a : Pair) (g : FVec Ideal S1x128 .f32) : Pair :=
  mulf (mulf a (rsqrt (addf (mulf (select k0_pay4
      (broadcastTo S256x128 (shapeCast S256x1 (sumLo (mulf a a)) shapeCasts_S256x1_S256x1) broadcasts_S256x1_S256x128)
      (broadcastTo S256x128 (shapeCast S256x1 (sumHi (mulf a a)) shapeCasts_S256x1_S256x1) broadcasts_S256x1_S256x128))
    (broadcast S256x128 (Scalar.ofBits .f32 0x3C800000#32))) (broadcast S256x128 (Scalar.ofBits .f32 0x358637BD#32)))))
    (broadcastTo S256x128 g broadcasts_S1x128_S256x128)

/-- Both heads rotated. -/
def turnT (y c s : Pair) : Pair :=
  addf (mulf y c) (mulf (select k0_pay5 (dynamicRotate 1 96#32 none y rotates_S256x128_d1)
    (dynamicRotate 1 32#32 none y rotates_S256x128_d1)) s)

theorem low_at (r : Fin 256) (l : Fin 128) : k0_pay4 (ix2 r l) = if l.val < 64 then 1#1 else 0#1 := by
  have h : ∀ l : Fin 128, IntOp.cmpi .slt (BitVec.ofNat 32 (0 * 128 + l.val)) 64#32 = if l.val < 64 then 1#1 else 0#1 := by decide
  rw [← h]
  unfold k0_pay4
  simp only [pointwise]
  rfl

theorem first_at (r : Fin 256) (l : Fin 128) : k0_pay5 (ix2 r l) = if l.val % 64 < 32 then 1#1 else 0#1 := by
  have h : ∀ l : Fin 128, IntOp.cmpi .slt (IntOp.andi (BitVec.ofNat 32 (0 * 128 + l.val)) 63#32) 32#32
      = if l.val % 64 < 32 then 1#1 else 0#1 := by decide
  rw [← h]
  unfold k0_pay5
  simp only [pointwise]
  rfl

theorem sel (p : Prop) [Decidable p] (a b : EReal) : Scalar.select (if p then 1#1 else 0#1) a b = if p then a else b := by
  split <;> rfl

theorem sumLo_at (sq : Pair) (r : Fin 256) : sumLo sq (ix2 r 0) = ∑ k : Fin 128, if k.val < 64 then sq (ix2 r k) else 0 := by
  unfold sumLo
  simp only [pointwise, ValueIdx.select_apply, low_at, sel]

theorem sumHi_at (sq : Pair) (r : Fin 256) : sumHi sq (ix2 r 0) = ∑ k : Fin 128, if k.val < 64 then 0 else sq (ix2 r k) := by
  unfold sumHi
  simp only [pointwise, ValueIdx.select_apply, low_at, sel]

theorem normT_at (a : Pair) (g : FVec Ideal S1x128 .f32) (r : Fin 256) (l : Fin 128) :
    normT a g (ix2 r l) = a (ix2 r l) * headInv (fun d => a (ix2 r ⟨64 * (l.val / 64) + d.val, by omega⟩)) * g (ix2 0 l) := by
  have h : normT a g (ix2 r l) = a (ix2 r l) * Ideal.rsqrt ((if l.val < 64 then sumLo (mulf a a) (ix2 r 0)
      else sumHi (mulf a a) (ix2 r 0)) * num 0x3C800000#32 + num 0x358637BD#32) * g (ix2 0 l) := by
    unfold normT
    simp only [pointwise, ValueIdx.select_apply, low_at, sel]
    rfl
  have hs := masked_sum (fun k => a (ix2 r k) * a (ix2 r k)) l
  rw [h, sumLo_at, sumHi_at]
  unfold headInv
  rw [← hs, mul_64th]
  rfl

theorem turnT_at (y c s : Pair) (r : Fin 256) (l : Fin 128) :
    turnT y c s (ix2 r l) = y (ix2 r l) * c (ix2 r l)
      + y (ix2 r ⟨64 * (l.val / 64) + (l.val % 64 + 32) % 64, by omega⟩) * s (ix2 r l) := by
  have hl := l.isLt
  have h96 : dynamicRotate 1 96#32 none y rotates_S256x128_d1 (ix2 r l) = y (ix2 r ⟨(l.val + 32) % 128, Nat.mod_lt _ (by omega)⟩) :=
    dynamicRotate_apply (s := S256x128) 1 96#32 y rotates_S256x128_d1 (ix2 r l) _ fun b => by
      fin_cases b
      · rfl
      · show (l.val + 32) % 128 = (l.val + 128 - 96) % 128; omega
  have h32 : dynamicRotate 1 32#32 none y rotates_S256x128_d1 (ix2 r l) = y (ix2 r ⟨(l.val + 96) % 128, Nat.mod_lt _ (by omega)⟩) :=
    dynamicRotate_apply (s := S256x128) 1 32#32 y rotates_S256x128_d1 (ix2 r l) _ fun b => by
      fin_cases b
      · rfl
      · show (l.val + 96) % 128 = (l.val + 128 - 32) % 128; omega
  unfold turnT
  rw [ValueIdx.addf_apply, ValueIdx.mulf_apply, ValueIdx.mulf_apply, ValueIdx.select_apply, first_at, sel, h96, h32]
  refine congrArg (fun z => y (ix2 r l) * c (ix2 r l) + z * s (ix2 r l)) ?_
  by_cases h : l.val % 64 < 32
  · rw [if_pos h]
    exact congrArg y (congrArg (ix2 r) (Fin.ext (show (l.val + 32) % 128 = 64 * (l.val / 64) + (l.val % 64 + 32) % 64 by omega)))
  · rw [if_neg h]
    exact congrArg y (congrArg (ix2 r) (Fin.ext (show (l.val + 96) % 128 = 64 * (l.val / 64) + (l.val % 64 + 32) % 64 by omega)))

/-- Both heads, normalised and rotated. -/
def headT (a : Pair) (g : FVec Ideal S1x128 .f32) (c s : Pair) : Pair := turnT (normT a g) c s

theorem headT_at (a : Pair) (g : FVec Ideal S1x128 .f32) (c s : Pair) (r : Fin 256) (l : Fin 128) :
    headT a g c s (ix2 r l) = laneHead (fun l => a (ix2 r l)) (fun l => g (ix2 0 l)) (fun l => c (ix2 r l)) (fun l => s (ix2 r l)) l := by
  have hl := l.isLt
  have e1 : (⟨64 * (l.val / 64) + l.val % 64, by omega⟩ : Fin 128) = l := Fin.ext (Nat.div_add_mod _ _)
  have e2 : 64 * ((64 * (l.val / 64) + (l.val % 64 + 32) % 64) / 64) = 64 * (l.val / 64) := by omega
  unfold headT
  rw [turnT_at, normT_at, normT_at]
  unfold laneHead head turned headNorm other
  simp only [e1, e2]

end Cert.InTile
-- ==== Proof.InBlock.lean ====
/- The blocks of the input projections' six outputs that one grid point leaves, read at an index. -/
module

public import proofs.«01_k».proof.Proof.InTile

@[expose] public section

noncomputable section

namespace Cert.InBlock

open Cert.InProjIdeal Cert.InProjIdeal.Gen Idealize.ShloMosaic Cert.PostRow Cert.InRow Cert.InTile

variable (x0 : Vec Ideal S1x1024x1024 .f32) (x1 : Vec Ideal S1x6x1024 .f32) (x2 : Vec Ideal S1x1024 .f32)
  (x3 : Vec Ideal S1024x2304 .bf16) (x4 x5 : Vec Ideal S1024x128 .f32) (x6 x7 : Vec Ideal S1x128 .f32)

/-- The rows `o … o+255` fit the block. -/
abbrev InX (o : Nat) := ∀ a, ![0, o, 0] a + S1x256x1024.size a ≤ S1x1024x1024.size a
abbrev InT (o : Nat) := ∀ a, ![o, 0] a + S256x128.size a ≤ S1024x128.size a

/-- The modulated rows. -/
def hOf (o : Nat) (hx : InX o) : FVec Ideal S256x1024 .bf16 :=
  hidT (shapeCast S256x1024 (View.ld x0 (Rect.unit (s := S1x1024x1024) ![0, o, 0] S1x256x1024.size hx)) shapeCasts_S1x256x1024_S256x1024)
    (shapeCast S1x1024 (View.ld x2 r0_3) shapeCasts_S1x1024_S1x1024)
    (addf (broadcast S1x1024 (Scalar.ofBits .f32 0x3F800000#32)) (shapeCast S1x1024 (View.ld x1 r0_1) shapeCasts_S1x1x1024_S1x1024))
    (shapeCast S1x1024 (View.ld x1 r0_0) shapeCasts_S1x1x1024_S1x1024)

/-- The three groups of columns: the rotated heads with their values, the other values, the other queries and keys. -/
def gqaOf (o : Nat) (hx : InX o) : FVec Ideal S256x768 .f32 :=
  matmul dot_S256x1024_S1024x768_S256x768_1_0_0_1_n_n none (hOf x0 x1 x2 o hx)
    (shapeCast S1024x768 (View.ld x3 r0_7) shapeCasts_S1024x768_S1024x768 : FVec Ideal S1024x768 .bf16) (constant S256x768 .f32 0x00000000#32)
def vnOf (o : Nat) (hx : InX o) : FVec Ideal S256x512 .f32 :=
  matmul dot_S256x1024_S1024x512_S256x512_1_0_0_1_n_n none (hOf x0 x1 x2 o hx)
    (shapeCast S1024x512 (View.ld x3 r0_8) shapeCasts_S1024x512_S1024x512 : FVec Ideal S1024x512 .bf16) (constant S256x512 .f32 0x00000000#32)
def naOf (o : Nat) (hx : InX o) : FVec Ideal S256x1024 .f32 :=
  matmul dot_S256x1024_S1024x1024_S256x1024_1_0_0_1_n_n none (hOf x0 x1 x2 o hx)
    (shapeCast S1024x1024 (View.ld x3 r0_9) shapeCasts_S1024x1024_S1024x1024 : FVec Ideal S1024x1024 .bf16) (constant S256x1024 .f32 0x00000000#32)

/-- Two heads beside each other, normalised and rotated. -/
def pairOf (o : Nat) (hx : InX o) (ht : InT o) (c : Nat) (hs : S256x768.Slices ![0, c] S256x128) (g : Vec Ideal S1x128 .f32) : Pair :=
  headT (extractStridedSlice S256x128 ![0, c] (gqaOf x0 x1 x2 x3 o hx) hs) (shapeCast S1x128 (View.ld g r0_11) shapeCasts_S1x128_S1x128)
    (shapeCast S256x128 (View.ld x4 (Rect.unit (s := S1024x128) ![o, 0] S256x128.size ht)) shapeCasts_S256x128_S256x128)
    (shapeCast S256x128 (View.ld x5 (Rect.unit (s := S1024x128) ![o, 0] S256x128.size ht)) shapeCasts_S256x128_S256x128)

/-- The pieces stored. -/
def qnP (o : Nat) (hx : InX o) : FVec Ideal S1x256x512 .bf16 :=
  shapeCast S1x256x512 (truncf .bf16 (mulf (extractStridedSlice S256x512 ![0, 0] (naOf x0 x1 x2 x3 o hx) slices_S256x1024_o0_0_S256x512)
    (broadcast S256x512 (Scalar.ofBits .f32 0x3E38AA3B#32))) bitsLt_bf16_f32) shapeCasts_S256x512_S1x256x512
def knP (o : Nat) (hx : InX o) : FVec Ideal S1x256x512 .bf16 :=
  shapeCast S1x256x512 (truncf .bf16 (extractStridedSlice S256x512 ![0, 512] (naOf x0 x1 x2 x3 o hx) slices_S256x1024_o0_512_S256x512)
    bitsLt_bf16_f32) shapeCasts_S256x512_S1x256x512
def qgP (o : Nat) (hx : InX o) (ht : InT o) (c : Nat) (hs : S256x768.Slices ![0, c] S256x128) : FVec Ideal S1x256x128 .bf16 :=
  shapeCast S1x256x128 (truncf .bf16 (mulf (pairOf x0 x1 x2 x3 x4 x5 o hx ht c hs x6)
    (broadcast S256x128 (Scalar.ofBits .f32 0x3E38AA3B#32))) bitsLt_bf16_f32) shapeCasts_S256x128_S1x256x128
def kaP (o : Nat) (hx : InX o) (ht : InT o) : FVec Ideal S1x256x128 .bf16 :=
  shapeCast S1x256x128 (truncf .bf16 (pairOf x0 x1 x2 x3 x4 x5 o hx ht 512 slices_S256x768_o0_512_S256x128 x7) bitsLt_bf16_f32)
    shapeCasts_S256x128_S1x256x128
def kbP (o : Nat) (hx : InX o) (ht : InT o) : FVec Ideal S1x256x128 .bf16 :=
  shapeCast S1x256x128 (truncf .bf16 (dynamicRotate 1 64#32 none
    (pairOf x0 x1 x2 x3 x4 x5 o hx ht 512 slices_S256x768_o0_512_S256x128 x7) rotates_S256x128_d1) bitsLt_bf16_f32)
    shapeCasts_S256x128_S1x256x128
def vnP (o : Nat) (hx : InX o) (c : Nat) (hs : S256x512.Slices ![0, c] S256x128) : FVec Ideal S1x1x128x256 .bf16 :=
  shapeCast S1x1x128x256 (truncf .bf16 (transpose S128x256 [1, 0] (extractStridedSlice S256x128 ![0, c] (vnOf x0 x1 x2 x3 o hx) hs)
    transposes_S256x128_p1_0_S128x256) bitsLt_bf16_f32) shapeCasts_S128x256_S1x1x128x256
def vgP (o : Nat) (hx : InX o) : FVec Ideal S1x1x128x256 .bf16 :=
  shapeCast S1x1x128x256 (truncf .bf16 (transpose S128x256 [1, 0]
    (extractStridedSlice S256x128 ![0, 640] (gqaOf x0 x1 x2 x3 o hx) slices_S256x768_o0_640_S256x128)
    transposes_S256x128_p1_0_S128x256) bitsLt_bf16_f32) shapeCasts_S128x256_S1x1x128x256

/-! ## Their values -/

/-- The projected row `R` of the block. -/
def kp (R : Fin 1024) (j : Fin 2304) : EReal :=
  lin (hid (fun k => x0 (ix3 0 R k)) (fun k => x2 (ix2 0 k)) (fun k => num 0x3F800000#32 + x1 (ix3 0 1 k)) (fun k => x1 (ix3 0 0 k)))
    (fun k j => x3 (ix2 k j)) j

/-- Lane `l` of the two heads from column `c` on. -/
def pairVal (R : Fin 1024) (c : Nat) (hc : c + 128 ≤ 2304) (g : Vec Ideal S1x128 .f32) (l : Fin 128) : EReal :=
  laneHead (fun l => kp x0 x1 x2 x3 R ⟨c + l.val, by omega⟩) (fun l => g (ix2 0 l)) (fun l => x4 (ix2 R l)) (fun l => x5 (ix2 R l)) l

section At

variable (o : Nat) (hx : InX o) (ht : InT o) (r : Fin 256) (R : Fin 1024) (hR : R.val = o + r.val)
include hR

theorem hOf_at (d : Fin 1024) : hOf x0 x1 x2 o hx (ix2 r d)
    = hid (fun k => x0 (ix3 0 R k)) (fun k => x2 (ix2 0 k)) (fun k => num 0x3F800000#32 + x1 (ix3 0 1 k)) (fun k => x1 (ix3 0 0 k)) d := by
  have hx0 : ∀ k : Fin 1024, shapeCast S256x1024 (View.ld x0 (Rect.unit (s := S1x1024x1024) ![0, o, 0] S1x256x1024.size hx))
      shapeCasts_S1x256x1024_S256x1024 (ix2 r k) = x0 (ix3 0 R k) := fun k => by
    simp only [pointwise]
    refine congrArg x0 (funext fun a => Fin.ext ?_)
    fin_cases a
    · rfl
    · show o + 1 * r.val = R.val; omega
    · show 0 + 1 * k.val = k.val; omega
  have hm : ∀ (q : Nat) (hq) (k : Fin 1024) (h6 : q < 6),
      shapeCast S1x1024 (View.ld x1 (Rect.unit (s := S1x6x1024) ![0, q, 0] S1x1x1024.size hq))
        shapeCasts_S1x1x1024_S1x1024 (ix2 0 k) = x1 (ix3 0 ⟨q, h6⟩ k) := fun q hq k h6 => by
    simp only [pointwise]
    refine congrArg x1 (funext fun a => Fin.ext ?_)
    fin_cases a
    · rfl
    · show q + 1 * 0 = q; omega
    · show 0 + 1 * k.val = k.val; omega
  have hg : ∀ k : Fin 1024, shapeCast S1x1024 (View.ld x2 r0_3) shapeCasts_S1x1024_S1x1024 (ix2 0 k) = x2 (ix2 0 k) := fun k => by
    simp only [pointwise]
    refine congrArg x2 (funext fun a => Fin.ext ?_)
    fin_cases a
    · rfl
    · show 0 + 1 * k.val = k.val; omega
  unfold hOf
  rw [hidT_at]
  simp only [hx0, hg, ValueIdx.addf_apply, hm 0 _ _ (by omega), hm 1 _ _ (by omega)]
  rfl

theorem gqaOf_at (c : Fin 768) : gqaOf x0 x1 x2 x3 o hx (ix2 r c) = kp x0 x1 x2 x3 R ⟨c.val, by omega⟩ := by
  have hw : ∀ k : Fin 1024, shapeCast S1024x768 (View.ld x3 r0_7) shapeCasts_S1024x768_S1024x768 (ix2 k c) = x3 (ix2 k ⟨c.val, by omega⟩) := fun k => by
    simp only [pointwise]
    refine congrArg x3 (funext fun a => Fin.ext ?_)
    fin_cases a
    · show 0 + 1 * k.val = k.val; omega
    · show 0 + 1 * c.val = c.val; omega
  have h : gqaOf x0 x1 x2 x3 o hx (ix2 r c) = ∑ k : Fin 1024, hOf x0 x1 x2 o hx (ix2 r k)
      * shapeCast S1024x768 (View.ld x3 r0_7) shapeCasts_S1024x768_S1024x768 (ix2 k c) := by
    unfold gqaOf
    generalize hOf x0 x1 x2 o hx = H
    generalize (shapeCast S1024x768 (View.ld x3 r0_7) shapeCasts_S1024x768_S1024x768 : FVec Ideal S1024x768 .bf16) = W
    simp only [pointwise, zero_add]
  rw [h]
  unfold kp lin
  exact Finset.sum_congr rfl fun k _ => by rw [hw, hOf_at x0 x1 x2 o hx r R hR]

theorem vnOf_at (c : Fin 512) : vnOf x0 x1 x2 x3 o hx (ix2 r c) = kp x0 x1 x2 x3 R ⟨768 + c.val, by omega⟩ := by
  have hw : ∀ k : Fin 1024, shapeCast S1024x512 (View.ld x3 r0_8) shapeCasts_S1024x512_S1024x512 (ix2 k c) = x3 (ix2 k ⟨768 + c.val, by omega⟩) := fun k => by
    simp only [pointwise]
    refine congrArg x3 (funext fun a => Fin.ext ?_)
    fin_cases a
    · show 0 + 1 * k.val = k.val; omega
    · show 768 + 1 * c.val = 768 + c.val; omega
  have h : vnOf x0 x1 x2 x3 o hx (ix2 r c) = ∑ k : Fin 1024, hOf x0 x1 x2 o hx (ix2 r k)
      * shapeCast S1024x512 (View.ld x3 r0_8) shapeCasts_S1024x512_S1024x512 (ix2 k c) := by
    unfold vnOf
    generalize hOf x0 x1 x2 o hx = H
    generalize (shapeCast S1024x512 (View.ld x3 r0_8) shapeCasts_S1024x512_S1024x512 : FVec Ideal S1024x512 .bf16) = W
    simp only [pointwise, zero_add]
  rw [h]
  unfold kp lin
  exact Finset.sum_congr rfl fun k _ => by rw [hw, hOf_at x0 x1 x2 o hx r R hR]

theorem naOf_at (c : Fin 1024) : naOf x0 x1 x2 x3 o hx (ix2 r c) = kp x0 x1 x2 x3 R ⟨1280 + c.val, by omega⟩ := by
  have hw : ∀ k : Fin 1024, shapeCast S1024x1024 (View.ld x3 r0_9) shapeCasts_S1024x1024_S1024x1024 (ix2 k c) = x3 (ix2 k ⟨1280 + c.val, by omega⟩) := fun k => by
    simp only [pointwise]
    refine congrArg x3 (funext fun a => Fin.ext ?_)
    fin_cases a
    · show 0 + 1 * k.val = k.val; omega
    · show 1280 + 1 * c.val = 1280 + c.val; omega
  have h : naOf x0 x1 x2 x3 o hx (ix2 r c) = ∑ k : Fin 1024, hOf x0 x1 x2 o hx (ix2 r k)
      * shapeCast S1024x1024 (View.ld x3 r0_9) shapeCasts_S1024x1024_S1024x1024 (ix2 k c) := by
    unfold naOf
    generalize hOf x0 x1 x2 o hx = H
    generalize (shapeCast S1024x1024 (View.ld x3 r0_9) shapeCasts_S1024x1024_S1024x1024 : FVec Ideal S1024x1024 .bf16) = W
    simp only [pointwise, zero_add]
  rw [h]
  unfold kp lin
  exact Finset.sum_congr rfl fun k _ => by rw [hw, hOf_at x0 x1 x2 o hx r R hR]

theorem pairOf_at (c : Nat) (hs) (hc : c + 128 ≤ 768) (g : Vec Ideal S1x128 .f32) (l : Fin 128) :
    pairOf x0 x1 x2 x3 x4 x5 o hx ht c hs g (ix2 r l) = pairVal x0 x1 x2 x3 x4 x5 R c (by omega) g l := by
  have ha : ∀ l : Fin 128, extractStridedSlice S256x128 ![0, c] (gqaOf x0 x1 x2 x3 o hx) hs (ix2 r l)
      = kp x0 x1 x2 x3 R ⟨c + l.val, by omega⟩ := fun l => by
    rw [← gqaOf_at x0 x1 x2 x3 o hx r R hR ⟨c + l.val, by omega⟩]
    refine congrArg (gqaOf x0 x1 x2 x3 o hx) (funext fun a => Fin.ext ?_)
    fin_cases a
    · exact Nat.zero_add _
    · rfl
  have hg : ∀ l : Fin 128, shapeCast S1x128 (View.ld g r0_11) shapeCasts_S1x128_S1x128 (ix2 0 l) = g (ix2 0 l) := fun l => by
    simp only [pointwise]
    refine congrArg g (funext fun a => Fin.ext ?_)
    fin_cases a
    · rfl
    · show 0 + 1 * l.val = l.val; omega
  have hT : ∀ (X : Vec Ideal S1024x128 .f32) (l : Fin 128),
      shapeCast S256x128 (View.ld X (Rect.unit (s := S1024x128) ![o, 0] S256x128.size ht)) shapeCasts_S256x128_S256x128 (ix2 r l)
        = X (ix2 R l) := fun X l => by
    simp only [pointwise]
    refine congrArg X (funext fun a => Fin.ext ?_)
    fin_cases a
    · show o + 1 * r.val = R.val; omega
    · show 0 + 1 * l.val = l.val; omega
  unfold pairOf
  rw [headT_at]
  simp only [ha, hg, hT]
  rfl

theorem qnP_at (a : Fin 1) (j : Fin 512) : qnP x0 x1 x2 x3 o hx (ix3 a r j) = kp x0 x1 x2 x3 R ⟨1280 + j.val, by omega⟩ * num 0x3E38AA3B#32 := by
  rw [← naOf_at x0 x1 x2 x3 o hx r R hR ⟨j.val, by omega⟩]
  unfold qnP
  generalize naOf x0 x1 x2 x3 o hx = A
  simp only [pointwise]
  refine congrArg (fun z => A z * _) (funext fun a => Fin.ext ?_)
  fin_cases a <;> exact Nat.zero_add _

theorem knP_at (a : Fin 1) (j : Fin 512) : knP x0 x1 x2 x3 o hx (ix3 a r j) = kp x0 x1 x2 x3 R ⟨1792 + j.val, by omega⟩ := by
  have e : (⟨1792 + j.val, by omega⟩ : Fin 2304) = ⟨1280 + (⟨512 + j.val, by omega⟩ : Fin 1024).val, by omega⟩ := Fin.ext (by show 1792 + j.val = 1280 + (512 + j.val); omega)
  rw [e, ← naOf_at x0 x1 x2 x3 o hx r R hR ⟨512 + j.val, by omega⟩]
  unfold knP
  generalize naOf x0 x1 x2 x3 o hx = A
  simp only [pointwise]
  refine congrArg A (funext fun a => Fin.ext ?_)
  fin_cases a
  · exact Nat.zero_add _
  · rfl

theorem qgP_at (c : Nat) (hs) (hc : c + 128 ≤ 768) (a : Fin 1) (l : Fin 128) : qgP x0 x1 x2 x3 x4 x5 x6 o hx ht c hs (ix3 a r l)
    = pairVal x0 x1 x2 x3 x4 x5 R c (by omega) x6 l * num 0x3E38AA3B#32 := by
  rw [← pairOf_at x0 x1 x2 x3 x4 x5 o hx ht r R hR c hs hc]
  unfold qgP
  generalize pairOf x0 x1 x2 x3 x4 x5 o hx ht c hs x6 = A
  simp only [pointwise]

theorem kaP_at (a : Fin 1) (l : Fin 128) : kaP x0 x1 x2 x3 x4 x5 x7 o hx ht (ix3 a r l)
    = pairVal x0 x1 x2 x3 x4 x5 R 512 (by omega) x7 l := by
  rw [← pairOf_at x0 x1 x2 x3 x4 x5 o hx ht r R hR 512 slices_S256x768_o0_512_S256x128 (by omega)]
  unfold kaP
  generalize pairOf x0 x1 x2 x3 x4 x5 o hx ht 512 slices_S256x768_o0_512_S256x128 x7 = A
  simp only [pointwise]

theorem kbP_at (a : Fin 1) (l : Fin 128) : kbP x0 x1 x2 x3 x4 x5 x7 o hx ht (ix3 a r l)
    = pairVal x0 x1 x2 x3 x4 x5 R 512 (by omega) x7 ⟨(l.val + 64) % 128, Nat.mod_lt _ (by omega)⟩ := by
  rw [← pairOf_at x0 x1 x2 x3 x4 x5 o hx ht r R hR 512 slices_S256x768_o0_512_S256x128 (by omega)]
  unfold kbP
  generalize pairOf x0 x1 x2 x3 x4 x5 o hx ht 512 slices_S256x768_o0_512_S256x128 x7 = A
  have h64 : dynamicRotate 1 64#32 none A rotates_S256x128_d1 (ix2 r l) = A (ix2 r ⟨(l.val + 64) % 128, Nat.mod_lt _ (by omega)⟩) :=
    dynamicRotate_apply (s := S256x128) 1 64#32 A rotates_S256x128_d1 (ix2 r l) _ fun b => by
      fin_cases b
      · rfl
      · show (l.val + 64) % 128 = (l.val + 128 - 64) % 128; omega
  rw [← h64]
  generalize dynamicRotate 1 64#32 none A rotates_S256x128_d1 = B
  simp only [pointwise]

theorem vnP_at (c : Nat) (hs) (hc : c + 128 ≤ 512) (a b : Fin 1) (l : Fin 128) : vnP x0 x1 x2 x3 o hx c hs (ix4 a b l r)
    = kp x0 x1 x2 x3 R ⟨768 + (c + l.val), by omega⟩ := by
  rw [← vnOf_at x0 x1 x2 x3 o hx r R hR ⟨c + l.val, by omega⟩]
  unfold vnP
  generalize vnOf x0 x1 x2 x3 o hx = A
  simp only [pointwise]
  refine congrArg A (funext fun a => Fin.ext ?_)
  fin_cases a
  · exact Nat.zero_add _
  · rfl

theorem vgP_at (a b : Fin 1) (l : Fin 128) : vgP x0 x1 x2 x3 o hx (ix4 a b l r) = kp x0 x1 x2 x3 R ⟨640 + l.val, by omega⟩ := by
  rw [← gqaOf_at x0 x1 x2 x3 o hx r R hR ⟨640 + l.val, by omega⟩]
  unfold vgP
  generalize gqaOf x0 x1 x2 x3 o hx = A
  simp only [pointwise]
  refine congrArg A (funext fun a => Fin.ext ?_)
  fin_cases a
  · exact Nat.zero_add _
  · rfl

end At

end Cert.InBlock
-- ==== Proof.InOut.lean ====
/- What one grid point leaves in each of the six outputs' blocks, read at an index. -/
module

public import proofs.«01_k».proof.Proof.InBlock

@[expose] public section

noncomputable section

namespace Cert.InOut

open Cert.InProjIdeal Cert.InProjIdeal.Gen Idealize.ShloMosaic Cert.PostRow Cert.InRow Cert.InTile Cert.InBlock

variable (x0 : Vec Ideal S1x1024x1024 .f32) (x1 : Vec Ideal S1x6x1024 .f32) (x2 : Vec Ideal S1x1024 .f32)
  (x3 : Vec Ideal S1024x2304 .bf16) (x4 x5 : Vec Ideal S1024x128 .f32) (x6 x7 : Vec Ideal S1x128 .f32)

/-- The blocks' entries. -/
def b8 (R : Fin 1024) (j : Fin 512) : EReal := kp x0 x1 x2 x3 R ⟨1280 + j.val, by omega⟩ * num 0x3E38AA3B#32
def b9 (R : Fin 1024) (j : Fin 512) : EReal := kp x0 x1 x2 x3 R ⟨1792 + j.val, by omega⟩
def b10 (R : Fin 1024) (j : Fin 512) : EReal :=
  pairVal x0 x1 x2 x3 x4 x5 R (128 * (j.val / 128)) (by omega) x6 ⟨j.val % 128, Nat.mod_lt _ (by omega)⟩ * num 0x3E38AA3B#32
def b11 (R : Fin 1024) (l : Fin 128) : EReal := pairVal x0 x1 x2 x3 x4 x5 R 512 (by omega) x7 l
def b12 (R : Fin 1024) (l : Fin 128) : EReal :=
  pairVal x0 x1 x2 x3 x4 x5 R 512 (by omega) x7 ⟨(l.val + 64) % 128, Nat.mod_lt _ (by omega)⟩
def b13 (i : Fin 4) (j : Fin 640) (r : Fin 256) : EReal :=
  kp x0 x1 x2 x3 ⟨256 * i.val + r.val, by omega⟩ (if j.val < 512 then ⟨768 + j.val, by omega⟩ else ⟨128 + j.val, by omega⟩)

theorem out8_at (y : S1x1024x512.Idx) :
    out0_8 x0 x1 x2 x3 x4 x5 x6 x7 y = b8 x0 x1 x2 x3 (y 1) (y 2) := by
  have h : out0_8 x0 x1 x2 x3 x4 x5 x6 x7
      = View.canon [⟨r0_58, qnP x0 x1 x2 x3 768 inb_S1x1024x1024_S1x256x1024_0_768_0⟩,
        ⟨r0_46, qnP x0 x1 x2 x3 512 inb_S1x1024x1024_S1x256x1024_0_512_0⟩,
        ⟨r0_34, qnP x0 x1 x2 x3 256 inb_S1x1024x1024_S1x256x1024_0_256_0⟩,
        ⟨r0_22, qnP x0 x1 x2 x3 0 inb_S1x1024x1024_S1x256x1024_0_0_0⟩] := rfl
  rw [h]
  refine View.canon_apply_of_pieces (Val := Elt Ideal) (e := .bf16) (S := S1x1024x512) (fun y => b8 x0 x1 x2 x3 (y 1) (y 2)) _ ?_ y (cover0_8 _ _ _ _ y)
  have key : ∀ (o : Nat) (hx : InX o) (hi) (x : S1x256x512.Idx),
      qnP x0 x1 x2 x3 o hx x = b8 x0 x1 x2 x3 ((Rect.unit (s := S1x1024x512) ![0, o, 0] S1x256x512.size hi).emb x 1)
        ((Rect.unit (s := S1x1024x512) ![0, o, 0] S1x256x512.size hi).emb x 2) := fun o hx hi x => by
    rw [eq_ix3 x]
    refine (qnP_at x0 x1 x2 x3 o hx _ _ (Rect.idx_unit_val _ _ hi _ 1) _ _).trans (congrArg (b8 x0 x1 x2 x3 _) ?_)
    exact Fin.ext ((Rect.idx_unit_val _ _ hi _ 2).trans (Nat.zero_add _)).symm
  intro p hp x
  simp only [List.mem_cons, List.not_mem_nil, or_false] at hp
  rcases hp with rfl | rfl | rfl | rfl
  · exact key 768 inb_S1x1024x1024_S1x256x1024_0_768_0 inb_S1x1024x512_S1x256x512_0_768_0 x
  · exact key 512 inb_S1x1024x1024_S1x256x1024_0_512_0 inb_S1x1024x512_S1x256x512_0_512_0 x
  · exact key 256 inb_S1x1024x1024_S1x256x1024_0_256_0 inb_S1x1024x512_S1x256x512_0_256_0 x
  · exact key 0 inb_S1x1024x1024_S1x256x1024_0_0_0 inb_S1x1024x512_S1x256x512_0_0_0 x

theorem out9_at (y : S1x1024x512.Idx) :
    out0_9 x0 x1 x2 x3 x4 x5 x6 x7 y = b9 x0 x1 x2 x3 (y 1) (y 2) := by
  have h : out0_9 x0 x1 x2 x3 x4 x5 x6 x7
      = View.canon [⟨r0_58, knP x0 x1 x2 x3 768 inb_S1x1024x1024_S1x256x1024_0_768_0⟩,
        ⟨r0_46, knP x0 x1 x2 x3 512 inb_S1x1024x1024_S1x256x1024_0_512_0⟩,
        ⟨r0_34, knP x0 x1 x2 x3 256 inb_S1x1024x1024_S1x256x1024_0_256_0⟩,
        ⟨r0_22, knP x0 x1 x2 x3 0 inb_S1x1024x1024_S1x256x1024_0_0_0⟩] := rfl
  rw [h]
  refine View.canon_apply_of_pieces (Val := Elt Ideal) (e := .bf16) (S := S1x1024x512) (fun y => b9 x0 x1 x2 x3 (y 1) (y 2)) _ ?_ y (cover0_9 _ _ _ _ y)
  have key : ∀ (o : Nat) (hx : InX o) (hi) (x : S1x256x512.Idx),
      knP x0 x1 x2 x3 o hx x = b9 x0 x1 x2 x3 ((Rect.unit (s := S1x1024x512) ![0, o, 0] S1x256x512.size hi).emb x 1)
        ((Rect.unit (s := S1x1024x512) ![0, o, 0] S1x256x512.size hi).emb x 2) := fun o hx hi x => by
    rw [eq_ix3 x]
    refine (knP_at x0 x1 x2 x3 o hx _ _ (Rect.idx_unit_val _ _ hi _ 1) _ _).trans (congrArg (b9 x0 x1 x2 x3 _) ?_)
    exact Fin.ext ((Rect.idx_unit_val _ _ hi _ 2).trans (Nat.zero_add _)).symm
  intro p hp x
  simp only [List.mem_cons, List.not_mem_nil, or_false] at hp
  rcases hp with rfl | rfl | rfl | rfl
  · exact key 768 inb_S1x1024x1024_S1x256x1024_0_768_0 inb_S1x1024x512_S1x256x512_0_768_0 x
  · exact key 512 inb_S1x1024x1024_S1x256x1024_0_512_0 inb_S1x1024x512_S1x256x512_0_512_0 x
  · exact key 256 inb_S1x1024x1024_S1x256x1024_0_256_0 inb_S1x1024x512_S1x256x512_0_256_0 x
  · exact key 0 inb_S1x1024x1024_S1x256x1024_0_0_0 inb_S1x1024x512_S1x256x512_0_0_0 x

theorem b10_eq (R : Fin 1024) (c : Nat) (hc : c + 128 ≤ 2304) (hc' : 128 * (c / 128) = c) (l : Fin 128) (j : Fin 512) (hj : j.val = c + l.val) :
    pairVal x0 x1 x2 x3 x4 x5 R c hc x6 l * num 0x3E38AA3B#32 = b10 x0 x1 x2 x3 x4 x5 x6 R j := by
  have hl := l.isLt
  have h1 : 128 * (j.val / 128) = c := by omega
  have h2 : (⟨j.val % 128, Nat.mod_lt _ (by omega)⟩ : Fin 128) = l := Fin.ext (show j.val % 128 = l.val by omega)
  unfold b10
  rw [h2]
  simp only [h1]

theorem out10_at (y : S1x1024x512.Idx) :
    out0_10 x0 x1 x2 x3 x4 x5 x6 x7 y = b10 x0 x1 x2 x3 x4 x5 x6 (y 1) (y 2) := by
  have h : out0_10 x0 x1 x2 x3 x4 x5 x6 x7
      = View.canon [⟨r0_51, qgP x0 x1 x2 x3 x4 x5 x6 768 inb_S1x1024x1024_S1x256x1024_0_768_0 inb_S1024x128_S256x128_768_0 384 slices_S256x768_o0_384_S256x128⟩,
        ⟨r0_50, qgP x0 x1 x2 x3 x4 x5 x6 768 inb_S1x1024x1024_S1x256x1024_0_768_0 inb_S1024x128_S256x128_768_0 256 slices_S256x768_o0_256_S256x128⟩,
        ⟨r0_49, qgP x0 x1 x2 x3 x4 x5 x6 768 inb_S1x1024x1024_S1x256x1024_0_768_0 inb_S1024x128_S256x128_768_0 128 slices_S256x768_o0_128_S256x128⟩,
        ⟨r0_48, qgP x0 x1 x2 x3 x4 x5 x6 768 inb_S1x1024x1024_S1x256x1024_0_768_0 inb_S1024x128_S256x128_768_0 0 slices_S256x768_o0_0_S256x128⟩,
        ⟨r0_39, qgP x0 x1 x2 x3 x4 x5 x6 512 inb_S1x1024x1024_S1x256x1024_0_512_0 inb_S1024x128_S256x128_512_0 384 slices_S256x768_o0_384_S256x128⟩,
        ⟨r0_38, qgP x0 x1 x2 x3 x4 x5 x6 512 inb_S1x1024x1024_S1x256x1024_0_512_0 inb_S1024x128_S256x128_512_0 256 slices_S256x768_o0_256_S256x128⟩,
        ⟨r0_37, qgP x0 x1 x2 x3 x4 x5 x6 512 inb_S1x1024x1024_S1x256x1024_0_512_0 inb_S1024x128_S256x128_512_0 128 slices_S256x768_o0_128_S256x128⟩,
        ⟨r0_36, qgP x0 x1 x2 x3 x4 x5 x6 512 inb_S1x1024x1024_S1x256x1024_0_512_0 inb_S1024x128_S256x128_512_0 0 slices_S256x768_o0_0_S256x128⟩,
        ⟨r0_27, qgP x0 x1 x2 x3 x4 x5 x6 256 inb_S1x1024x1024_S1x256x1024_0_256_0 inb_S1024x128_S256x128_256_0 384 slices_S256x768_o0_384_S256x128⟩,
        ⟨r0_26, qgP x0 x1 x2 x3 x4 x5 x6 256 inb_S1x1024x1024_S1x256x1024_0_256_0 inb_S1024x128_S256x128_256_0 256 slices_S256x768_o0_256_S256x128⟩,
        ⟨r0_25, qgP x0 x1 x2 x3 x4 x5 x6 256 inb_S1x1024x1024_S1x256x1024_0_256_0 inb_S1024x128_S256x128_256_0 128 slices_S256x768_o0_128_S256x128⟩,
        ⟨r0_24, qgP x0 x1 x2 x3 x4 x5 x6 256 inb_S1x1024x1024_S1x256x1024_0_256_0 inb_S1024x128_S256x128_256_0 0 slices_S256x768_o0_0_S256x128⟩,
        ⟨r0_15, qgP x0 x1 x2 x3 x4 x5 x6 0 inb_S1x1024x1024_S1x256x1024_0_0_0 inb_S1024x128_S256x128_0_0 384 slices_S256x768_o0_384_S256x128⟩,
        ⟨r0_14, qgP x0 x1 x2 x3 x4 x5 x6 0 inb_S1x1024x1024_S1x256x1024_0_0_0 inb_S1024x128_S256x128_0_0 256 slices_S256x768_o0_256_S256x128⟩,
        ⟨r0_13, qgP x0 x1 x2 x3 x4 x5 x6 0 inb_S1x1024x1024_S1x256x1024_0_0_0 inb_S1024x128_S256x128_0_0 128 slices_S256x768_o0_128_S256x128⟩,
        ⟨r0_12, qgP x0 x1 x2 x3 x4 x5 x6 0 inb_S1x1024x1024_S1x256x1024_0_0_0 inb_S1024x128_S256x128_0_0 0 slices_S256x768_o0_0_S256x128⟩] := rfl
  rw [h]
  refine View.canon_apply_of_pieces (Val := Elt Ideal) (e := .bf16) (S := S1x1024x512) (fun y => b10 x0 x1 x2 x3 x4 x5 x6 (y 1) (y 2)) _ ?_ y (cover0_10 _ _ _ _ _ _ _ _ _ _ _ _ _ _ _ _ y)
  have key : ∀ (o : Nat) (hx : InX o) (ht : InT o) (c : Nat) (hs) (hi) (hc : c + 128 ≤ 512) (hc' : 128 * (c / 128) = c) (x : S1x256x128.Idx),
      qgP x0 x1 x2 x3 x4 x5 x6 o hx ht c hs x
        = b10 x0 x1 x2 x3 x4 x5 x6 ((Rect.unit (s := S1x1024x512) ![0, o, c] S1x256x128.size hi).emb x 1)
            ((Rect.unit (s := S1x1024x512) ![0, o, c] S1x256x128.size hi).emb x 2) := fun o hx ht c hs hi hc hc' x => by
    rw [eq_ix3 x]
    refine (qgP_at x0 x1 x2 x3 x4 x5 x6 o hx ht _ _ (Rect.idx_unit_val _ _ hi _ 1) c hs (by omega) _ _).trans ?_
    refine b10_eq x0 x1 x2 x3 x4 x5 x6 _ c _ hc' _ _ ?_
    exact Rect.idx_unit_val _ _ hi _ 2
  intro p hp x
  simp only [List.mem_cons, List.not_mem_nil, or_false] at hp
  rcases hp with rfl | rfl | rfl | rfl | rfl | rfl | rfl | rfl | rfl | rfl | rfl | rfl | rfl | rfl | rfl | rfl
  · exact key 768 inb_S1x1024x1024_S1x256x1024_0_768_0 inb_S1024x128_S256x128_768_0 384 slices_S256x768_o0_384_S256x128 inb_S1x1024x512_S1x256x128_0_768_384 (by omega) (by omega) x
  · exact key 768 inb_S1x1024x1024_S1x256x1024_0_768_0 inb_S1024x128_S256x128_768_0 256 slices_S256x768_o0_256_S256x128 inb_S1x1024x512_S1x256x128_0_768_256 (by omega) (by omega) x
  · exact key 768 inb_S1x1024x1024_S1x256x1024_0_768_0 inb_S1024x128_S256x128_768_0 128 slices_S256x768_o0_128_S256x128 inb_S1x1024x512_S1x256x128_0_768_128 (by omega) (by omega) x
  · exact key 768 inb_S1x1024x1024_S1x256x1024_0_768_0 inb_S1024x128_S256x128_768_0 0 slices_S256x768_o0_0_S256x128 inb_S1x1024x512_S1x256x128_0_768_0 (by omega) (by omega) x
  · exact key 512 inb_S1x1024x1024_S1x256x1024_0_512_0 inb_S1024x128_S256x128_512_0 384 slices_S256x768_o0_384_S256x128 inb_S1x1024x512_S1x256x128_0_512_384 (by omega) (by omega) x
  · exact key 512 inb_S1x1024x1024_S1x256x1024_0_512_0 inb_S1024x128_S256x128_512_0 256 slices_S256x768_o0_256_S256x128 inb_S1x1024x512_S1x256x128_0_512_256 (by omega) (by omega) x
  · exact key 512 inb_S1x1024x1024_S1x256x1024_0_512_0 inb_S1024x128_S256x128_512_0 128 slices_S256x768_o0_128_S256x128 inb_S1x1024x512_S1x256x128_0_512_128 (by omega) (by omega) x
  · exact key 512 inb_S1x1024x1024_S1x256x1024_0_512_0 inb_S1024x128_S256x128_512_0 0 slices_S256x768_o0_0_S256x128 inb_S1x1024x512_S1x256x128_0_512_0 (by omega) (by omega) x
  · exact key 256 inb_S1x1024x1024_S1x256x1024_0_256_0 inb_S1024x128_S256x128_256_0 384 slices_S256x768_o0_384_S256x128 inb_S1x1024x512_S1x256x128_0_256_384 (by omega) (by omega) x
  · exact key 256 inb_S1x1024x1024_S1x256x1024_0_256_0 inb_S1024x128_S256x128_256_0 256 slices_S256x768_o0_256_S256x128 inb_S1x1024x512_S1x256x128_0_256_256 (by omega) (by omega) x
  · exact key 256 inb_S1x1024x1024_S1x256x1024_0_256_0 inb_S1024x128_S256x128_256_0 128 slices_S256x768_o0_128_S256x128 inb_S1x1024x512_S1x256x128_0_256_128 (by omega) (by omega) x
  · exact key 256 inb_S1x1024x1024_S1x256x1024_0_256_0 inb_S1024x128_S256x128_256_0 0 slices_S256x768_o0_0_S256x128 inb_S1x1024x512_S1x256x128_0_256_0 (by omega) (by omega) x
  · exact key 0 inb_S1x1024x1024_S1x256x1024_0_0_0 inb_S1024x128_S256x128_0_0 384 slices_S256x768_o0_384_S256x128 inb_S1x1024x512_S1x256x128_0_0_384 (by omega) (by omega) x
  · exact key 0 inb_S1x1024x1024_S1x256x1024_0_0_0 inb_S1024x128_S256x128_0_0 256 slices_S256x768_o0_256_S256x128 inb_S1x1024x512_S1x256x128_0_0_256 (by omega) (by omega) x
  · exact key 0 inb_S1x1024x1024_S1x256x1024_0_0_0 inb_S1024x128_S256x128_0_0 128 slices_S256x768_o0_128_S256x128 inb_S1x1024x512_S1x256x128_0_0_128 (by omega) (by omega) x
  · exact key 0 inb_S1x1024x1024_S1x256x1024_0_0_0 inb_S1024x128_S256x128_0_0 0 slices_S256x768_o0_0_S256x128 inb_S1x1024x512_S1x256x128_0_0_0 (by omega) (by omega) x

theorem out11_at (y : S1x1024x128.Idx) :
    out0_11 x0 x1 x2 x3 x4 x5 x6 x7 y = b11 x0 x1 x2 x3 x4 x5 x7 (y 1) (y 2) := by
  have h : out0_11 x0 x1 x2 x3 x4 x5 x6 x7
      = View.canon [⟨r0_52, kaP x0 x1 x2 x3 x4 x5 x7 768 inb_S1x1024x1024_S1x256x1024_0_768_0 inb_S1024x128_S256x128_768_0⟩,
        ⟨r0_40, kaP x0 x1 x2 x3 x4 x5 x7 512 inb_S1x1024x1024_S1x256x1024_0_512_0 inb_S1024x128_S256x128_512_0⟩,
        ⟨r0_28, kaP x0 x1 x2 x3 x4 x5 x7 256 inb_S1x1024x1024_S1x256x1024_0_256_0 inb_S1024x128_S256x128_256_0⟩,
        ⟨r0_16, kaP x0 x1 x2 x3 x4 x5 x7 0 inb_S1x1024x1024_S1x256x1024_0_0_0 inb_S1024x128_S256x128_0_0⟩] := rfl
  rw [h]
  refine View.canon_apply_of_pieces (Val := Elt Ideal) (e := .bf16) (S := S1x1024x128) (fun y => b11 x0 x1 x2 x3 x4 x5 x7 (y 1) (y 2)) _ ?_ y (cover0_11 _ _ _ _ y)
  have key : ∀ (o : Nat) (hx : InX o) (ht : InT o) (hi) (x : S1x256x128.Idx),
      kaP x0 x1 x2 x3 x4 x5 x7 o hx ht x = b11 x0 x1 x2 x3 x4 x5 x7 ((Rect.unit (s := S1x1024x128) ![0, o, 0] S1x256x128.size hi).emb x 1)
        ((Rect.unit (s := S1x1024x128) ![0, o, 0] S1x256x128.size hi).emb x 2) := fun o hx ht hi x => by
    rw [eq_ix3 x]
    refine (kaP_at x0 x1 x2 x3 x4 x5 x7 o hx ht _ _ (Rect.idx_unit_val _ _ hi _ 1) _ _).trans (congrArg (b11 x0 x1 x2 x3 x4 x5 x7 _) ?_)
    exact Fin.ext ((Rect.idx_unit_val _ _ hi _ 2).trans (Nat.zero_add _)).symm
  intro p hp x
  simp only [List.mem_cons, List.not_mem_nil, or_false] at hp
  rcases hp with rfl | rfl | rfl | rfl
  · exact key 768 inb_S1x1024x1024_S1x256x1024_0_768_0 inb_S1024x128_S256x128_768_0 inb_S1x1024x128_S1x256x128_0_768_0 x
  · exact key 512 inb_S1x1024x1024_S1x256x1024_0_512_0 inb_S1024x128_S256x128_512_0 inb_S1x1024x128_S1x256x128_0_512_0 x
  · exact key 256 inb_S1x1024x1024_S1x256x1024_0_256_0 inb_S1024x128_S256x128_256_0 inb_S1x1024x128_S1x256x128_0_256_0 x
  · exact key 0 inb_S1x1024x1024_S1x256x1024_0_0_0 inb_S1024x128_S256x128_0_0 inb_S1x1024x128_S1x256x128_0_0_0 x

theorem out12_at (y : S1x1024x128.Idx) :
    out0_12 x0 x1 x2 x3 x4 x5 x6 x7 y = b12 x0 x1 x2 x3 x4 x5 x7 (y 1) (y 2) := by
  have h : out0_12 x0 x1 x2 x3 x4 x5 x6 x7
      = View.canon [⟨r0_52, kbP x0 x1 x2 x3 x4 x5 x7 768 inb_S1x1024x1024_S1x256x1024_0_768_0 inb_S1024x128_S256x128_768_0⟩,
        ⟨r0_40, kbP x0 x1 x2 x3 x4 x5 x7 512 inb_S1x1024x1024_S1x256x1024_0_512_0 inb_S1024x128_S256x128_512_0⟩,
        ⟨r0_28, kbP x0 x1 x2 x3 x4 x5 x7 256 inb_S1x1024x1024_S1x256x1024_0_256_0 inb_S1024x128_S256x128_256_0⟩,
        ⟨r0_16, kbP x0 x1 x2 x3 x4 x5 x7 0 inb_S1x1024x1024_S1x256x1024_0_0_0 inb_S1024x128_S256x128_0_0⟩] := rfl
  rw [h]
  refine View.canon_apply_of_pieces (Val := Elt Ideal) (e := .bf16) (S := S1x1024x128) (fun y => b12 x0 x1 x2 x3 x4 x5 x7 (y 1) (y 2)) _ ?_ y (cover0_12 _ _ _ _ y)
  have key : ∀ (o : Nat) (hx : InX o) (ht : InT o) (hi) (x : S1x256x128.Idx),
      kbP x0 x1 x2 x3 x4 x5 x7 o hx ht x = b12 x0 x1 x2 x3 x4 x5 x7 ((Rect.unit (s := S1x1024x128) ![0, o, 0] S1x256x128.size hi).emb x 1)
        ((Rect.unit (s := S1x1024x128) ![0, o, 0] S1x256x128.size hi).emb x 2) := fun o hx ht hi x => by
    rw [eq_ix3 x]
    refine (kbP_at x0 x1 x2 x3 x4 x5 x7 o hx ht _ _ (Rect.idx_unit_val _ _ hi _ 1) _ _).trans (congrArg (b12 x0 x1 x2 x3 x4 x5 x7 _) ?_)
    exact Fin.ext ((Rect.idx_unit_val _ _ hi _ 2).trans (Nat.zero_add _)).symm
  intro p hp x
  simp only [List.mem_cons, List.not_mem_nil, or_false] at hp
  rcases hp with rfl | rfl | rfl | rfl
  · exact key 768 inb_S1x1024x1024_S1x256x1024_0_768_0 inb_S1024x128_S256x128_768_0 inb_S1x1024x128_S1x256x128_0_768_0 x
  · exact key 512 inb_S1x1024x1024_S1x256x1024_0_512_0 inb_S1024x128_S256x128_512_0 inb_S1x1024x128_S1x256x128_0_512_0 x
  · exact key 256 inb_S1x1024x1024_S1x256x1024_0_256_0 inb_S1024x128_S256x128_256_0 inb_S1x1024x128_S1x256x128_0_256_0 x
  · exact key 0 inb_S1x1024x1024_S1x256x1024_0_0_0 inb_S1024x128_S256x128_0_0 inb_S1x1024x128_S1x256x128_0_0_0 x

theorem b13n (o : Nat) (hx : InX o) (c : Nat) (hs) (hc : c + 128 ≤ 512) (q : Nat) (ho : o = 256 * q) (a b : Fin 1) (l : Fin 128) (r : Fin 256)
    (i : Fin 4) (j : Fin 640) (k : Fin 256) (hi : i.val = q) (hj : j.val = c + l.val) (hk : k.val = r.val) :
    vnP x0 x1 x2 x3 o hx c hs (ix4 a b l r) = b13 x0 x1 x2 x3 i j k := by
  have hl := l.isLt
  rw [vnP_at x0 x1 x2 x3 o hx r ⟨256 * i.val + k.val, by omega⟩ (by show 256 * i.val + k.val = o + r.val; omega) c hs hc]
  unfold b13
  rw [if_pos (by omega)]
  exact congrArg (kp x0 x1 x2 x3 _) (Fin.ext (show 768 + (c + l.val) = 768 + j.val by omega))

theorem b13g (o : Nat) (hx : InX o) (q : Nat) (ho : o = 256 * q) (a b : Fin 1) (l : Fin 128) (r : Fin 256)
    (i : Fin 4) (j : Fin 640) (k : Fin 256) (hi : i.val = q) (hj : j.val = 512 + l.val) (hk : k.val = r.val) :
    vgP x0 x1 x2 x3 o hx (ix4 a b l r) = b13 x0 x1 x2 x3 i j k := by
  have hl := l.isLt
  rw [vgP_at x0 x1 x2 x3 o hx r ⟨256 * i.val + k.val, by omega⟩ (by show 256 * i.val + k.val = o + r.val; omega)]
  unfold b13
  rw [if_neg (by omega)]
  exact congrArg (kp x0 x1 x2 x3 _) (Fin.ext (show 640 + l.val = 128 + j.val by omega))

theorem out13_at (y : S1x4x640x256.Idx) :
    out0_13 x0 x1 x2 x3 x4 x5 x6 x7 y = b13 x0 x1 x2 x3 (y 1) (y 2) (y 3) := by
  have h : out0_13 x0 x1 x2 x3 x4 x5 x6 x7
      = View.canon [⟨r0_57, vgP x0 x1 x2 x3 768 inb_S1x1024x1024_S1x256x1024_0_768_0⟩,
        ⟨r0_56, vnP x0 x1 x2 x3 768 inb_S1x1024x1024_S1x256x1024_0_768_0 384 slices_S256x512_o0_384_S256x128⟩,
        ⟨r0_55, vnP x0 x1 x2 x3 768 inb_S1x1024x1024_S1x256x1024_0_768_0 256 slices_S256x512_o0_256_S256x128⟩,
        ⟨r0_54, vnP x0 x1 x2 x3 768 inb_S1x1024x1024_S1x256x1024_0_768_0 128 slices_S256x512_o0_128_S256x128⟩,
        ⟨r0_53, vnP x0 x1 x2 x3 768 inb_S1x1024x1024_S1x256x1024_0_768_0 0 slices_S256x512_o0_0_S256x128⟩,
        ⟨r0_45, vgP x0 x1 x2 x3 512 inb_S1x1024x1024_S1x256x1024_0_512_0⟩,
        ⟨r0_44, vnP x0 x1 x2 x3 512 inb_S1x1024x1024_S1x256x1024_0_512_0 384 slices_S256x512_o0_384_S256x128⟩,
        ⟨r0_43, vnP x0 x1 x2 x3 512 inb_S1x1024x1024_S1x256x1024_0_512_0 256 slices_S256x512_o0_256_S256x128⟩,
        ⟨r0_42, vnP x0 x1 x2 x3 512 inb_S1x1024x1024_S1x256x1024_0_512_0 128 slices_S256x512_o0_128_S256x128⟩,
        ⟨r0_41, vnP x0 x1 x2 x3 512 inb_S1x1024x1024_S1x256x1024_0_512_0 0 slices_S256x512_o0_0_S256x128⟩,
        ⟨r0_33, vgP x0 x1 x2 x3 256 inb_S1x1024x1024_S1x256x1024_0_256_0⟩,
        ⟨r0_32, vnP x0 x1 x2 x3 256 inb_S1x1024x1024_S1x256x1024_0_256_0 384 slices_S256x512_o0_384_S256x128⟩,
        ⟨r0_31, vnP x0 x1 x2 x3 256 inb_S1x1024x1024_S1x256x1024_0_256_0 256 slices_S256x512_o0_256_S256x128⟩,
        ⟨r0_30, vnP x0 x1 x2 x3 256 inb_S1x1024x1024_S1x256x1024_0_256_0 128 slices_S256x512_o0_128_S256x128⟩,
        ⟨r0_29, vnP x0 x1 x2 x3 256 inb_S1x1024x1024_S1x256x1024_0_256_0 0 slices_S256x512_o0_0_S256x128⟩,
        ⟨r0_21, vgP x0 x1 x2 x3 0 inb_S1x1024x1024_S1x256x1024_0_0_0⟩,
        ⟨r0_20, vnP x0 x1 x2 x3 0 inb_S1x1024x1024_S1x256x1024_0_0_0 384 slices_S256x512_o0_384_S256x128⟩,
        ⟨r0_19, vnP x0 x1 x2 x3 0 inb_S1x1024x1024_S1x256x1024_0_0_0 256 slices_S256x512_o0_256_S256x128⟩,
        ⟨r0_18, vnP x0 x1 x2 x3 0 inb_S1x1024x1024_S1x256x1024_0_0_0 128 slices_S256x512_o0_128_S256x128⟩,
        ⟨r0_17, vnP x0 x1 x2 x3 0 inb_S1x1024x1024_S1x256x1024_0_0_0 0 slices_S256x512_o0_0_S256x128⟩] := rfl
  rw [h]
  refine View.canon_apply_of_pieces (Val := Elt Ideal) (e := .bf16) (S := S1x4x640x256) (fun y => b13 x0 x1 x2 x3 (y 1) (y 2) (y 3)) _ ?_ y (cover0_13 _ _ _ _ _ _ _ _ _ _ _ _ _ _ _ _ _ _ _ _ y)
  have keyn : ∀ (q : Nat) (hq : q < 4) (o : Nat) (ho : o = 256 * q) (hx : InX o) (c : Nat) (hs) (hi) (hc : c + 128 ≤ 512) (x : S1x1x128x256.Idx),
      vnP x0 x1 x2 x3 o hx c hs x
        = b13 x0 x1 x2 x3 ((Rect.unit (s := S1x4x640x256) ![0, q, c, 0] S1x1x128x256.size hi).emb x 1)
            ((Rect.unit (s := S1x4x640x256) ![0, q, c, 0] S1x1x128x256.size hi).emb x 2)
            ((Rect.unit (s := S1x4x640x256) ![0, q, c, 0] S1x1x128x256.size hi).emb x 3) := fun q hq o ho hx c hs hi hc x => by
    rw [eq_ix4 x]
    have h1 := Rect.idx_unit_val (s := S1x4x640x256) ![0, q, c, 0] S1x1x128x256.size hi (ix4 (x 0) (x 1) (x 2) (x 3)) 1
    have h2 := Rect.idx_unit_val (s := S1x4x640x256) ![0, q, c, 0] S1x1x128x256.size hi (ix4 (x 0) (x 1) (x 2) (x 3)) 2
    have h3 := Rect.idx_unit_val (s := S1x4x640x256) ![0, q, c, 0] S1x1x128x256.size hi (ix4 (x 0) (x 1) (x 2) (x 3)) 3
    exact b13n x0 x1 x2 x3 o hx c hs hc q ho (x 0) (x 1) (x 2) (x 3) _ _ _ (h1.trans (congrArg (q + ·) (Nat.lt_one_iff.mp (x 1).isLt))) h2 (h3.trans (Nat.zero_add _))
  have keyg : ∀ (q : Nat) (hq : q < 4) (o : Nat) (ho : o = 256 * q) (hx : InX o) (hi) (x : S1x1x128x256.Idx),
      vgP x0 x1 x2 x3 o hx x
        = b13 x0 x1 x2 x3 ((Rect.unit (s := S1x4x640x256) ![0, q, 512, 0] S1x1x128x256.size hi).emb x 1)
            ((Rect.unit (s := S1x4x640x256) ![0, q, 512, 0] S1x1x128x256.size hi).emb x 2)
            ((Rect.unit (s := S1x4x640x256) ![0, q, 512, 0] S1x1x128x256.size hi).emb x 3) := fun q hq o ho hx hi x => by
    rw [eq_ix4 x]
    have h1 := Rect.idx_unit_val (s := S1x4x640x256) ![0, q, 512, 0] S1x1x128x256.size hi (ix4 (x 0) (x 1) (x 2) (x 3)) 1
    have h2 := Rect.idx_unit_val (s := S1x4x640x256) ![0, q, 512, 0] S1x1x128x256.size hi (ix4 (x 0) (x 1) (x 2) (x 3)) 2
    have h3 := Rect.idx_unit_val (s := S1x4x640x256) ![0, q, 512, 0] S1x1x128x256.size hi (ix4 (x 0) (x 1) (x 2) (x 3)) 3
    exact b13g x0 x1 x2 x3 o hx q ho (x 0) (x 1) (x 2) (x 3) _ _ _ (h1.trans (congrArg (q + ·) (Nat.lt_one_iff.mp (x 1).isLt))) h2 (h3.trans (Nat.zero_add _))
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl
  · exact keyg 3 (by omega) 768 rfl inb_S1x1024x1024_S1x256x1024_0_768_0 inb_S1x4x640x256_S1x1x128x256_0_3_512_0 x
  · exact keyn 3 (by omega) 768 rfl inb_S1x1024x1024_S1x256x1024_0_768_0 384 slices_S256x512_o0_384_S256x128 inb_S1x4x640x256_S1x1x128x256_0_3_384_0 (by omega) x
  · exact keyn 3 (by omega) 768 rfl inb_S1x1024x1024_S1x256x1024_0_768_0 256 slices_S256x512_o0_256_S256x128 inb_S1x4x640x256_S1x1x128x256_0_3_256_0 (by omega) x
  · exact keyn 3 (by omega) 768 rfl inb_S1x1024x1024_S1x256x1024_0_768_0 128 slices_S256x512_o0_128_S256x128 inb_S1x4x640x256_S1x1x128x256_0_3_128_0 (by omega) x
  · exact keyn 3 (by omega) 768 rfl inb_S1x1024x1024_S1x256x1024_0_768_0 0 slices_S256x512_o0_0_S256x128 inb_S1x4x640x256_S1x1x128x256_0_3_0_0 (by omega) x
  · exact keyg 2 (by omega) 512 rfl inb_S1x1024x1024_S1x256x1024_0_512_0 inb_S1x4x640x256_S1x1x128x256_0_2_512_0 x
  · exact keyn 2 (by omega) 512 rfl inb_S1x1024x1024_S1x256x1024_0_512_0 384 slices_S256x512_o0_384_S256x128 inb_S1x4x640x256_S1x1x128x256_0_2_384_0 (by omega) x
  · exact keyn 2 (by omega) 512 rfl inb_S1x1024x1024_S1x256x1024_0_512_0 256 slices_S256x512_o0_256_S256x128 inb_S1x4x640x256_S1x1x128x256_0_2_256_0 (by omega) x
  · exact keyn 2 (by omega) 512 rfl inb_S1x1024x1024_S1x256x1024_0_512_0 128 slices_S256x512_o0_128_S256x128 inb_S1x4x640x256_S1x1x128x256_0_2_128_0 (by omega) x
  · exact keyn 2 (by omega) 512 rfl inb_S1x1024x1024_S1x256x1024_0_512_0 0 slices_S256x512_o0_0_S256x128 inb_S1x4x640x256_S1x1x128x256_0_2_0_0 (by omega) x
  · exact keyg 1 (by omega) 256 rfl inb_S1x1024x1024_S1x256x1024_0_256_0 inb_S1x4x640x256_S1x1x128x256_0_1_512_0 x
  · exact keyn 1 (by omega) 256 rfl inb_S1x1024x1024_S1x256x1024_0_256_0 384 slices_S256x512_o0_384_S256x128 inb_S1x4x640x256_S1x1x128x256_0_1_384_0 (by omega) x
  · exact keyn 1 (by omega) 256 rfl inb_S1x1024x1024_S1x256x1024_0_256_0 256 slices_S256x512_o0_256_S256x128 inb_S1x4x640x256_S1x1x128x256_0_1_256_0 (by omega) x
  · exact keyn 1 (by omega) 256 rfl inb_S1x1024x1024_S1x256x1024_0_256_0 128 slices_S256x512_o0_128_S256x128 inb_S1x4x640x256_S1x1x128x256_0_1_128_0 (by omega) x
  · exact keyn 1 (by omega) 256 rfl inb_S1x1024x1024_S1x256x1024_0_256_0 0 slices_S256x512_o0_0_S256x128 inb_S1x4x640x256_S1x1x128x256_0_1_0_0 (by omega) x
  · exact keyg 0 (by omega) 0 rfl inb_S1x1024x1024_S1x256x1024_0_0_0 inb_S1x4x640x256_S1x1x128x256_0_0_512_0 x
  · exact keyn 0 (by omega) 0 rfl inb_S1x1024x1024_S1x256x1024_0_0_0 384 slices_S256x512_o0_384_S256x128 inb_S1x4x640x256_S1x1x128x256_0_0_384_0 (by omega) x
  · exact keyn 0 (by omega) 0 rfl inb_S1x1024x1024_S1x256x1024_0_0_0 256 slices_S256x512_o0_256_S256x128 inb_S1x4x640x256_S1x1x128x256_0_0_256_0 (by omega) x
  · exact keyn 0 (by omega) 0 rfl inb_S1x1024x1024_S1x256x1024_0_0_0 128 slices_S256x512_o0_128_S256x128 inb_S1x4x640x256_S1x1x128x256_0_0_128_0 (by omega) x
  · exact keyn 0 (by omega) 0 rfl inb_S1x1024x1024_S1x256x1024_0_0_0 0 slices_S256x512_o0_0_S256x128 inb_S1x4x640x256_S1x1x128x256_0_0_0_0 (by omega) x

end Cert.InOut
-- ==== Proof.InKernel.lean ====
/- The six arrays the input projections' kernel leaves, index by index over its arguments. -/
module

public import proofs.«01_k».proof.Proof.InHost
public import proofs.«01_k».proof.Proof.InOut

@[expose] public section

noncomputable section

namespace Cert.InKernel

open Cert.InProjIdeal Cert.InProjIdeal.Gen Cert.PostRow Cert.InRow Cert.InHost Cert.InBlock Cert.InOut Idealize.ShloMosaic Idealize.ShloMosaic.TcCoe Idealize.SL.Sem
open Idealize.ShloMosaic.Pipeline (Dat)

variable (m : (ℓ : Loc nD τ sig) → Buf (Elt Ideal) ℓ)

/-- The result arrays. -/
def G8 (c : Dev nD) : Buf (Elt Ideal) ((c.tc : Thread nD τ).loc main_v30_0) := fun y =>
  r0 (m ((c.tc : Thread nD τ).loc main_arg0)) (m ((c.tc : Thread nD τ).loc main_arg1)) (m ((c.tc : Thread nD τ).loc main_arg4)) (m ((c.tc : Thread nD τ).loc main_arg5)) (y 0) (y 1) (y 2)
def G9 (c : Dev nD) : Buf (Elt Ideal) ((c.tc : Thread nD τ).loc main_v30_1) := fun y =>
  r1 (m ((c.tc : Thread nD τ).loc main_arg0)) (m ((c.tc : Thread nD τ).loc main_arg1)) (m ((c.tc : Thread nD τ).loc main_arg4)) (m ((c.tc : Thread nD τ).loc main_arg5)) (y 0) (y 1) (y 2)
def G10 (c : Dev nD) : Buf (Elt Ideal) ((c.tc : Thread nD τ).loc main_v30_2) := fun y =>
  r2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (y 0) (y 1) (y 2)
def G11 (c : Dev nD) : Buf (Elt Ideal) ((c.tc : Thread nD τ).loc main_v30_3) := fun y =>
  r3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (y 0) (y 1) (y 2)
def G12 (c : Dev nD) : Buf (Elt Ideal) ((c.tc : Thread nD τ).loc main_v30_4) := fun y =>
  r4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (y 0) (y 1) (y 2)
def G13 (c : Dev nD) : Buf (Elt Ideal) ((c.tc : Thread nD τ).loc main_v30_5) := fun y =>
  r5 (m ((c.tc : Thread nD τ).loc main_arg0)) (m ((c.tc : Thread nD τ).loc main_arg1)) (m ((c.tc : Thread nD τ).loc main_arg4)) (m ((c.tc : Thread nD τ).loc main_arg5)) (y 0) (y 1) (y 2) (y 3)

section Blocks

variable (c : Dev nD) (t : Fin cfg0.N)

theorem hb : (grid0.coords t 0).val < 8 := (grid0.coords t 0).isLt
theorem hT (r : Fin 1024) : (grid0.coords t 1).val * 1024 + r.val < 4096 := by
  have ht : (grid0.coords t 1).val < 4 := (grid0.coords t 1).isLt
  omega

theorem e0 : ∀ t : Fin cfg0.N, win0_0.index t = ![(grid0.coords t 0).val, (grid0.coords t 1).val, 0] := (by decide +kernel : ∀ t : Fin grid0.N, _)
theorem e1 : ∀ t : Fin cfg0.N, win0_1.index t = ![(grid0.coords t 0).val, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![(grid0.coords t 1).val, 0] := (by decide +kernel : ∀ t : Fin grid0.N, _)
theorem e5 : ∀ t : Fin cfg0.N, win0_5.index t = ![(grid0.coords t 1).val, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)

theorem h0 (r k : Fin 1024) : iblk m c 0 t (ix3 0 r k) = (m ((c.tc : Thread nD τ).loc main_arg0)) (ix3 ⟨(grid0.coords t 0).val, hb t⟩ ⟨(grid0.coords t 1).val * 1024 + r.val, hT t r⟩ k) := by
  blk_simp [iblk]
  rw [V_main_arg0]
  refine congrArg _ ?_
  blk_ext [e0]
theorem h1 (q : Fin 6) (k : Fin 1024) : iblk m c 1 t (ix3 0 q k) = (m ((c.tc : Thread nD τ).loc main_arg1)) (ix3 ⟨(grid0.coords t 0).val, hb t⟩ q k) := by
  blk_simp [iblk]
  rw [V_main_arg1]
  refine congrArg _ ?_
  blk_ext [e1]
theorem h2 (j : Fin 1024) : iblk m c 2 t (ix2 0 j) = (m ((c.tc : Thread nD τ).loc main_arg4)) (ix2 0 j) := by
  blk_simp [iblk]
  refine (congrArg (V m c main_v10) (?_ : _ = ix2 0 j)).trans (V_v10 m c j)
  blk_ext [e2]
theorem h3 (k : Fin 1024) (j : Fin 2304) : iblk m c 3 t (ix2 k j) = (m ((c.tc : Thread nD τ).loc main_arg5)) (ix3 0 k (perm j)) := by
  blk_simp [iblk]
  refine (congrArg (V m c main_v19) (?_ : _ = ix2 k j)).trans (V_v19 m c k j)
  blk_ext [e3]
theorem h4 (r : Fin 1024) (l : Fin 128) : iblk m c 4 t (ix2 r l)
    = cosT (fun i => (m ((c.tc : Thread nD τ).loc main_arg2)) (ix2 (n0 := 4096) (n1 := 32) ⟨(grid0.coords t 1).val * 1024 + r.val, hT t r⟩ i)) ⟨l.val % 64, Nat.mod_lt _ (by omega)⟩ := by
  blk_simp [iblk]
  refine (congrArg (V m c main_v3) (?_ : _ = ix2 ⟨(grid0.coords t 1).val * 1024 + r.val, hT t r⟩ l)).trans (V_v3 m c _ l)
  blk_ext [e4]
theorem h5 (r : Fin 1024) (l : Fin 128) : iblk m c 5 t (ix2 r l)
    = sinT (fun i => (m ((c.tc : Thread nD τ).loc main_arg3)) (ix2 (n0 := 4096) (n1 := 32) ⟨(grid0.coords t 1).val * 1024 + r.val, hT t r⟩ i)) ⟨l.val % 64, Nat.mod_lt _ (by omega)⟩ := by
  blk_simp [iblk]
  refine (congrArg (V m c main_v8) (?_ : _ = ix2 ⟨(grid0.coords t 1).val * 1024 + r.val, hT t r⟩ l)).trans (V_v8 m c _ l)
  blk_ext [e5]
theorem h6 (l : Fin 128) : iblk m c 6 t (ix2 0 l) = (m ((c.tc : Thread nD τ).loc main_arg6)) (ix2 0 ⟨l.val % 64, Nat.mod_lt _ (by omega)⟩) := by
  blk_simp [iblk]
  refine (congrArg (V m c main_v24) (?_ : _ = ix2 0 l)).trans (V_v24 m c l)
  blk_ext [e6]
theorem h7 (l : Fin 128) : iblk m c 7 t (ix2 0 l) = (m ((c.tc : Thread nD τ).loc main_arg7)) (ix2 0 ⟨l.val % 64, Nat.mod_lt _ (by omega)⟩) := by
  blk_simp [iblk]
  refine (congrArg (V m c main_v29) (?_ : _ = ix2 0 l)).trans (V_v29 m c l)
  blk_ext [e7]

/-- A row's projection, read through the blocks. -/
theorem kp_blk (R : Fin 1024) (j : Fin 2304) :
    kp (iblk m c 0 t) (iblk m c 1 t) (iblk m c 2 t) (iblk m c 3 t) R j
      = projVal (m ((c.tc : Thread nD τ).loc main_arg0)) (m ((c.tc : Thread nD τ).loc main_arg1)) (m ((c.tc : Thread nD τ).loc main_arg4)) (m ((c.tc : Thread nD τ).loc main_arg5)) ⟨(grid0.coords t 0).val, hb t⟩ ⟨(grid0.coords t 1).val * 1024 + R.val, hT t R⟩ (perm j) := by
  unfold kp projVal lin
  simp only [h0, h1, h2, h3]

theorem pair_blk (g : Vec Ideal S1x128 .f32) (gv : S1x64.Idx → EReal)
    (hg : ∀ l : Fin 128, g (ix2 0 l) = gv (ix2 0 ⟨l.val % 64, Nat.mod_lt _ (by omega)⟩))
    (R : Fin 1024) (p : Nat) (hp : p + 128 ≤ 2304) (l : Fin 128) (o : Nat) (ho : o + 64 ≤ 2304)
    (hperm : ∀ d : Fin 64, (perm ⟨p + (64 * (l.val / 64) + d.val), by omega⟩).val = o + d.val) (e : Fin 64) (he : e.val = l.val % 64) :
    pairVal (iblk m c 0 t) (iblk m c 1 t) (iblk m c 2 t) (iblk m c 3 t) (iblk m c 4 t) (iblk m c 5 t) R p hp g l
      = headVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) gv ⟨(grid0.coords t 0).val, hb t⟩ ⟨(grid0.coords t 1).val * 1024 + R.val, hT t R⟩ o ho e := by
  have hm : ∀ d : Fin 64, (⟨(64 * (l.val / 64) + d.val) % 64, Nat.mod_lt _ (by omega)⟩ : Fin 64) = d := fun d =>
    Fin.ext (show (64 * (l.val / 64) + d.val) % 64 = d.val by omega)
  have he' : (⟨l.val % 64, Nat.mod_lt _ (by omega)⟩ : Fin 64) = e := Fin.ext he.symm
  have hp' : ∀ d : Fin 64, perm ⟨p + (64 * (l.val / 64) + d.val), by omega⟩ = ⟨o + d.val, by omega⟩ := fun d => Fin.ext (hperm d)
  unfold pairVal laneHead headVal
  simp only [hg, h4, h5, hm, he', kp_blk, hp']

end Blocks

theorem final8 (c : Dev nD) : (dats m 0 c).arrAt 8 cfg0.N = G8 m c := by
  refine (dats m 0 c).arrAt_eq_of_covers 8 _ (by decide +kernel) fun t hf y => ?_
  blk_simp
  rw [after0_8]
  have ew : ∀ t : Fin cfg0.N, win0_8.index t = ![(grid0.coords t 0).val, (grid0.coords t 1).val, 0] := (by decide +kernel : ∀ t : Fin grid0.N, _)
  refine (out8_at _ _ _ _ _ _ _ _ y).trans ?_
  have hy : ((cfg0.win 8).blk t).view.emb y = ix3 (n0 := 8) (n1 := 4096) (n2 := 512) ⟨(grid0.coords t 0).val, hb t⟩
      ⟨(grid0.coords t 1).val * 1024 + (y 1).val, hT t (y 1)⟩ (y 2) := by
    idx_bounds y
    blk_ext [ew]
  have key : ∀ (r : Fin 1024) (j : Fin 512), b8 (iblk m c 0 t) (iblk m c 1 t) (iblk m c 2 t) (iblk m c 3 t) r j
      = G8 m c (ix3 (n0 := 8) (n1 := 4096) (n2 := 512) ⟨(grid0.coords t 0).val, hb t⟩ ⟨(grid0.coords t 1).val * 1024 + r.val, hT t r⟩ j) := fun r j => by
    unfold b8
    rw [kp_blk]
    have hp : perm ⟨1280 + j.val, by omega⟩ = ⟨j.val, by omega⟩ := Fin.ext (by
      show (if 1280 + j.val < 768 then 1280 + j.val + 1536 else if 1280 + j.val < 1280 then 1280 + j.val + 256 else 1280 + j.val - 1280) = j.val
      have hj := j.isLt
      split_ifs <;> omega)
    rw [hp]
    rfl
  exact (key (y 1) (y 2)).trans (congrArg (G8 m c) hy.symm)

theorem final9 (c : Dev nD) : (dats m 0 c).arrAt 9 cfg0.N = G9 m c := by
  refine (dats m 0 c).arrAt_eq_of_covers 9 _ (by decide +kernel) fun t hf y => ?_
  blk_simp
  rw [after0_9]
  have ew : ∀ t : Fin cfg0.N, win0_9.index t = ![(grid0.coords t 0).val, (grid0.coords t 1).val, 0] := (by decide +kernel : ∀ t : Fin grid0.N, _)
  refine (out9_at _ _ _ _ _ _ _ _ y).trans ?_
  have hy : ((cfg0.win 9).blk t).view.emb y = ix3 (n0 := 8) (n1 := 4096) (n2 := 512) ⟨(grid0.coords t 0).val, hb t⟩
      ⟨(grid0.coords t 1).val * 1024 + (y 1).val, hT t (y 1)⟩ (y 2) := by
    idx_bounds y
    blk_ext [ew]
  have key : ∀ (r : Fin 1024) (j : Fin 512), b9 (iblk m c 0 t) (iblk m c 1 t) (iblk m c 2 t) (iblk m c 3 t) r j
      = G9 m c (ix3 (n0 := 8) (n1 := 4096) (n2 := 512) ⟨(grid0.coords t 0).val, hb t⟩ ⟨(grid0.coords t 1).val * 1024 + r.val, hT t r⟩ j) := fun r j => by
    unfold b9
    rw [kp_blk]
    have hp : perm ⟨1792 + j.val, by omega⟩ = ⟨512 + j.val, by omega⟩ := Fin.ext (by
      show (if 1792 + j.val < 768 then 1792 + j.val + 1536 else if 1792 + j.val < 1280 then 1792 + j.val + 256 else 1792 + j.val - 1280) = 512 + j.val
      have hj := j.isLt
      split_ifs <;> omega)
    rw [hp]
    rfl
  exact (key (y 1) (y 2)).trans (congrArg (G9 m c) hy.symm)

theorem final10 (c : Dev nD) : (dats m 0 c).arrAt 10 cfg0.N = G10 m c := by
  refine (dats m 0 c).arrAt_eq_of_covers 10 _ (by decide +kernel) fun t hf y => ?_
  blk_simp
  rw [after0_10]
  have ew : ∀ t : Fin cfg0.N, win0_10.index t = ![(grid0.coords t 0).val, (grid0.coords t 1).val, 0] := (by decide +kernel : ∀ t : Fin grid0.N, _)
  refine (out10_at _ _ _ _ _ _ _ _ y).trans ?_
  have hy : ((cfg0.win 10).blk t).view.emb y = ix3 (n0 := 8) (n1 := 4096) (n2 := 512) ⟨(grid0.coords t 0).val, hb t⟩
      ⟨(grid0.coords t 1).val * 1024 + (y 1).val, hT t (y 1)⟩ (y 2) := by
    idx_bounds y
    blk_ext [ew]
  have key : ∀ (r : Fin 1024) (j : Fin 512), b10 (iblk m c 0 t) (iblk m c 1 t) (iblk m c 2 t) (iblk m c 3 t) (iblk m c 4 t) (iblk m c 5 t) (iblk m c 6 t) r j
      = G10 m c (ix3 (n0 := 8) (n1 := 4096) (n2 := 512) ⟨(grid0.coords t 0).val, hb t⟩ ⟨(grid0.coords t 1).val * 1024 + r.val, hT t r⟩ j) := fun r j => by
    unfold b10
    have hj := j.isLt
    rw [pair_blk m c t _ (m ((c.tc : Thread nD τ).loc main_arg6)) (h6 m c t) r _ _ _ (1536 + 64 * (j.val / 64)) (by omega) (fun d => by
      show (if (128 * (j.val / 128) + (64 * (j.val % 128 / 64) + d.val)) < 768 then (128 * (j.val / 128) + (64 * (j.val % 128 / 64) + d.val)) + 1536 else if (128 * (j.val / 128) + (64 * (j.val % 128 / 64) + d.val)) < 1280 then (128 * (j.val / 128) + (64 * (j.val % 128 / 64) + d.val)) + 256 else (128 * (j.val / 128) + (64 * (j.val % 128 / 64) + d.val)) - 1280) = _
      have hd := d.isLt
      split_ifs <;> omega) ⟨j.val % 64, Nat.mod_lt _ (by omega)⟩ (by show j.val % 64 = (j.val % 128) % 64; omega)]
    rfl
  exact (key (y 1) (y 2)).trans (congrArg (G10 m c) hy.symm)

theorem final11 (c : Dev nD) : (dats m 0 c).arrAt 11 cfg0.N = G11 m c := by
  refine (dats m 0 c).arrAt_eq_of_covers 11 _ (by decide +kernel) fun t hf y => ?_
  blk_simp
  rw [after0_11]
  have ew : ∀ t : Fin cfg0.N, win0_11.index t = ![(grid0.coords t 0).val, (grid0.coords t 1).val, 0] := (by decide +kernel : ∀ t : Fin grid0.N, _)
  refine (out11_at _ _ _ _ _ _ _ _ y).trans ?_
  have hy : ((cfg0.win 11).blk t).view.emb y = ix3 (n0 := 8) (n1 := 4096) (n2 := 128) ⟨(grid0.coords t 0).val, hb t⟩
      ⟨(grid0.coords t 1).val * 1024 + (y 1).val, hT t (y 1)⟩ (y 2) := by
    idx_bounds y
    blk_ext [ew]
  have key : ∀ (r : Fin 1024) (j : Fin 128), b11 (iblk m c 0 t) (iblk m c 1 t) (iblk m c 2 t) (iblk m c 3 t) (iblk m c 4 t) (iblk m c 5 t) (iblk m c 7 t) r j
      = G11 m c (ix3 (n0 := 8) (n1 := 4096) (n2 := 128) ⟨(grid0.coords t 0).val, hb t⟩ ⟨(grid0.coords t 1).val * 1024 + r.val, hT t r⟩ j) := fun r j => by
    unfold b11
    have hj := j.isLt
    rw [pair_blk m c t _ (m ((c.tc : Thread nD τ).loc main_arg7)) (h7 m c t) r _ _ _ (2048 + 64 * (j.val / 64)) (by omega) (fun d => by
      show (if (512 + (64 * (j.val / 64) + d.val)) < 768 then (512 + (64 * (j.val / 64) + d.val)) + 1536 else if (512 + (64 * (j.val / 64) + d.val)) < 1280 then (512 + (64 * (j.val / 64) + d.val)) + 256 else (512 + (64 * (j.val / 64) + d.val)) - 1280) = _
      have hd := d.isLt
      split_ifs <;> omega) ⟨j.val % 64, Nat.mod_lt _ (by omega)⟩ (by show j.val % 64 = j.val % 64; omega)]
    rfl
  exact (key (y 1) (y 2)).trans (congrArg (G11 m c) hy.symm)

theorem final12 (c : Dev nD) : (dats m 0 c).arrAt 12 cfg0.N = G12 m c := by
  refine (dats m 0 c).arrAt_eq_of_covers 12 _ (by decide +kernel) fun t hf y => ?_
  blk_simp
  rw [after0_12]
  have ew : ∀ t : Fin cfg0.N, win0_12.index t = ![(grid0.coords t 0).val, (grid0.coords t 1).val, 0] := (by decide +kernel : ∀ t : Fin grid0.N, _)
  refine (out12_at _ _ _ _ _ _ _ _ y).trans ?_
  have hy : ((cfg0.win 12).blk t).view.emb y = ix3 (n0 := 8) (n1 := 4096) (n2 := 128) ⟨(grid0.coords t 0).val, hb t⟩
      ⟨(grid0.coords t 1).val * 1024 + (y 1).val, hT t (y 1)⟩ (y 2) := by
    idx_bounds y
    blk_ext [ew]
  have key : ∀ (r : Fin 1024) (j : Fin 128), b12 (iblk m c 0 t) (iblk m c 1 t) (iblk m c 2 t) (iblk m c 3 t) (iblk m c 4 t) (iblk m c 5 t) (iblk m c 7 t) r j
      = G12 m c (ix3 (n0 := 8) (n1 := 4096) (n2 := 128) ⟨(grid0.coords t 0).val, hb t⟩ ⟨(grid0.coords t 1).val * 1024 + r.val, hT t r⟩ j) := fun r j => by
    unfold b12
    have hj := j.isLt
    rw [pair_blk m c t _ (m ((c.tc : Thread nD τ).loc main_arg7)) (h7 m c t) r _ _ _ (2048 + 64 * (1 - j.val / 64)) (by omega) (fun d => by
      show (if (512 + (64 * ((j.val + 64) % 128 / 64) + d.val)) < 768 then (512 + (64 * ((j.val + 64) % 128 / 64) + d.val)) + 1536 else if (512 + (64 * ((j.val + 64) % 128 / 64) + d.val)) < 1280 then (512 + (64 * ((j.val + 64) % 128 / 64) + d.val)) + 256 else (512 + (64 * ((j.val + 64) % 128 / 64) + d.val)) - 1280) = _
      have hd := d.isLt
      split_ifs <;> omega) ⟨j.val % 64, Nat.mod_lt _ (by omega)⟩ (by show j.val % 64 = ((j.val + 64) % 128) % 64; omega)]
    rfl
  exact (key (y 1) (y 2)).trans (congrArg (G12 m c) hy.symm)

theorem final13 (c : Dev nD) : (dats m 0 c).arrAt 13 cfg0.N = G13 m c := by
  refine (dats m 0 c).arrAt_eq_of_covers 13 _ (by decide +kernel) fun t hf y => ?_
  blk_simp
  rw [after0_13]
  have ew : ∀ t : Fin cfg0.N, win0_13.index t = ![(grid0.coords t 0).val, (grid0.coords t 1).val, 0, 0] := (by decide +kernel : ∀ t : Fin grid0.N, _)
  have ht : (grid0.coords t 1).val < 4 := (grid0.coords t 1).isLt
  have hI : ∀ i : Fin 4, (grid0.coords t 1).val * 4 + i.val < 16 := fun i => by omega
  refine (out13_at _ _ _ _ _ _ _ _ y).trans ?_
  have hy : ((cfg0.win 13).blk t).view.emb y = ix4 (n0 := 8) (n1 := 16) (n2 := 640) (n3 := 256) ⟨(grid0.coords t 0).val, hb t⟩
      ⟨(grid0.coords t 1).val * 4 + (y 1).val, hI (y 1)⟩ (y 2) (y 3) := by
    idx_bounds y
    blk_ext [ew]
  have key : ∀ (i : Fin 4) (j : Fin 640) (r : Fin 256), b13 (iblk m c 0 t) (iblk m c 1 t) (iblk m c 2 t) (iblk m c 3 t) i j r
      = G13 m c (ix4 (n0 := 8) (n1 := 16) (n2 := 640) (n3 := 256) ⟨(grid0.coords t 0).val, hb t⟩ ⟨(grid0.coords t 1).val * 4 + i.val, hI i⟩ j r) := fun i j r => by
    unfold b13
    rw [kp_blk]
    have hj := j.isLt
    have hp : perm (if j.val < 512 then ⟨768 + j.val, by omega⟩ else ⟨128 + j.val, by omega⟩)
        = if j.val < 512 then ⟨1024 + j.val, by omega⟩ else ⟨1664 + j.val, by omega⟩ := by
      by_cases h : j.val < 512
      · rw [if_pos h, if_pos h]
        refine Fin.ext ?_
        show (if 768 + j.val < 768 then 768 + j.val + 1536 else if 768 + j.val < 1280 then 768 + j.val + 256 else 768 + j.val - 1280) = 1024 + j.val
        split_ifs <;> omega
      · rw [if_neg h, if_neg h]
        refine Fin.ext ?_
        show (if 128 + j.val < 768 then 128 + j.val + 1536 else if 128 + j.val < 1280 then 128 + j.val + 256 else 128 + j.val - 1280) = 1664 + j.val
        split_ifs <;> omega
    have hr : (⟨(grid0.coords t 1).val * 1024 + (256 * i.val + r.val), hT t ⟨256 * i.val + r.val, by omega⟩⟩ : Fin 4096)
        = ⟨256 * ((grid0.coords t 1).val * 4 + i.val) + r.val, by omega⟩ := Fin.ext (by
      show (grid0.coords t 1).val * 1024 + (256 * i.val + r.val) = 256 * ((grid0.coords t 1).val * 4 + i.val) + r.val
      omega)
    rw [hp, hr]
    rfl
  exact (key (y 1) (y 2) (y 3)).trans (congrArg (G13 m c) hy.symm)

end Cert.InKernel
-- ==== Proof.InRef.lean ====
/- The plain program of the input projections, read at an index: the same six functions. -/
module

public import proofs.«01_k».proof.Proof.Gen.InProjRefIdeal.Read
public import proofs.«01_k».proof.Proof.InRow

@[expose] public section

noncomputable section

namespace Cert.InRef

open Cert.InProjRefIdeal Cert.InProjRefIdeal.Gen Cert.InProjRefIdeal.Read Cert.PostRow Cert.InRow Idealize.ShloMosaic

variable (x0 : (⟨S8x4096x1024, .f32⟩ : BufTy).Contents (Elt Ideal)) (x1 : (⟨S8x6x1024, .f32⟩ : BufTy).Contents (Elt Ideal))
  (x2 x3 : (⟨S4096x32, .f32⟩ : BufTy).Contents (Elt Ideal)) (x4 : (⟨S1x1024, .f32⟩ : BufTy).Contents (Elt Ideal))
  (x5 : (⟨S1x1024x2304, .f32⟩ : BufTy).Contents (Elt Ideal)) (x6 x7 : (⟨S1x64, .f32⟩ : BufTy).Contents (Elt Ideal))
  (b : Fin 8) (t : Fin 4096)

theorem v0_at (d : Fin 1024) : val_main_v0 (F := Ideal) x1 (ix3 b 0 d) = x1 (ix3 b 0 d) := by
  rw [val_main_v0_apply]; refine congrArg x1 (funext fun a => Fin.ext ?_); fin_cases a <;> simp <;> rfl
theorem v1_at (d : Fin 1024) : val_main_v1 (F := Ideal) x1 (ix3 b 0 d) = x1 (ix3 b 1 d) := by
  rw [val_main_v1_apply]; refine congrArg x1 (funext fun a => Fin.ext ?_); fin_cases a <;> simp <;> rfl
theorem v18_at (d : Fin 1024) : val_main_v18 (F := Ideal) x1 (ix3 b t d) = num 0x3F800000#32 + x1 (ix3 b 1 d) := by
  rw [val_main_v18_apply, show idx_main_v18 (ix3 b t d) = ix3 b 0 d from funext fun a => by fin_cases a <;> rfl,
    val_main_v17_apply, v1_at]; rfl
theorem v20_at (d : Fin 1024) : val_main_v20 (F := Ideal) x1 (ix3 b t d) = x1 (ix3 b 0 d) := by
  rw [val_main_v20_apply, show idx_main_v20 (ix3 b t d) = ix3 b 0 d from funext fun a => by fin_cases a <;> rfl, v0_at]

theorem v21_at (d : Fin 1024) : val_main_v21 (F := Ideal) x0 x1 x4 (ix3 b t d)
    = hid (fun k => x0 (ix3 b t k)) (fun k => x4 (ix2 0 k)) (fun k => num 0x3F800000#32 + x1 (ix3 b 1 k)) (fun k => x1 (ix3 b 0 k)) d := by
  rw [val_main_v21_apply, val_main_v19_apply, v18_at, v20_at]
  unfold val_main_v15 val_main_v14 val_main_v13 val_main_v12 val_main_v11 val_main_v10 val_main_v9 val_main_v8 val_main_v7 val_main_v6
    val_main_v5 val_main_v4 val_main_v3 val_main_v2 val_main_cst val_main_cst_0 val_main_cst_1 hid rinv
  simp only [pointwise, zero_add]
  rfl

theorem v23_at (j : Fin 2304) : val_main_v23 (F := Ideal) x0 x1 x4 x5 (ix3 b t j) = projVal x0 x1 x4 x5 b t j := by
  unfold val_main_v23 val_main_v22 projVal lin
  simp only [pointwise, zero_add, v21_at]

theorem v24_at (j : Fin 512) : val_main_v24 (F := Ideal) x0 x1 x4 x5 (ix3 b t j) = projVal x0 x1 x4 x5 b t ⟨j.val, by omega⟩ := by
  rw [val_main_v24_apply, show idx_main_v24 (ix3 b t j) = ix3 b t ⟨j.val, by omega⟩ from funext fun a => Fin.ext (by
    fin_cases a
    · rfl
    · rfl
    · show _ = j.val
      first | rfl | exact Nat.add_comm _ _), v23_at]
theorem v25_at (j : Fin 512) : val_main_v25 (F := Ideal) x0 x1 x4 x5 (ix3 b t j) = projVal x0 x1 x4 x5 b t ⟨512 + j.val, by omega⟩ := by
  rw [val_main_v25_apply, show idx_main_v25 (ix3 b t j) = ix3 b t ⟨512 + j.val, by omega⟩ from funext fun a => Fin.ext (by
    fin_cases a
    · rfl
    · rfl
    · show _ = 512 + j.val
      first | rfl | exact Nat.add_comm _ _), v23_at]
theorem v26_at (j : Fin 512) : val_main_v26 (F := Ideal) x0 x1 x4 x5 (ix3 b t j) = projVal x0 x1 x4 x5 b t ⟨1024 + j.val, by omega⟩ := by
  rw [val_main_v26_apply, show idx_main_v26 (ix3 b t j) = ix3 b t ⟨1024 + j.val, by omega⟩ from funext fun a => Fin.ext (by
    fin_cases a
    · rfl
    · rfl
    · show _ = 1024 + j.val
      first | rfl | exact Nat.add_comm _ _), v23_at]
theorem v27_at (j : Fin 512) : val_main_v27 (F := Ideal) x0 x1 x4 x5 (ix3 b t j) = projVal x0 x1 x4 x5 b t ⟨1536 + j.val, by omega⟩ := by
  rw [val_main_v27_apply, show idx_main_v27 (ix3 b t j) = ix3 b t ⟨1536 + j.val, by omega⟩ from funext fun a => Fin.ext (by
    fin_cases a
    · rfl
    · rfl
    · show _ = 1536 + j.val
      first | rfl | exact Nat.add_comm _ _), v23_at]
theorem v28_at (j : Fin 128) : val_main_v28 (F := Ideal) x0 x1 x4 x5 (ix3 b t j) = projVal x0 x1 x4 x5 b t ⟨2048 + j.val, by omega⟩ := by
  rw [val_main_v28_apply, show idx_main_v28 (ix3 b t j) = ix3 b t ⟨2048 + j.val, by omega⟩ from funext fun a => Fin.ext (by
    fin_cases a
    · rfl
    · rfl
    · show _ = 2048 + j.val
      first | rfl | exact Nat.add_comm _ _), v23_at]
theorem v29_at (j : Fin 128) : val_main_v29 (F := Ideal) x0 x1 x4 x5 (ix3 b t j) = projVal x0 x1 x4 x5 b t ⟨2176 + j.val, by omega⟩ := by
  rw [val_main_v29_apply, show idx_main_v29 (ix3 b t j) = ix3 b t ⟨2176 + j.val, by omega⟩ from funext fun a => Fin.ext (by
    fin_cases a
    · rfl
    · rfl
    · show _ = 2176 + j.val
      first | rfl | exact Nat.add_comm _ _), v23_at]

theorem v31_at (h : Fin 8) (d : Fin 64) : val_main_v31 (F := Ideal) x0 x1 x4 x5 (ix4 b h t d)
    = projVal x0 x1 x4 x5 b t ⟨1536 + 64 * h.val + d.val, by omega⟩ := by
  rw [val_main_v31_apply, val_main_v30_apply, show idx_main_v30 (idx_main_v31 (ix4 b h t d)) = ix3 b t ⟨64 * h.val + d.val, by omega⟩ from
    funext fun a => Fin.ext (by
    have hb := b.isLt
    have ht := t.isLt
    have hh := h.isLt
    have hd := d.isLt
    fin_cases a
    · show (((b.val * 4096 + t.val) * 8 + h.val) * 64 + d.val) / 2097152 = b.val
      omega
    · show (((b.val * 4096 + t.val) * 8 + h.val) * 64 + d.val) / 512 % 4096 = t.val
      omega
    · show (((b.val * 4096 + t.val) * 8 + h.val) * 64 + d.val) % 512 = 64 * h.val + d.val
      omega), v27_at]
  exact congrArg (projVal x0 x1 x4 x5 b t) (Fin.ext (Nat.add_assoc _ _ _).symm)

theorem v45_at (h : Fin 8) (d : Fin 64) : val_main_v45 (F := Ideal) x0 x1 x4 x5 x6 (ix4 b h t d)
    = headNorm (fun d => projVal x0 x1 x4 x5 b t ⟨1536 + 64 * h.val + d.val, by omega⟩) (fun d => x6 (ix2 0 d)) d := by
  have e : (fun d : Fin 64 => projVal x0 x1 x4 x5 b t ⟨1536 + 64 * h.val + d.val, by omega⟩)
      = fun d : Fin 64 => val_main_v31 (F := Ideal) x0 x1 x4 x5 (ix4 b h t d) := funext fun d => (v31_at x0 x1 x4 x5 b t h d).symm
  rw [e]
  unfold val_main_v45 val_main_v44 val_main_v43 val_main_v42 val_main_v41 val_main_v40 val_main_v39 val_main_v38 val_main_v37 val_main_v36
    val_main_v35 val_main_v34 val_main_v33 val_main_v32 val_main_cst_3 val_main_cst_4 val_main_cst_5 headNorm headInv
  generalize val_main_v31 (F := Ideal) x0 x1 x4 x5 = y
  simp only [pointwise, zero_add]
  rfl

theorem v46_at (h : Fin 8) (d : Fin 32) : val_main_v46 (F := Ideal) x0 x1 x4 x5 x6 (ix4 b h t d)
    = headNorm (fun d => projVal x0 x1 x4 x5 b t ⟨1536 + 64 * h.val + d.val, by omega⟩) (fun d => x6 (ix2 0 d)) ⟨d.val, by omega⟩ := by
  rw [val_main_v46_apply, show idx_main_v46 (ix4 b h t d) = ix4 b h t ⟨d.val, by omega⟩ from funext fun a => by fin_cases a <;> rfl, v45_at]
theorem v47_at (h : Fin 8) (d : Fin 32) : val_main_v47 (F := Ideal) x0 x1 x4 x5 x6 (ix4 b h t d)
    = headNorm (fun d => projVal x0 x1 x4 x5 b t ⟨1536 + 64 * h.val + d.val, by omega⟩) (fun d => x6 (ix2 0 d)) ⟨32 + d.val, by omega⟩ := by
  rw [val_main_v47_apply, show idx_main_v47 (ix4 b h t d) = ix4 b h t ⟨32 + d.val, by omega⟩ from funext fun a => Fin.ext (by
    fin_cases a
    · rfl
    · rfl
    · rfl
    · show _ = 32 + d.val
      first | rfl | exact Nat.add_comm _ _), v45_at]

theorem v54_at (h : Fin 8) (d : Fin 32) : val_main_v54 (F := Ideal) x0 x1 x2 x3 x4 x5 x6 (ix4 b h t d)
    = headVal x0 x1 x2 x3 x4 x5 x6 b t (1536 + 64 * h.val) (by omega) ⟨d.val, by omega⟩ := by
  unfold headVal head
  rw [turned_lo]
  unfold val_main_v54 val_main_v53 val_main_v52 val_main_v51 val_main_v50 val_main_v49 val_main_v48
  simp only [pointwise, v46_at, v47_at]
  rfl

theorem v61_at (h : Fin 8) (d : Fin 32) : val_main_v61 (F := Ideal) x0 x1 x2 x3 x4 x5 x6 (ix4 b h t d)
    = headVal x0 x1 x2 x3 x4 x5 x6 b t (1536 + 64 * h.val) (by omega) ⟨32 + d.val, by omega⟩ := by
  unfold headVal head
  rw [turned_hi]
  unfold val_main_v61 val_main_v60 val_main_v59 val_main_v58 val_main_v57 val_main_v56 val_main_v55
  simp only [pointwise, v46_at, v47_at]
  rfl

theorem v62_at (h : Fin 8) (d : Fin 64) : val_main_v62 (F := Ideal) x0 x1 x2 x3 x4 x5 x6 (ix4 b h t d)
    = headVal x0 x1 x2 x3 x4 x5 x6 b t (1536 + 64 * h.val) (by omega) d := by
  have hd := d.isLt
  unfold val_main_v62
  by_cases c : d.val < 32
  · refine (concatenate_pair_apply_left (t := S8x8x4096x64) 3 (val_main_v54 (F := Ideal) x0 x1 x2 x3 x4 x5 x6) (val_main_v61 (F := Ideal) x0 x1 x2 x3 x4 x5 x6) _ (ix4 b h t d) rfl
      (ix4 b h t ⟨d.val, c⟩) fun a => by fin_cases a <;> rfl).trans ?_
    rw [v54_at]
  · refine (concatenate_pair_apply_right (t := S8x8x4096x64) 3 (val_main_v54 (F := Ideal) x0 x1 x2 x3 x4 x5 x6) (val_main_v61 (F := Ideal) x0 x1 x2 x3 x4 x5 x6) _ (ix4 b h t d) rfl rfl
      (ix4 b h t ⟨d.val - 32, by omega⟩) (fun a h => by fin_cases a <;> first | rfl | exact absurd rfl h) (show d.val - 32 + 32 = d.val by omega)).trans ?_
    rw [v61_at]
    exact congrArg (headVal x0 x1 x2 x3 x4 x5 x6 b t (1536 + 64 * h.val) _) (Fin.ext (show 32 + (d.val - 32) = d.val by omega))

theorem v64_at (h : Fin 2) (d : Fin 64) : val_main_v64 (F := Ideal) x0 x1 x4 x5 (ix4 b h t d)
    = projVal x0 x1 x4 x5 b t ⟨2048 + 64 * h.val + d.val, by omega⟩ := by
  rw [val_main_v64_apply, val_main_v63_apply, show idx_main_v63 (idx_main_v64 (ix4 b h t d)) = ix3 b t ⟨64 * h.val + d.val, by omega⟩ from
    funext fun a => Fin.ext (by
    have hb := b.isLt
    have ht := t.isLt
    have hh := h.isLt
    have hd := d.isLt
    fin_cases a
    · show (((b.val * 4096 + t.val) * 2 + h.val) * 64 + d.val) / 524288 = b.val
      omega
    · show (((b.val * 4096 + t.val) * 2 + h.val) * 64 + d.val) / 128 % 4096 = t.val
      omega
    · show (((b.val * 4096 + t.val) * 2 + h.val) * 64 + d.val) % 128 = 64 * h.val + d.val
      omega), v28_at]
  exact congrArg (projVal x0 x1 x4 x5 b t) (Fin.ext (Nat.add_assoc _ _ _).symm)

theorem v78_at (h : Fin 2) (d : Fin 64) : val_main_v78 (F := Ideal) x0 x1 x4 x5 x7 (ix4 b h t d)
    = headNorm (fun d => projVal x0 x1 x4 x5 b t ⟨2048 + 64 * h.val + d.val, by omega⟩) (fun d => x7 (ix2 0 d)) d := by
  have e : (fun d : Fin 64 => projVal x0 x1 x4 x5 b t ⟨2048 + 64 * h.val + d.val, by omega⟩)
      = fun d : Fin 64 => val_main_v64 (F := Ideal) x0 x1 x4 x5 (ix4 b h t d) := funext fun d => (v64_at x0 x1 x4 x5 b t h d).symm
  rw [e]
  unfold val_main_v78 val_main_v77 val_main_v76 val_main_v75 val_main_v74 val_main_v73 val_main_v72 val_main_v71 val_main_v70 val_main_v69
    val_main_v68 val_main_v67 val_main_v66 val_main_v65 val_main_cst_6 val_main_cst_7 val_main_cst_8 headNorm headInv
  generalize val_main_v64 (F := Ideal) x0 x1 x4 x5 = y
  simp only [pointwise, zero_add]
  rfl

theorem v79_at (h : Fin 2) (d : Fin 32) : val_main_v79 (F := Ideal) x0 x1 x4 x5 x7 (ix4 b h t d)
    = headNorm (fun d => projVal x0 x1 x4 x5 b t ⟨2048 + 64 * h.val + d.val, by omega⟩) (fun d => x7 (ix2 0 d)) ⟨d.val, by omega⟩ := by
  rw [val_main_v79_apply, show idx_main_v79 (ix4 b h t d) = ix4 b h t ⟨d.val, by omega⟩ from funext fun a => by fin_cases a <;> rfl, v78_at]
theorem v80_at (h : Fin 2) (d : Fin 32) : val_main_v80 (F := Ideal) x0 x1 x4 x5 x7 (ix4 b h t d)
    = headNorm (fun d => projVal x0 x1 x4 x5 b t ⟨2048 + 64 * h.val + d.val, by omega⟩) (fun d => x7 (ix2 0 d)) ⟨32 + d.val, by omega⟩ := by
  rw [val_main_v80_apply, show idx_main_v80 (ix4 b h t d) = ix4 b h t ⟨32 + d.val, by omega⟩ from funext fun a => Fin.ext (by
    fin_cases a
    · rfl
    · rfl
    · rfl
    · show _ = 32 + d.val
      first | rfl | exact Nat.add_comm _ _), v78_at]

theorem v87_at (h : Fin 2) (d : Fin 32) : val_main_v87 (F := Ideal) x0 x1 x2 x3 x4 x5 x7 (ix4 b h t d)
    = headVal x0 x1 x2 x3 x4 x5 x7 b t (2048 + 64 * h.val) (by omega) ⟨d.val, by omega⟩ := by
  unfold headVal head
  rw [turned_lo]
  unfold val_main_v87 val_main_v86 val_main_v85 val_main_v84 val_main_v83 val_main_v82 val_main_v81
  simp only [pointwise, v79_at, v80_at]
  rfl

theorem v94_at (h : Fin 2) (d : Fin 32) : val_main_v94 (F := Ideal) x0 x1 x2 x3 x4 x5 x7 (ix4 b h t d)
    = headVal x0 x1 x2 x3 x4 x5 x7 b t (2048 + 64 * h.val) (by omega) ⟨32 + d.val, by omega⟩ := by
  unfold headVal head
  rw [turned_hi]
  unfold val_main_v94 val_main_v93 val_main_v92 val_main_v91 val_main_v90 val_main_v89 val_main_v88
  simp only [pointwise, v79_at, v80_at]
  rfl

theorem v95_at (h : Fin 2) (d : Fin 64) : val_main_v95 (F := Ideal) x0 x1 x2 x3 x4 x5 x7 (ix4 b h t d)
    = headVal x0 x1 x2 x3 x4 x5 x7 b t (2048 + 64 * h.val) (by omega) d := by
  have hd := d.isLt
  unfold val_main_v95
  by_cases c : d.val < 32
  · refine (concatenate_pair_apply_left (t := S8x2x4096x64) 3 (val_main_v87 (F := Ideal) x0 x1 x2 x3 x4 x5 x7) (val_main_v94 (F := Ideal) x0 x1 x2 x3 x4 x5 x7) _ (ix4 b h t d) rfl
      (ix4 b h t ⟨d.val, c⟩) fun a => by fin_cases a <;> rfl).trans ?_
    rw [v87_at]
  · refine (concatenate_pair_apply_right (t := S8x2x4096x64) 3 (val_main_v87 (F := Ideal) x0 x1 x2 x3 x4 x5 x7) (val_main_v94 (F := Ideal) x0 x1 x2 x3 x4 x5 x7) _ (ix4 b h t d) rfl rfl
      (ix4 b h t ⟨d.val - 32, by omega⟩) (fun a h => by fin_cases a <;> first | rfl | exact absurd rfl h) (show d.val - 32 + 32 = d.val by omega)).trans ?_
    rw [v94_at]
    exact congrArg (headVal x0 x1 x2 x3 x4 x5 x7 b t (2048 + 64 * h.val) _) (Fin.ext (show 32 + (d.val - 32) = d.val by omega))

/-! ## The results -/

theorem out0_at (j : Fin 512) : val_main_v110 (F := Ideal) x0 x1 x4 x5 (ix3 b t j) = r0 x0 x1 x4 x5 b t j := by
  rw [val_main_v110_apply, val_main_v100_apply, v24_at]
  rfl

theorem out1_at (j : Fin 512) : val_main_v111 (F := Ideal) x0 x1 x4 x5 (ix3 b t j) = r1 x0 x1 x4 x5 b t j := by
  rw [val_main_v111_apply, v25_at]
  rfl

theorem out2_at (j : Fin 512) : val_main_v112 (F := Ideal) x0 x1 x2 x3 x4 x5 x6 (ix3 b t j) = r2 x0 x1 x2 x3 x4 x5 x6 b t j := by
  rw [val_main_v112_apply, val_main_v104_apply, val_main_v102_apply, val_main_v101_apply,
    show idx_main_v101 (idx_main_v102 (ix3 b t j)) = ix4 b ⟨j.val / 64, by omega⟩ t ⟨j.val % 64, Nat.mod_lt _ (by omega)⟩ from
    funext fun a => Fin.ext (by
    have hb := b.isLt
    have ht := t.isLt
    have hj := j.isLt
    fin_cases a
    · show ((b.val * 4096 + t.val) * 512 + j.val) / 2097152 = b.val
      omega
    · show ((b.val * 4096 + t.val) * 512 + j.val) / 64 % 8 = j.val / 64
      omega
    · show ((b.val * 4096 + t.val) * 512 + j.val) / 512 % 4096 = t.val
      omega
    · show ((b.val * 4096 + t.val) * 512 + j.val) % 64 = j.val % 64
      omega), v62_at]
  rfl

theorem out3_at (j : Fin 128) : val_main_v113 (F := Ideal) x0 x1 x2 x3 x4 x5 x7 (ix3 b t j) = r3 x0 x1 x2 x3 x4 x5 x7 b t j := by
  rw [val_main_v113_apply, val_main_v106_apply, val_main_v105_apply,
    show idx_main_v105 (idx_main_v106 (ix3 b t j)) = ix4 b ⟨j.val / 64, by omega⟩ t ⟨j.val % 64, Nat.mod_lt _ (by omega)⟩ from
    funext fun a => Fin.ext (by
    have hb := b.isLt
    have ht := t.isLt
    have hj := j.isLt
    fin_cases a
    · show ((b.val * 4096 + t.val) * 128 + j.val) / 524288 = b.val
      omega
    · show ((b.val * 4096 + t.val) * 128 + j.val) / 64 % 2 = j.val / 64
      omega
    · show ((b.val * 4096 + t.val) * 128 + j.val) / 128 % 4096 = t.val
      omega
    · show ((b.val * 4096 + t.val) * 128 + j.val) % 64 = j.val % 64
      omega), v95_at]
  rfl

theorem v107_at (h : Fin 2) (d : Fin 64) : val_main_v107 (F := Ideal) x0 x1 x2 x3 x4 x5 x7 (ix4 b h t d)
    = val_main_v95 (F := Ideal) x0 x1 x2 x3 x4 x5 x7 (ix4 b ⟨1 - h.val, by omega⟩ t d) := by
  unfold val_main_v107
  generalize val_main_v95 (F := Ideal) x0 x1 x2 x3 x4 x5 x7 = y
  refine congrArg y (funext fun a => Fin.ext ?_)
  have hh := h.isLt
  fin_cases a
  · rfl
  · refine (congrArg Fin.val (if_pos (by decide))).trans ?_
    show 2 - (h.val + 1) = 1 - h.val
    omega
  · rfl
  · rfl

theorem out4_at (j : Fin 128) : val_main_v114 (F := Ideal) x0 x1 x2 x3 x4 x5 x7 (ix3 b t j) = r4 x0 x1 x2 x3 x4 x5 x7 b t j := by
  rw [val_main_v114_apply, val_main_v109_apply, val_main_v108_apply,
    show idx_main_v108 (idx_main_v109 (ix3 b t j)) = ix4 b ⟨j.val / 64, by omega⟩ t ⟨j.val % 64, Nat.mod_lt _ (by omega)⟩ from
    funext fun a => Fin.ext (by
    have hb := b.isLt
    have ht := t.isLt
    have hj := j.isLt
    fin_cases a
    · show ((b.val * 4096 + t.val) * 128 + j.val) / 524288 = b.val
      omega
    · show ((b.val * 4096 + t.val) * 128 + j.val) / 64 % 2 = j.val / 64
      omega
    · show ((b.val * 4096 + t.val) * 128 + j.val) / 128 % 4096 = t.val
      omega
    · show ((b.val * 4096 + t.val) * 128 + j.val) % 64 = j.val % 64
      omega), v107_at, v95_at]
  rfl

theorem v96_at (j : Fin 640) : val_main_v96 (F := Ideal) x0 x1 x4 x5 (ix3 b t j)
    = projVal x0 x1 x4 x5 b t (if j.val < 512 then ⟨1024 + j.val, by omega⟩ else ⟨1664 + j.val, by omega⟩) := by
  have hj := j.isLt
  unfold val_main_v96
  by_cases c : j.val < 512
  · rw [if_pos c]
    refine (concatenate_pair_apply_left (t := S8x4096x640) 2 (val_main_v26 (F := Ideal) x0 x1 x4 x5) (val_main_v29 (F := Ideal) x0 x1 x4 x5) _ (ix3 b t j) rfl
      (ix3 b t ⟨j.val, c⟩) fun a => by fin_cases a <;> rfl).trans ?_
    rw [v26_at]
  · rw [if_neg c]
    refine (concatenate_pair_apply_right (t := S8x4096x640) 2 (val_main_v26 (F := Ideal) x0 x1 x4 x5) (val_main_v29 (F := Ideal) x0 x1 x4 x5) _ (ix3 b t j) rfl rfl
      (ix3 b t ⟨j.val - 512, by omega⟩) (fun a h => by fin_cases a <;> first | rfl | exact absurd rfl h) (show j.val - 512 + 512 = j.val by omega)).trans ?_
    rw [v29_at]
    exact congrArg (projVal x0 x1 x4 x5 b t) (Fin.ext (show 2176 + (j.val - 512) = 1664 + j.val by omega))

theorem out5_at (i : Fin 16) (j : Fin 640) (r : Fin 256) : val_main_v115 (F := Ideal) x0 x1 x4 x5 (ix4 b i j r) = r5 x0 x1 x4 x5 b i j r := by
  rw [val_main_v115_apply, val_main_v98_apply, val_main_v97_apply,
    show idx_main_v97 (idx_main_v98 (ix4 b i j r)) = ix3 b ⟨256 * i.val + r.val, by omega⟩ j from
    funext fun a => Fin.ext (by
    have hb := b.isLt
    have hi := i.isLt
    have hj := j.isLt
    have hr := r.isLt
    fin_cases a
    · show (((b.val * 16 + i.val) * 256 + r.val) * 640 + j.val) / 2621440 = b.val
      omega
    · show (((b.val * 16 + i.val) * 256 + r.val) * 640 + j.val) / 640 % 4096 = 256 * i.val + r.val
      omega
    · show (((b.val * 16 + i.val) * 256 + r.val) * 640 + j.val) % 640 = j.val
      omega), v96_at]
  rfl

end Cert.InRef
-- ==== Proof.InClaim.lean ====
/- The input projections: the kernel and the reference end with the same six arrays, and the reference leaves its arguments
   alone. -/
module

public import proofs.«01_k».proof.Defs
public import proofs.«01_k».proof.Proof.InKernel
public import proofs.«01_k».proof.Proof.InRef
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.InProjRefIdeal
public import proofs.«01_k».proof.Proof.Gen.InProjIdeal

@[expose] public section

noncomputable section

namespace Cert.InClaim

open Idealize.ShloMosaic Idealize.SL.Sem

/-- The reference's frame: its arguments stay as they were; it declares no semaphore. -/
theorem frame_ref : Cert.quiescent_InProjRefIdeal := fun m ρ _ =>
  (θ_run Cert.InProjRefIdeal.defs _ _).mono
    (fun r h => ⟨fun c => (h c).2.2.2.2.2.2, sem_eq_zero_of_no_sems (by decide) r.2⟩)
    (Cert.InProjRefIdeal.Value.run m ρ)

/-- Both runs end with the six arrays of `InKernel`. -/
theorem equal_ref : Cert.algebraic_InProjIdeal_InProjRefIdeal := fun m g m' g' _ ha => by
  refine ⟨InKernel.G8 m, InKernel.G9 m, InKernel.G10 m, InKernel.G11 m, InKernel.G12 m, InKernel.G13 m, ?_, ?_⟩
  · refine (θ_run Cert.InProjIdeal.defs _ _).mono (fun r h c => ?_) (Cert.InProjIdeal.Value.run_blocks m g)
    obtain ⟨q0, q1, q2, q3, q4, q5, hr⟩ := h c
    exact ⟨q0.trans (InKernel.final8 m c), q1.trans (InKernel.final9 m c), q2.trans (InKernel.final10 m c),
      q3.trans (InKernel.final11 m c), q4.trans (InKernel.final12 m c), q5.trans (InKernel.final13 m c), hr⟩
  · refine (θ_run Cert.InProjRefIdeal.defs _ _).mono (fun r h c => ?_) (Cert.InProjRefIdeal.Value.run m' g')
    obtain ⟨q0, q1, q2, q3, q4, q5, hr⟩ := h c
    obtain ⟨h0, h1, h2, h3, h4, h5, h6, h7⟩ := ha c
    refine ⟨q0.trans ?_, q1.trans ?_, q2.trans ?_, q3.trans ?_, q4.trans ?_, q5.trans ?_, hr⟩
    · rw [Cert.InProjRefIdeal.Read.val_main_v110_eq, h0, h1, h4, h5]
      funext y
      have key : ∀ (b : Fin 8) (t : Fin 4096) (d : Fin 512), _ = InKernel.G8 m c (ix3 b t d) := fun b t d => InRef.out0_at _ _ _ _ b t d
      rw [eq_ix3 y]
      exact key (y 0) (y 1) (y 2)
    · rw [Cert.InProjRefIdeal.Read.val_main_v111_eq, h0, h1, h4, h5]
      funext y
      have key : ∀ (b : Fin 8) (t : Fin 4096) (d : Fin 512), _ = InKernel.G9 m c (ix3 b t d) := fun b t d => InRef.out1_at _ _ _ _ b t d
      rw [eq_ix3 y]
      exact key (y 0) (y 1) (y 2)
    · rw [Cert.InProjRefIdeal.Read.val_main_v112_eq, h0, h1, h2, h3, h4, h5, h6]
      funext y
      have key : ∀ (b : Fin 8) (t : Fin 4096) (d : Fin 512), _ = InKernel.G10 m c (ix3 b t d) := fun b t d => InRef.out2_at _ _ _ _ _ _ _ b t d
      rw [eq_ix3 y]
      exact key (y 0) (y 1) (y 2)
    · rw [Cert.InProjRefIdeal.Read.val_main_v113_eq, h0, h1, h2, h3, h4, h5, h7]
      funext y
      have key : ∀ (b : Fin 8) (t : Fin 4096) (d : Fin 128), _ = InKernel.G11 m c (ix3 b t d) := fun b t d => InRef.out3_at _ _ _ _ _ _ _ b t d
      rw [eq_ix3 y]
      exact key (y 0) (y 1) (y 2)
    · rw [Cert.InProjRefIdeal.Read.val_main_v114_eq, h0, h1, h2, h3, h4, h5, h7]
      funext y
      have key : ∀ (b : Fin 8) (t : Fin 4096) (d : Fin 128), _ = InKernel.G12 m c (ix3 b t d) := fun b t d => InRef.out4_at _ _ _ _ _ _ _ b t d
      rw [eq_ix3 y]
      exact key (y 0) (y 1) (y 2)
    · rw [Cert.InProjRefIdeal.Read.val_main_v115_eq, h0, h1, h4, h5]
      funext y
      have key : ∀ (b : Fin 8) (i : Fin 16) (j : Fin 640) (q : Fin 256), _ = InKernel.G13 m c (ix4 b i j q) := fun b i j q => InRef.out5_at _ _ _ _ b i j q
      rw [eq_ix4 y]
      exact key (y 0) (y 1) (y 2) (y 3)

end Cert.InClaim

end
-- ==== Proof.AdaKernel.lean ====
/- The modulation matrix product: the array its kernel leaves, index by index over its arguments. -/
module

public import proofs.«01_k».proof.Proof.Gen.AdaIdeal.Value
public import proofs.«01_k».proof.Proof.PostRow
public import Idealize.ShloMosaic.Lib.Pipeline.ValueKit

@[expose] public section

noncomputable section

namespace Cert.AdaKernel

open Cert.AdaIdeal Cert.AdaIdeal.Gen Cert.PostRow Idealize.ShloMosaic Idealize.ShloMosaic.TcCoe Idealize.SL.Sem
open Idealize.ShloMosaic.Pipeline (Dat)

/-- The smooth gate of the row `x`, times the column of weights, plus the bias. -/
def adaVal (x w : Fin 1024 → EReal) (bias : EReal) : EReal := (∑ k : Fin 1024, gated (x k) 1 * w k) + bias

theorem gated_one (g : EReal) : gated g 1 = Ideal.div g (num 0x3F800000#32 + Ideal.exp (num 0x00000000#32 - g)) := mul_one _

theorem out_at (x0 : Vec Ideal S8x1024 .f32) (x1 : Vec Ideal S1024x1024 .f32) (x2 : Vec Ideal S1x1024 .f32) (b : Fin 8) (j : Fin 1024) :
    out0_3 x0 x1 x2 (ix2 b j) = adaVal (fun k => x0 (ix2 b k)) (fun k => x1 (ix2 k j)) (x2 (ix2 0 j)) := by
  have key : ∀ (b : Fin 8) (j : Fin 1024), k0_pay1 (View.ld x0 r0_0) (View.ld x1 r0_1) (View.ld x2 r0_2) (ix2 b j)
      = adaVal (fun k => x0 (ix2 b k)) (fun k => x1 (ix2 k j)) (x2 (ix2 0 j)) := fun b j => by
    have h0 : View.ld x0 r0_0 = x0 := funext fun y => congrArg x0 (funext fun a => Fin.ext (by
      fin_cases a <;> exact (Rect.idx_unit_val _ _ _ y _).trans (Nat.zero_add _)))
    have h1 : View.ld x1 r0_1 = x1 := funext fun y => congrArg x1 (funext fun a => Fin.ext (by
      fin_cases a <;> exact (Rect.idx_unit_val _ _ _ y _).trans (Nat.zero_add _)))
    have h2 : View.ld x2 r0_2 = x2 := funext fun y => congrArg x2 (funext fun a => Fin.ext (by
      fin_cases a <;> exact (Rect.idx_unit_val _ _ _ y _).trans (Nat.zero_add _)))
    rw [h0, h1, h2]
    unfold k0_pay1 adaVal
    simp only [pointwise, zero_add, gated_one]
    rfl
  unfold out0_3
  refine View.canon_apply_of_pieces (Val := Elt Ideal) (e := .f32) (S := S8x1024)
    (fun y => adaVal (fun k => x0 (ix2 (y 0) k)) (fun k => x1 (ix2 k (y 1))) (x2 (ix2 0 (y 1)))) _ ?_ (ix2 b j) (cover0_3 _ _)
  intro p hp x
  simp only [List.mem_cons, List.not_mem_nil, or_false] at hp
  subst hp
  have hx : (r0_0 : Rect S8x1024).emb x = x := by
    funext a; refine Fin.ext ?_; fin_cases a
    · exact (Rect.idx_unit_val _ _ _ x 0).trans (Nat.zero_add _)
    · exact (Rect.idx_unit_val _ _ _ x 1).trans (Nat.zero_add _)
  have h := key (x 0) (x 1)
  rw [← eq_ix2 x] at h
  exact h.trans (by rw [hx])

variable (m : (ℓ : Loc nD τ sig) → Buf (Elt Ideal) ℓ)

/-- The result array. -/
def G (c : Dev nD) : Buf (Elt Ideal) ((c.tc : Thread nD τ).loc main_v3) := fun y =>
  adaVal (fun k => m ((c.tc : Thread nD τ).loc main_arg0) (ix2 (n0 := 8) (n1 := 1024) (y 0) k))
    (fun k => m ((c.tc : Thread nD τ).loc main_arg1) (ix3 (n0 := 1) (n1 := 1024) (n2 := 6144) 0 k (y 1)))
    (m ((c.tc : Thread nD τ).loc main_arg2) (ix2 (n0 := 1) (n1 := 6144) 0 (y 1)))

theorem V_v0 (c : Dev nD) (i : Fin 1024) (j : Fin 6144) :
    (V m c main_v0 : S1024x6144.Idx → EReal) (ix2 i j) = m ((c.tc : Thread nD τ).loc main_arg1) (ix3 0 i j) := by
  dsimp only [V, hostOps0]; after_results; simp only [pointwise]
theorem V_v2 (c : Dev nD) (j : Fin 6144) :
    (V m c main_v2 : S1x6144.Idx → EReal) (ix2 0 j) = m ((c.tc : Thread nD τ).loc main_arg2) (ix2 0 j) := by
  dsimp only [V, hostOps0]; after_results; simp only [pointwise]

theorem final (c : Dev nD) : (dats m 0 c).arrAt 3 cfg0.N = G m c := by
  refine (dats m 0 c).arrAt_eq_of_covers 3 _ (by decide +kernel) fun t hf y => ?_
  blk_simp
  rw [after0_3]
  have e0 : ∀ t : Fin cfg0.N, win0_0.index t = ![0, 0] := (by decide +kernel : ∀ t : Fin grid0.N, _)
  have e1 : ∀ t : Fin cfg0.N, win0_1.index t = ![0, (grid0.coords t 0).val] := (by decide +kernel : ∀ t : Fin grid0.N, _)
  have e2 : ∀ t : Fin cfg0.N, win0_2.index t = ![0, (grid0.coords t 0).val] := (by decide +kernel : ∀ t : Fin grid0.N, _)
  have e3 : ∀ t : Fin cfg0.N, win0_3.index t = ![0, (grid0.coords t 0).val] := (by decide +kernel : ∀ t : Fin grid0.N, _)
  have hb : (grid0.coords t 0).val < 6 := (grid0.coords t 0).isLt
  have hT : ∀ r : Fin 1024, (grid0.coords t 0).val * 1024 + r.val < 6144 := fun r => by omega
  have h0 : ∀ (b : Fin 8) (k : Fin 1024), iblk m c 0 t (ix2 b k) = m ((c.tc : Thread nD τ).loc main_arg0) (ix2 b k) := fun b k => by
    blk_simp [iblk]
    rw [V_main_arg0]
    refine congrArg _ ?_
    blk_ext [e0]
  have h1 : ∀ (i j : Fin 1024), iblk m c 1 t (ix2 i j) = m ((c.tc : Thread nD τ).loc main_arg1)
      (ix3 0 i ⟨(grid0.coords t 0).val * 1024 + j.val, hT j⟩) := fun i j => by
    blk_simp [iblk]
    refine (congrArg (V m c main_v0) (?_ : _ = ix2 i ⟨(grid0.coords t 0).val * 1024 + j.val, hT j⟩)).trans (V_v0 m c _ _)
    blk_ext [e1]
  have h2 : ∀ (j : Fin 1024), iblk m c 2 t (ix2 0 j) = m ((c.tc : Thread nD τ).loc main_arg2)
      (ix2 0 ⟨(grid0.coords t 0).val * 1024 + j.val, hT j⟩) := fun j => by
    blk_simp [iblk]
    refine (congrArg (V m c main_v2) (?_ : _ = ix2 0 ⟨(grid0.coords t 0).val * 1024 + j.val, hT j⟩)).trans (V_v2 m c _)
    blk_ext [e2]
  have hy : ((cfg0.win 3).blk t).view.emb y = ix2 (n0 := 8) (n1 := 6144) (y 0) ⟨(grid0.coords t 0).val * 1024 + (y 1).val, hT (y 1)⟩ := by
    idx_bounds y
    blk_ext [e3]
  have key : ∀ (b : Fin 8) (d : Fin 1024), out0_3 (iblk m c 0 t) (iblk m c 1 t) (iblk m c 2 t) (ix2 b d)
      = G m c (ix2 (n0 := 8) (n1 := 6144) b ⟨(grid0.coords t 0).val * 1024 + d.val, hT d⟩) := fun b d => by
    refine (out_at _ _ _ b d).trans ?_
    simp only [h0, h1, h2]
    rfl
  have hy2 : y = ix2 (n0 := 8) (n1 := 1024) (y 0) (y 1) := eq_ix2 y
  exact (congrArg (out0_3 (iblk m c 0 t) (iblk m c 1 t) (iblk m c 2 t)) hy2).trans ((key (y 0) (y 1)).trans (congrArg (G m c) hy.symm))

end Cert.AdaKernel
-- ==== Proof.AdaClaim.lean ====
/- The modulation: the kernel and the reference end with the same array, and the reference leaves its arguments alone. -/
module

public import proofs.«01_k».proof.Defs
public import proofs.«01_k».proof.Proof.AdaKernel
public import proofs.«01_k».proof.Proof.PostRef
public import proofs.«01_k».proof.Proof.Gen.AdaRefIdeal.Run
public import proofs.«01_k».proof.Proof.Gen.AdaRefIdeal.Read
public import proofs.«01_k».proof.Proof.Gen.AdaRefIdeal
public import proofs.«01_k».proof.Proof.Gen.AdaIdeal

@[expose] public section

noncomputable section

namespace Cert.AdaClaim

open Idealize.ShloMosaic Idealize.SL.Sem

section Ref

open Cert.AdaRefIdeal Cert.AdaRefIdeal.Gen Cert.AdaRefIdeal.Read Cert.PostRow

variable (x0 : (⟨S8x1024, .f32⟩ : BufTy).Contents (Elt Ideal)) (x1 : (⟨S1x1024x6144, .f32⟩ : BufTy).Contents (Elt Ideal))
  (x2 : (⟨S1x6144, .f32⟩ : BufTy).Contents (Elt Ideal))

theorem v0_at (b : Fin 8) (k : Fin 1024) : val_main_v0 (F := Ideal) x0 (ix2 b k) = gated (x0 (ix2 b k)) 1 := by
  rw [← PostRef.gate_eq, mul_one]
  unfold val_main_v0 val_main_call0_v5 val_main_call0_v4 val_main_call0_v3 val_main_call0_v2 val_main_call0_v1 val_main_call0_v0
    val_main_call0_cst val_main_call0_cst_0
  simp only [pointwise]

theorem v6_at (b : Fin 8) (j : Fin 6144) : val_main_v6 (F := Ideal) x0 x1 x2 (ix2 b j)
    = AdaKernel.adaVal (fun k => x0 (ix2 b k)) (fun k => x1 (ix3 0 k j)) (x2 (ix2 0 j)) := by
  unfold val_main_v6 val_main_v2 val_main_v5 val_main_v4 val_main_v3 val_main_v1 AdaKernel.adaVal
  simp only [pointwise, zero_add, v0_at]
  rfl

end Ref

/-- The reference's frame: its arguments stay as they were; it declares no semaphore. -/
theorem frame_ref : Cert.quiescent_AdaRefIdeal := fun m ρ _ =>
  (θ_run Cert.AdaRefIdeal.defs _ _).mono
    (fun r h => ⟨fun c => (h c).2, sem_eq_zero_of_no_sems (by decide) r.2⟩)
    (Cert.AdaRefIdeal.Value.run m ρ)

/-- Both runs end with `AdaKernel.G`. -/
theorem equal_ref : Cert.algebraic_AdaIdeal_AdaRefIdeal := fun m g m' g' _ ha => by
  refine ⟨fun c => AdaKernel.G m c, ?_, ?_⟩
  · exact (θ_run Cert.AdaIdeal.defs _ _).mono
      (fun r h c => ⟨(h c).1.trans (AdaKernel.final m c), (h c).2⟩) (Cert.AdaIdeal.Value.run_blocks m g)
  · refine (θ_run Cert.AdaRefIdeal.defs _ _).mono (fun r h c => ⟨(h c).1.trans ?_, (h c).2⟩)
      (Cert.AdaRefIdeal.Value.run m' g')
    obtain ⟨h0, h1, h2⟩ := ha c
    rw [Cert.AdaRefIdeal.Read.val_main_v6_eq, h0, h1, h2]
    funext y
    have key : ∀ (b : Fin 8) (d : Fin 6144), _ = AdaKernel.G m c (ix2 b d) := fun b d => v6_at _ _ _ b d
    rw [eq_ix2 y]
    exact key (y 0) (y 1)

end Cert.AdaClaim

end
-- ==== Proof.lean ====
/- The certificate's claim, put together from its parts. -/
module

public import proofs.«01_k».proof.Defs
public import proofs.«01_k».proof.Proof.AttnFrame
public import proofs.«01_k».proof.Proof.AttnClaim
public import proofs.«01_k».proof.Proof.PostClaim
public import proofs.«01_k».proof.Proof.InClaim
public import proofs.«01_k».proof.Proof.AdaClaim
public import proofs.«01_k».proof.Proof.Gen.Kernel.Frame
public import proofs.«01_k».proof.Proof.Gen.KernelIdeal.Frame
public import proofs.«01_k».proof.Proof.Gen.Post.Frame
public import proofs.«01_k».proof.Proof.Gen.PostIdeal.Frame
public import proofs.«01_k».proof.Proof.Gen.InProj.Frame
public import proofs.«01_k».proof.Proof.Gen.InProjIdeal.Frame
public import proofs.«01_k».proof.Proof.Gen.Ada.Frame
public import proofs.«01_k».proof.Proof.Gen.AdaIdeal.Frame

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Post.Gen.facts,
    Cert.PostIdeal.Gen.facts, Cert.PostRefIdeal.Gen.facts, Cert.InProj.Gen.facts, Cert.InProjIdeal.Gen.facts,
    Cert.InProjRefIdeal.Gen.facts, Cert.Ada.Gen.facts, Cert.AdaIdeal.Gen.facts, Cert.AdaRefIdeal.Gen.facts,
    Cert.Pre_finite_qk.Gen.facts,
    fun m ρ _ => Cert.Kernel.Gen.frame m ρ, fun m ρ _ => Cert.KernelIdeal.Gen.frame m ρ,
    fun m ρ _ => Cert.KernelIdeal.Gen.frame m ρ, Cert.AttnFrame.frame_ref, fun m ρ _ => Cert.AttnFrame.frame_ref m ρ trivial,
    fun m ρ _ => Cert.Post.Gen.frame m ρ, fun m ρ _ => Cert.PostIdeal.Gen.frame m ρ, Cert.PostClaim.frame_ref,
    fun m ρ _ => Cert.InProj.Gen.frame m ρ, fun m ρ _ => Cert.InProjIdeal.Gen.frame m ρ, Cert.InClaim.frame_ref,
    fun m ρ _ => Cert.Ada.Gen.frame m ρ, fun m ρ _ => Cert.AdaIdeal.Gen.frame m ρ, Cert.AdaClaim.frame_ref,
    IdealRules.named_const.statement Cert.KernelIdeal.κ "s" .f32 0x3E38AA3B#32 _ rfl,
    Cert.AttnClaim.equal_ref, trivial, Cert.PostClaim.equal_ref, trivial, Cert.InClaim.equal_ref, trivial,
    Cert.AdaClaim.equal_ref⟩

end Cert.Proof

end
